-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S32x128x128 : Shape := ⟨3, ![32, 128, 128]⟩
abbrev S2x512x2048 : Shape := ⟨3, ![2, 512, 2048]⟩
abbrev S32x8x128 : Shape := ⟨3, ![32, 8, 128]⟩
abbrev S2 : Shape := ⟨1, ![2]⟩
abbrev S32 : Shape := ⟨1, ![32]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x128x128 : Shape := ⟨3, ![1, 128, 128]⟩
abbrev S128x128 : Shape := ⟨2, ![128, 128]⟩
abbrev S128x512 : Shape := ⟨2, ![128, 512]⟩
abbrev S1x128x2048 : Shape := ⟨3, ![1, 128, 2048]⟩
abbrev S1x1x1 : Shape := ⟨3, ![1, 1, 1]⟩
abbrev S8x128 : Shape := ⟨2, ![8, 128]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .bf16⟩
  | .local _ .vmem, ⟨3, _⟩ => ⟨S32x128x128, .bf16⟩
  | .local _ .vmem, ⟨4, _⟩ => ⟨S2x512x2048, .f32⟩
  | .local _ .vmem, ⟨5, _⟩ => ⟨S32x8x128, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let v20 : BitVec 32 := Scalar.addi v2 c1_i32_13
  let c32_i32_14 : BitVec 32 := 32#32
  let c0_i32_15 : BitVec 32 := 0#32
  let v21 : BitVec 1 := Scalar.cmpi .eq c32_i32_14 c0_i32_15
  let c1_i32_16 : BitVec 32 := 1#32
  let v22 : BitVec 32 := Scalar.select v21 c1_i32_16 c32_i32_14
  let v23 : BitVec 32 := Scalar.remsi v20 v22
  let c0_i32_18 : BitVec 32 := 0#32
  let v25 : BitVec 1 := Scalar.cmpi .slt v23 c0_i32_18
  let c0_i32_19 : BitVec 32 := 0#32
  let v26 : BitVec 1 := Scalar.cmpi .slt v22 c0_i32_19
  let v27 : BitVec 1 := Scalar.xori v25 v26
  let c0_i32_17 : BitVec 32 := 0#32
  let v24 : BitVec 1 := Scalar.cmpi .ne v23 c0_i32_17
  let v28 : BitVec 1 := Scalar.andi v27 v24
  let v29 : BitVec 32 := Scalar.addi v23 v22
  let v30 : BitVec 32 := Scalar.select v28 v29 v23
  let c1_i32_21 : BitVec 32 := 1#32
  let v31 : BitVec 32 := Scalar.muli v30 c1_i32_21
  let v32 : BitVec 32 := Scalar.addi c0_i32_22 v31
  v32.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v33 : BitVec 32 := Scalar.addi v2 c2_i32
  let c32_i32_23 : BitVec 32 := 32#32
  let c0_i32_24 : BitVec 32 := 0#32
  let v34 : BitVec 1 := Scalar.cmpi .eq c32_i32_23 c0_i32_24
  let c1_i32_25 : BitVec 32 := 1#32
  let v35 : BitVec 32 := Scalar.select v34 c1_i32_25 c32_i32_23
  let v36 : BitVec 32 := Scalar.remsi v33 v35
  let c0_i32_27 : BitVec 32 := 0#32
  let v38 : BitVec 1 := Scalar.cmpi .slt v36 c0_i32_27
  let c0_i32_28 : BitVec 32 := 0#32
  let v39 : BitVec 1 := Scalar.cmpi .slt v35 c0_i32_28
  let v40 : BitVec 1 := Scalar.xori v38 v39
  let c0_i32_26 : BitVec 32 := 0#32
  let v37 : BitVec 1 := Scalar.cmpi .ne v36 c0_i32_26
  let v41 : BitVec 1 := Scalar.andi v40 v37
  let v42 : BitVec 32 := Scalar.addi v36 v35
  let v43 : BitVec 32 := Scalar.select v41 v42 v36
  let c1_i32_30 : BitVec 32 := 1#32
  let v44 : BitVec 32 := Scalar.muli v43 c1_i32_30
  let v45 : BitVec 32 := Scalar.addi c0_i32_31 v44
  v45.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v46 : BitVec 32 := Scalar.addi v2 c3_i32
  let c32_i32_32 : BitVec 32 := 32#32
  let c0_i32_33 : BitVec 32 := 0#32
  let v47 : BitVec 1 := Scalar.cmpi .eq c32_i32_32 c0_i32_33
  let c1_i32_34 : BitVec 32 := 1#32
  let v48 : BitVec 32 := Scalar.select v47 c1_i32_34 c32_i32_32
  let v49 : BitVec 32 := Scalar.remsi v46 v48
  let c0_i32_36 : BitVec 32 := 0#32
  let v51 : BitVec 1 := Scalar.cmpi .slt v49 c0_i32_36
  let c0_i32_37 : BitVec 32 := 0#32
  let v52 : BitVec 1 := Scalar.cmpi .slt v48 c0_i32_37
  let v53 : BitVec 1 := Scalar.xori v51 v52
  let c0_i32_35 : BitVec 32 := 0#32
  let v50 : BitVec 1 := Scalar.cmpi .ne v49 c0_i32_35
  let v54 : BitVec 1 := Scalar.andi v53 v50
  let v55 : BitVec 32 := Scalar.addi v49 v48
  let v56 : BitVec 32 := Scalar.select v54 v55 v49
  let c1_i32_39 : BitVec 32 := 1#32
  let v57 : BitVec 32 := Scalar.muli v56 c1_i32_39
  let v58 : BitVec 32 := Scalar.addi c0_i32_40 v57
  v58.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v59 : BitVec 32 := Scalar.addi v2 c4_i32
  let c32_i32_41 : BitVec 32 := 32#32
  let c0_i32_42 : BitVec 32 := 0#32
  let v60 : BitVec 1 := Scalar.cmpi .eq c32_i32_41 c0_i32_42
  let c1_i32_43 : BitVec 32 := 1#32
  let v61 : BitVec 32 := Scalar.select v60 c1_i32_43 c32_i32_41
  let v62 : BitVec 32 := Scalar.remsi v59 v61
  let c0_i32_45 : BitVec 32 := 0#32
  let v64 : BitVec 1 := Scalar.cmpi .slt v62 c0_i32_45
  let c0_i32_46 : BitVec 32 := 0#32
  let v65 : BitVec 1 := Scalar.cmpi .slt v61 c0_i32_46
  let v66 : BitVec 1 := Scalar.xori v64 v65
  let c0_i32_44 : BitVec 32 := 0#32
  let v63 : BitVec 1 := Scalar.cmpi .ne v62 c0_i32_44
  let v67 : BitVec 1 := Scalar.andi v66 v63
  let v68 : BitVec 32 := Scalar.addi v62 v61
  let v69 : BitVec 32 := Scalar.select v67 v68 v62
  let c1_i32_48 : BitVec 32 := 1#32
  let v70 : BitVec 32 := Scalar.muli v69 c1_i32_48
  let v71 : BitVec 32 := Scalar.addi c0_i32_49 v70
  v71.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v72 : BitVec 32 := Scalar.addi v2 c5_i32
  let c32_i32_50 : BitVec 32 := 32#32
  let c0_i32_51 : BitVec 32 := 0#32
  let v73 : BitVec 1 := Scalar.cmpi .eq c32_i32_50 c0_i32_51
  let c1_i32_52 : BitVec 32 := 1#32
  let v74 : BitVec 32 := Scalar.select v73 c1_i32_52 c32_i32_50
  let v75 : BitVec 32 := Scalar.remsi v72 v74
  let c0_i32_54 : BitVec 32 := 0#32
  let v77 : BitVec 1 := Scalar.cmpi .slt v75 c0_i32_54
  let c0_i32_55 : BitVec 32 := 0#32
  let v78 : BitVec 1 := Scalar.cmpi .slt v74 c0_i32_55
  let v79 : BitVec 1 := Scalar.xori v77 v78
  let c0_i32_53 : BitVec 32 := 0#32
  let v76 : BitVec 1 := Scalar.cmpi .ne v75 c0_i32_53
  let v80 : BitVec 1 := Scalar.andi v79 v76
  let v81 : BitVec 32 := Scalar.addi v75 v74
  let v82 : BitVec 32 := Scalar.select v80 v81 v75
  let c1_i32_57 : BitVec 32 := 1#32
  let v83 : BitVec 32 := Scalar.muli v82 c1_i32_57
  let v84 : BitVec 32 := Scalar.addi c0_i32_58 v83
  v84.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v85 : BitVec 32 := Scalar.addi v2 c6_i32
  let c32_i32_59 : BitVec 32 := 32#32
  let c0_i32_60 : BitVec 32 := 0#32
  let v86 : BitVec 1 := Scalar.cmpi .eq c32_i32_59 c0_i32_60
  let c1_i32_61 : BitVec 32 := 1#32
  let v87 : BitVec 32 := Scalar.select v86 c1_i32_61 c32_i32_59
  let v88 : BitVec 32 := Scalar.remsi v85 v87
  let c0_i32_63 : BitVec 32 := 0#32
  let v90 : BitVec 1 := Scalar.cmpi .slt v88 c0_i32_63
  let c0_i32_64 : BitVec 32 := 0#32
  let v91 : BitVec 1 := Scalar.cmpi .slt v87 c0_i32_64
  let v92 : BitVec 1 := Scalar.xori v90 v91
  let c0_i32_62 : BitVec 32 := 0#32
  let v89 : BitVec 1 := Scalar.cmpi .ne v88 c0_i32_62
  let v93 : BitVec 1 := Scalar.andi v92 v89
  let v94 : BitVec 32 := Scalar.addi v88 v87
  let v95 : BitVec 32 := Scalar.select v93 v94 v88
  let c1_i32_66 : BitVec 32 := 1#32
  let v96 : BitVec 32 := Scalar.muli v95 c1_i32_66
  let v97 : BitVec 32 := Scalar.addi c0_i32_67 v96
  v97.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v98 : BitVec 32 := Scalar.addi v2 c7_i32
  let c32_i32_68 : BitVec 32 := 32#32
  let c0_i32_69 : BitVec 32 := 0#32
  let v99 : BitVec 1 := Scalar.cmpi .eq c32_i32_68 c0_i32_69
  let c1_i32_70 : BitVec 32 := 1#32
  let v100 : BitVec 32 := Scalar.select v99 c1_i32_70 c32_i32_68
  let v101 : BitVec 32 := Scalar.remsi v98 v100
  let c0_i32_72 : BitVec 32 := 0#32
  let v103 : BitVec 1 := Scalar.cmpi .slt v101 c0_i32_72
  let c0_i32_73 : BitVec 32 := 0#32
  let v104 : BitVec 1 := Scalar.cmpi .slt v100 c0_i32_73
  let v105 : BitVec 1 := Scalar.xori v103 v104
  let c0_i32_71 : BitVec 32 := 0#32
  let v102 : BitVec 1 := Scalar.cmpi .ne v101 c0_i32_71
  let v106 : BitVec 1 := Scalar.andi v105 v102
  let v107 : BitVec 32 := Scalar.addi v101 v100
  let v108 : BitVec 32 := Scalar.select v106 v107 v101
  let c1_i32_75 : BitVec 32 := 1#32
  let v109 : BitVec 32 := Scalar.muli v108 c1_i32_75
  let v110 : BitVec 32 := Scalar.addi c0_i32_76 v109
  v110.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v111 : BitVec 32 := Scalar.addi v2 c8_i32
  let c32_i32_77 : BitVec 32 := 32#32
  let c0_i32_78 : BitVec 32 := 0#32
  let v112 : BitVec 1 := Scalar.cmpi .eq c32_i32_77 c0_i32_78
  let c1_i32_79 : BitVec 32 := 1#32
  let v113 : BitVec 32 := Scalar.select v112 c1_i32_79 c32_i32_77
  let v114 : BitVec 32 := Scalar.remsi v111 v113
  let c0_i32_81 : BitVec 32 := 0#32
  let v116 : BitVec 1 := Scalar.cmpi .slt v114 c0_i32_81
  let c0_i32_82 : BitVec 32 := 0#32
  let v117 : BitVec 1 := Scalar.cmpi .slt v113 c0_i32_82
  let v118 : BitVec 1 := Scalar.xori v116 v117
  let c0_i32_80 : BitVec 32 := 0#32
  let v115 : BitVec 1 := Scalar.cmpi .ne v114 c0_i32_80
  let v119 : BitVec 1 := Scalar.andi v118 v115
  let v120 : BitVec 32 := Scalar.addi v114 v113
  let v121 : BitVec 32 := Scalar.select v119 v120 v114
  let c1_i32_84 : BitVec 32 := 1#32
  let v122 : BitVec 32 := Scalar.muli v121 c1_i32_84
  let v123 : BitVec 32 := Scalar.addi c0_i32_85 v122
  v123.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v124 : BitVec 32 := Scalar.addi v2 c9_i32
  let c32_i32_86 : BitVec 32 := 32#32
  let c0_i32_87 : BitVec 32 := 0#32
  let v125 : BitVec 1 := Scalar.cmpi .eq c32_i32_86 c0_i32_87
  let c1_i32_88 : BitVec 32 := 1#32
  let v126 : BitVec 32 := Scalar.select v125 c1_i32_88 c32_i32_86
  let v127 : BitVec 32 := Scalar.remsi v124 v126
  let c0_i32_90 : BitVec 32 := 0#32
  let v129 : BitVec 1 := Scalar.cmpi .slt v127 c0_i32_90
  let c0_i32_91 : BitVec 32 := 0#32
  let v130 : BitVec 1 := Scalar.cmpi .slt v126 c0_i32_91
  let v131 : BitVec 1 := Scalar.xori v129 v130
  let c0_i32_89 : BitVec 32 := 0#32
  let v128 : BitVec 1 := Scalar.cmpi .ne v127 c0_i32_89
  let v132 : BitVec 1 := Scalar.andi v131 v128
  let v133 : BitVec 32 := Scalar.addi v127 v126
  let v134 : BitVec 32 := Scalar.select v132 v133 v127
  let c1_i32_93 : BitVec 32 := 1#32
  let v135 : BitVec 32 := Scalar.muli v134 c1_i32_93
  let v136 : BitVec 32 := Scalar.addi c0_i32_94 v135
  v136.toNat
def k0_dev10 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v137 : BitVec 32 := Scalar.addi v2 c10_i32
  let c32_i32_95 : BitVec 32 := 32#32
  let c0_i32_96 : BitVec 32 := 0#32
  let v138 : BitVec 1 := Scalar.cmpi .eq c32_i32_95 c0_i32_96
  let c1_i32_97 : BitVec 32 := 1#32
  let v139 : BitVec 32 := Scalar.select v138 c1_i32_97 c32_i32_95
  let v140 : BitVec 32 := Scalar.remsi v137 v139
  let c0_i32_99 : BitVec 32 := 0#32
  let v142 : BitVec 1 := Scalar.cmpi .slt v140 c0_i32_99
  let c0_i32_100 : BitVec 32 := 0#32
  let v143 : BitVec 1 := Scalar.cmpi .slt v139 c0_i32_100
  let v144 : BitVec 1 := Scalar.xori v142 v143
  let c0_i32_98 : BitVec 32 := 0#32
  let v141 : BitVec 1 := Scalar.cmpi .ne v140 c0_i32_98
  let v145 : BitVec 1 := Scalar.andi v144 v141
  let v146 : BitVec 32 := Scalar.addi v140 v139
  let v147 : BitVec 32 := Scalar.select v145 v146 v140
  let c1_i32_102 : BitVec 32 := 1#32
  let v148 : BitVec 32 := Scalar.muli v147 c1_i32_102
  let v149 : BitVec 32 := Scalar.addi c0_i32_103 v148
  v149.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v150 : BitVec 32 := Scalar.addi v2 c11_i32
  let c32_i32_104 : BitVec 32 := 32#32
  let c0_i32_105 : BitVec 32 := 0#32
  let v151 : BitVec 1 := Scalar.cmpi .eq c32_i32_104 c0_i32_105
  let c1_i32_106 : BitVec 32 := 1#32
  let v152 : BitVec 32 := Scalar.select v151 c1_i32_106 c32_i32_104
  let v153 : BitVec 32 := Scalar.remsi v150 v152
  let c0_i32_108 : BitVec 32 := 0#32
  let v155 : BitVec 1 := Scalar.cmpi .slt v153 c0_i32_108
  let c0_i32_109 : BitVec 32 := 0#32
  let v156 : BitVec 1 := Scalar.cmpi .slt v152 c0_i32_109
  let v157 : BitVec 1 := Scalar.xori v155 v156
  let c0_i32_107 : BitVec 32 := 0#32
  let v154 : BitVec 1 := Scalar.cmpi .ne v153 c0_i32_107
  let v158 : BitVec 1 := Scalar.andi v157 v154
  let v159 : BitVec 32 := Scalar.addi v153 v152
  let v160 : BitVec 32 := Scalar.select v158 v159 v153
  let c1_i32_111 : BitVec 32 := 1#32
  let v161 : BitVec 32 := Scalar.muli v160 c1_i32_111
  let v162 : BitVec 32 := Scalar.addi c0_i32_112 v161
  v162.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v163 : BitVec 32 := Scalar.addi v2 c12_i32
  let c32_i32_113 : BitVec 32 := 32#32
  let c0_i32_114 : BitVec 32 := 0#32
  let v164 : BitVec 1 := Scalar.cmpi .eq c32_i32_113 c0_i32_114
  let c1_i32_115 : BitVec 32 := 1#32
  let v165 : BitVec 32 := Scalar.select v164 c1_i32_115 c32_i32_113
  let v166 : BitVec 32 := Scalar.remsi v163 v165
  let c0_i32_117 : BitVec 32 := 0#32
  let v168 : BitVec 1 := Scalar.cmpi .slt v166 c0_i32_117
  let c0_i32_118 : BitVec 32 := 0#32
  let v169 : BitVec 1 := Scalar.cmpi .slt v165 c0_i32_118
  let v170 : BitVec 1 := Scalar.xori v168 v169
  let c0_i32_116 : BitVec 32 := 0#32
  let v167 : BitVec 1 := Scalar.cmpi .ne v166 c0_i32_116
  let v171 : BitVec 1 := Scalar.andi v170 v167
  let v172 : BitVec 32 := Scalar.addi v166 v165
  let v173 : BitVec 32 := Scalar.select v171 v172 v166
  let c1_i32_120 : BitVec 32 := 1#32
  let v174 : BitVec 32 := Scalar.muli v173 c1_i32_120
  let v175 : BitVec 32 := Scalar.addi c0_i32_121 v174
  v175.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v176 : BitVec 32 := Scalar.addi v2 c13_i32
  let c32_i32_122 : BitVec 32 := 32#32
  let c0_i32_123 : BitVec 32 := 0#32
  let v177 : BitVec 1 := Scalar.cmpi .eq c32_i32_122 c0_i32_123
  let c1_i32_124 : BitVec 32 := 1#32
  let v178 : BitVec 32 := Scalar.select v177 c1_i32_124 c32_i32_122
  let v179 : BitVec 32 := Scalar.remsi v176 v178
  let c0_i32_126 : BitVec 32 := 0#32
  let v181 : BitVec 1 := Scalar.cmpi .slt v179 c0_i32_126
  let c0_i32_127 : BitVec 32 := 0#32
  let v182 : BitVec 1 := Scalar.cmpi .slt v178 c0_i32_127
  let v183 : BitVec 1 := Scalar.xori v181 v182
  let c0_i32_125 : BitVec 32 := 0#32
  let v180 : BitVec 1 := Scalar.cmpi .ne v179 c0_i32_125
  let v184 : BitVec 1 := Scalar.andi v183 v180
  let v185 : BitVec 32 := Scalar.addi v179 v178
  let v186 : BitVec 32 := Scalar.select v184 v185 v179
  let c1_i32_129 : BitVec 32 := 1#32
  let v187 : BitVec 32 := Scalar.muli v186 c1_i32_129
  let v188 : BitVec 32 := Scalar.addi c0_i32_130 v187
  v188.toNat
def k0_dev14 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v189 : BitVec 32 := Scalar.addi v2 c14_i32
  let c32_i32_131 : BitVec 32 := 32#32
  let c0_i32_132 : BitVec 32 := 0#32
  let v190 : BitVec 1 := Scalar.cmpi .eq c32_i32_131 c0_i32_132
  let c1_i32_133 : BitVec 32 := 1#32
  let v191 : BitVec 32 := Scalar.select v190 c1_i32_133 c32_i32_131
  let v192 : BitVec 32 := Scalar.remsi v189 v191
  let c0_i32_135 : BitVec 32 := 0#32
  let v194 : BitVec 1 := Scalar.cmpi .slt v192 c0_i32_135
  let c0_i32_136 : BitVec 32 := 0#32
  let v195 : BitVec 1 := Scalar.cmpi .slt v191 c0_i32_136
  let v196 : BitVec 1 := Scalar.xori v194 v195
  let c0_i32_134 : BitVec 32 := 0#32
  let v193 : BitVec 1 := Scalar.cmpi .ne v192 c0_i32_134
  let v197 : BitVec 1 := Scalar.andi v196 v193
  let v198 : BitVec 32 := Scalar.addi v192 v191
  let v199 : BitVec 32 := Scalar.select v197 v198 v192
  let c1_i32_138 : BitVec 32 := 1#32
  let v200 : BitVec 32 := Scalar.muli v199 c1_i32_138
  let v201 : BitVec 32 := Scalar.addi c0_i32_139 v200
  v201.toNat
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v202 : BitVec 32 := Scalar.addi v2 c15_i32
  let c32_i32_140 : BitVec 32 := 32#32
  let c0_i32_141 : BitVec 32 := 0#32
  let v203 : BitVec 1 := Scalar.cmpi .eq c32_i32_140 c0_i32_141
  let c1_i32_142 : BitVec 32 := 1#32
  let v204 : BitVec 32 := Scalar.select v203 c1_i32_142 c32_i32_140
  let v205 : BitVec 32 := Scalar.remsi v202 v204
  let c0_i32_144 : BitVec 32 := 0#32
  let v207 : BitVec 1 := Scalar.cmpi .slt v205 c0_i32_144
  let c0_i32_145 : BitVec 32 := 0#32
  let v208 : BitVec 1 := Scalar.cmpi .slt v204 c0_i32_145
  let v209 : BitVec 1 := Scalar.xori v207 v208
  let c0_i32_143 : BitVec 32 := 0#32
  let v206 : BitVec 1 := Scalar.cmpi .ne v205 c0_i32_143
  let v210 : BitVec 1 := Scalar.andi v209 v206
  let v211 : BitVec 32 := Scalar.addi v205 v204
  let v212 : BitVec 32 := Scalar.select v210 v211 v205
  let c1_i32_147 : BitVec 32 := 1#32
  let v213 : BitVec 32 := Scalar.muli v212 c1_i32_147
  let v214 : BitVec 32 := Scalar.addi c0_i32_148 v213
  v214.toNat
def k0_dev16 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v215 : BitVec 32 := Scalar.addi v2 c16_i32
  let c32_i32_149 : BitVec 32 := 32#32
  let c0_i32_150 : BitVec 32 := 0#32
  let v216 : BitVec 1 := Scalar.cmpi .eq c32_i32_149 c0_i32_150
  let c1_i32_151 : BitVec 32 := 1#32
  let v217 : BitVec 32 := Scalar.select v216 c1_i32_151 c32_i32_149
  let v218 : BitVec 32 := Scalar.remsi v215 v217
  let c0_i32_153 : BitVec 32 := 0#32
  let v220 : BitVec 1 := Scalar.cmpi .slt v218 c0_i32_153
  let c0_i32_154 : BitVec 32 := 0#32
  let v221 : BitVec 1 := Scalar.cmpi .slt v217 c0_i32_154
  let v222 : BitVec 1 := Scalar.xori v220 v221
  let c0_i32_152 : BitVec 32 := 0#32
  let v219 : BitVec 1 := Scalar.cmpi .ne v218 c0_i32_152
  let v223 : BitVec 1 := Scalar.andi v222 v219
  let v224 : BitVec 32 := Scalar.addi v218 v217
  let v225 : BitVec 32 := Scalar.select v223 v224 v218
  let c1_i32_156 : BitVec 32 := 1#32
  let v226 : BitVec 32 := Scalar.muli v225 c1_i32_156
  let v227 : BitVec 32 := Scalar.addi c0_i32_157 v226
  v227.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v228 : BitVec 32 := Scalar.addi v2 c17_i32
  let c32_i32_158 : BitVec 32 := 32#32
  let c0_i32_159 : BitVec 32 := 0#32
  let v229 : BitVec 1 := Scalar.cmpi .eq c32_i32_158 c0_i32_159
  let c1_i32_160 : BitVec 32 := 1#32
  let v230 : BitVec 32 := Scalar.select v229 c1_i32_160 c32_i32_158
  let v231 : BitVec 32 := Scalar.remsi v228 v230
  let c0_i32_162 : BitVec 32 := 0#32
  let v233 : BitVec 1 := Scalar.cmpi .slt v231 c0_i32_162
  let c0_i32_163 : BitVec 32 := 0#32
  let v234 : BitVec 1 := Scalar.cmpi .slt v230 c0_i32_163
  let v235 : BitVec 1 := Scalar.xori v233 v234
  let c0_i32_161 : BitVec 32 := 0#32
  let v232 : BitVec 1 := Scalar.cmpi .ne v231 c0_i32_161
  let v236 : BitVec 1 := Scalar.andi v235 v232
  let v237 : BitVec 32 := Scalar.addi v231 v230
  let v238 : BitVec 32 := Scalar.select v236 v237 v231
  let c1_i32_165 : BitVec 32 := 1#32
  let v239 : BitVec 32 := Scalar.muli v238 c1_i32_165
  let v240 : BitVec 32 := Scalar.addi c0_i32_166 v239
  v240.toNat
def k0_dev18 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v241 : BitVec 32 := Scalar.addi v2 c18_i32
  let c32_i32_167 : BitVec 32 := 32#32
  let c0_i32_168 : BitVec 32 := 0#32
  let v242 : BitVec 1 := Scalar.cmpi .eq c32_i32_167 c0_i32_168
  let c1_i32_169 : BitVec 32 := 1#32
  let v243 : BitVec 32 := Scalar.select v242 c1_i32_169 c32_i32_167
  let v244 : BitVec 32 := Scalar.remsi v241 v243
  let c0_i32_171 : BitVec 32 := 0#32
  let v246 : BitVec 1 := Scalar.cmpi .slt v244 c0_i32_171
  let c0_i32_172 : BitVec 32 := 0#32
  let v247 : BitVec 1 := Scalar.cmpi .slt v243 c0_i32_172
  let v248 : BitVec 1 := Scalar.xori v246 v247
  let c0_i32_170 : BitVec 32 := 0#32
  let v245 : BitVec 1 := Scalar.cmpi .ne v244 c0_i32_170
  let v249 : BitVec 1 := Scalar.andi v248 v245
  let v250 : BitVec 32 := Scalar.addi v244 v243
  let v251 : BitVec 32 := Scalar.select v249 v250 v244
  let c1_i32_174 : BitVec 32 := 1#32
  let v252 : BitVec 32 := Scalar.muli v251 c1_i32_174
  let v253 : BitVec 32 := Scalar.addi c0_i32_175 v252
  v253.toNat
def k0_dev19 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v254 : BitVec 32 := Scalar.addi v2 c19_i32
  let c32_i32_176 : BitVec 32 := 32#32
  let c0_i32_177 : BitVec 32 := 0#32
  let v255 : BitVec 1 := Scalar.cmpi .eq c32_i32_176 c0_i32_177
  let c1_i32_178 : BitVec 32 := 1#32
  let v256 : BitVec 32 := Scalar.select v255 c1_i32_178 c32_i32_176
  let v257 : BitVec 32 := Scalar.remsi v254 v256
  let c0_i32_180 : BitVec 32 := 0#32
  let v259 : BitVec 1 := Scalar.cmpi .slt v257 c0_i32_180
  let c0_i32_181 : BitVec 32 := 0#32
  let v260 : BitVec 1 := Scalar.cmpi .slt v256 c0_i32_181
  let v261 : BitVec 1 := Scalar.xori v259 v260
  let c0_i32_179 : BitVec 32 := 0#32
  let v258 : BitVec 1 := Scalar.cmpi .ne v257 c0_i32_179
  let v262 : BitVec 1 := Scalar.andi v261 v258
  let v263 : BitVec 32 := Scalar.addi v257 v256
  let v264 : BitVec 32 := Scalar.select v262 v263 v257
  let c1_i32_183 : BitVec 32 := 1#32
  let v265 : BitVec 32 := Scalar.muli v264 c1_i32_183
  let v266 : BitVec 32 := Scalar.addi c0_i32_184 v265
  v266.toNat
def k0_dev20 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v267 : BitVec 32 := Scalar.addi v2 c20_i32
  let c32_i32_185 : BitVec 32 := 32#32
  let c0_i32_186 : BitVec 32 := 0#32
  let v268 : BitVec 1 := Scalar.cmpi .eq c32_i32_185 c0_i32_186
  let c1_i32_187 : BitVec 32 := 1#32
  let v269 : BitVec 32 := Scalar.select v268 c1_i32_187 c32_i32_185
  let v270 : BitVec 32 := Scalar.remsi v267 v269
  let c0_i32_189 : BitVec 32 := 0#32
  let v272 : BitVec 1 := Scalar.cmpi .slt v270 c0_i32_189
  let c0_i32_190 : BitVec 32 := 0#32
  let v273 : BitVec 1 := Scalar.cmpi .slt v269 c0_i32_190
  let v274 : BitVec 1 := Scalar.xori v272 v273
  let c0_i32_188 : BitVec 32 := 0#32
  let v271 : BitVec 1 := Scalar.cmpi .ne v270 c0_i32_188
  let v275 : BitVec 1 := Scalar.andi v274 v271
  let v276 : BitVec 32 := Scalar.addi v270 v269
  let v277 : BitVec 32 := Scalar.select v275 v276 v270
  let c1_i32_192 : BitVec 32 := 1#32
  let v278 : BitVec 32 := Scalar.muli v277 c1_i32_192
  let v279 : BitVec 32 := Scalar.addi c0_i32_193 v278
  v279.toNat
def k0_dev21 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v280 : BitVec 32 := Scalar.addi v2 c21_i32
  let c32_i32_194 : BitVec 32 := 32#32
  let c0_i32_195 : BitVec 32 := 0#32
  let v281 : BitVec 1 := Scalar.cmpi .eq c32_i32_194 c0_i32_195
  let c1_i32_196 : BitVec 32 := 1#32
  let v282 : BitVec 32 := Scalar.select v281 c1_i32_196 c32_i32_194
  let v283 : BitVec 32 := Scalar.remsi v280 v282
  let c0_i32_198 : BitVec 32 := 0#32
  let v285 : BitVec 1 := Scalar.cmpi .slt v283 c0_i32_198
  let c0_i32_199 : BitVec 32 := 0#32
  let v286 : BitVec 1 := Scalar.cmpi .slt v282 c0_i32_199
  let v287 : BitVec 1 := Scalar.xori v285 v286
  let c0_i32_197 : BitVec 32 := 0#32
  let v284 : BitVec 1 := Scalar.cmpi .ne v283 c0_i32_197
  let v288 : BitVec 1 := Scalar.andi v287 v284
  let v289 : BitVec 32 := Scalar.addi v283 v282
  let v290 : BitVec 32 := Scalar.select v288 v289 v283
  let c1_i32_201 : BitVec 32 := 1#32
  let v291 : BitVec 32 := Scalar.muli v290 c1_i32_201
  let v292 : BitVec 32 := Scalar.addi c0_i32_202 v291
  v292.toNat
def k0_dev22 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v293 : BitVec 32 := Scalar.addi v2 c22_i32
  let c32_i32_203 : BitVec 32 := 32#32
  let c0_i32_204 : BitVec 32 := 0#32
  let v294 : BitVec 1 := Scalar.cmpi .eq c32_i32_203 c0_i32_204
  let c1_i32_205 : BitVec 32 := 1#32
  let v295 : BitVec 32 := Scalar.select v294 c1_i32_205 c32_i32_203
  let v296 : BitVec 32 := Scalar.remsi v293 v295
  let c0_i32_207 : BitVec 32 := 0#32
  let v298 : BitVec 1 := Scalar.cmpi .slt v296 c0_i32_207
  let c0_i32_208 : BitVec 32 := 0#32
  let v299 : BitVec 1 := Scalar.cmpi .slt v295 c0_i32_208
  let v300 : BitVec 1 := Scalar.xori v298 v299
  let c0_i32_206 : BitVec 32 := 0#32
  let v297 : BitVec 1 := Scalar.cmpi .ne v296 c0_i32_206
  let v301 : BitVec 1 := Scalar.andi v300 v297
  let v302 : BitVec 32 := Scalar.addi v296 v295
  let v303 : BitVec 32 := Scalar.select v301 v302 v296
  let c1_i32_210 : BitVec 32 := 1#32
  let v304 : BitVec 32 := Scalar.muli v303 c1_i32_210
  let v305 : BitVec 32 := Scalar.addi c0_i32_211 v304
  v305.toNat
def k0_dev23 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v306 : BitVec 32 := Scalar.addi v2 c23_i32
  let c32_i32_212 : BitVec 32 := 32#32
  let c0_i32_213 : BitVec 32 := 0#32
  let v307 : BitVec 1 := Scalar.cmpi .eq c32_i32_212 c0_i32_213
  let c1_i32_214 : BitVec 32 := 1#32
  let v308 : BitVec 32 := Scalar.select v307 c1_i32_214 c32_i32_212
  let v309 : BitVec 32 := Scalar.remsi v306 v308
  let c0_i32_216 : BitVec 32 := 0#32
  let v311 : BitVec 1 := Scalar.cmpi .slt v309 c0_i32_216
  let c0_i32_217 : BitVec 32 := 0#32
  let v312 : BitVec 1 := Scalar.cmpi .slt v308 c0_i32_217
  let v313 : BitVec 1 := Scalar.xori v311 v312
  let c0_i32_215 : BitVec 32 := 0#32
  let v310 : BitVec 1 := Scalar.cmpi .ne v309 c0_i32_215
  let v314 : BitVec 1 := Scalar.andi v313 v310
  let v315 : BitVec 32 := Scalar.addi v309 v308
  let v316 : BitVec 32 := Scalar.select v314 v315 v309
  let c1_i32_219 : BitVec 32 := 1#32
  let v317 : BitVec 32 := Scalar.muli v316 c1_i32_219
  let v318 : BitVec 32 := Scalar.addi c0_i32_220 v317
  v318.toNat
def k0_dev24 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v319 : BitVec 32 := Scalar.addi v2 c24_i32
  let c32_i32_221 : BitVec 32 := 32#32
  let c0_i32_222 : BitVec 32 := 0#32
  let v320 : BitVec 1 := Scalar.cmpi .eq c32_i32_221 c0_i32_222
  let c1_i32_223 : BitVec 32 := 1#32
  let v321 : BitVec 32 := Scalar.select v320 c1_i32_223 c32_i32_221
  let v322 : BitVec 32 := Scalar.remsi v319 v321
  let c0_i32_225 : BitVec 32 := 0#32
  let v324 : BitVec 1 := Scalar.cmpi .slt v322 c0_i32_225
  let c0_i32_226 : BitVec 32 := 0#32
  let v325 : BitVec 1 := Scalar.cmpi .slt v321 c0_i32_226
  let v326 : BitVec 1 := Scalar.xori v324 v325
  let c0_i32_224 : BitVec 32 := 0#32
  let v323 : BitVec 1 := Scalar.cmpi .ne v322 c0_i32_224
  let v327 : BitVec 1 := Scalar.andi v326 v323
  let v328 : BitVec 32 := Scalar.addi v322 v321
  let v329 : BitVec 32 := Scalar.select v327 v328 v322
  let c1_i32_228 : BitVec 32 := 1#32
  let v330 : BitVec 32 := Scalar.muli v329 c1_i32_228
  let v331 : BitVec 32 := Scalar.addi c0_i32_229 v330
  v331.toNat
def k0_dev25 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v332 : BitVec 32 := Scalar.addi v2 c25_i32
  let c32_i32_230 : BitVec 32 := 32#32
  let c0_i32_231 : BitVec 32 := 0#32
  let v333 : BitVec 1 := Scalar.cmpi .eq c32_i32_230 c0_i32_231
  let c1_i32_232 : BitVec 32 := 1#32
  let v334 : BitVec 32 := Scalar.select v333 c1_i32_232 c32_i32_230
  let v335 : BitVec 32 := Scalar.remsi v332 v334
  let c0_i32_234 : BitVec 32 := 0#32
  let v337 : BitVec 1 := Scalar.cmpi .slt v335 c0_i32_234
  let c0_i32_235 : BitVec 32 := 0#32
  let v338 : BitVec 1 := Scalar.cmpi .slt v334 c0_i32_235
  let v339 : BitVec 1 := Scalar.xori v337 v338
  let c0_i32_233 : BitVec 32 := 0#32
  let v336 : BitVec 1 := Scalar.cmpi .ne v335 c0_i32_233
  let v340 : BitVec 1 := Scalar.andi v339 v336
  let v341 : BitVec 32 := Scalar.addi v335 v334
  let v342 : BitVec 32 := Scalar.select v340 v341 v335
  let c1_i32_237 : BitVec 32 := 1#32
  let v343 : BitVec 32 := Scalar.muli v342 c1_i32_237
  let v344 : BitVec 32 := Scalar.addi c0_i32_238 v343
  v344.toNat
def k0_dev26 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v345 : BitVec 32 := Scalar.addi v2 c26_i32
  let c32_i32_239 : BitVec 32 := 32#32
  let c0_i32_240 : BitVec 32 := 0#32
  let v346 : BitVec 1 := Scalar.cmpi .eq c32_i32_239 c0_i32_240
  let c1_i32_241 : BitVec 32 := 1#32
  let v347 : BitVec 32 := Scalar.select v346 c1_i32_241 c32_i32_239
  let v348 : BitVec 32 := Scalar.remsi v345 v347
  let c0_i32_243 : BitVec 32 := 0#32
  let v350 : BitVec 1 := Scalar.cmpi .slt v348 c0_i32_243
  let c0_i32_244 : BitVec 32 := 0#32
  let v351 : BitVec 1 := Scalar.cmpi .slt v347 c0_i32_244
  let v352 : BitVec 1 := Scalar.xori v350 v351
  let c0_i32_242 : BitVec 32 := 0#32
  let v349 : BitVec 1 := Scalar.cmpi .ne v348 c0_i32_242
  let v353 : BitVec 1 := Scalar.andi v352 v349
  let v354 : BitVec 32 := Scalar.addi v348 v347
  let v355 : BitVec 32 := Scalar.select v353 v354 v348
  let c1_i32_246 : BitVec 32 := 1#32
  let v356 : BitVec 32 := Scalar.muli v355 c1_i32_246
  let v357 : BitVec 32 := Scalar.addi c0_i32_247 v356
  v357.toNat
def k0_dev27 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v358 : BitVec 32 := Scalar.addi v2 c27_i32
  let c32_i32_248 : BitVec 32 := 32#32
  let c0_i32_249 : BitVec 32 := 0#32
  let v359 : BitVec 1 := Scalar.cmpi .eq c32_i32_248 c0_i32_249
  let c1_i32_250 : BitVec 32 := 1#32
  let v360 : BitVec 32 := Scalar.select v359 c1_i32_250 c32_i32_248
  let v361 : BitVec 32 := Scalar.remsi v358 v360
  let c0_i32_252 : BitVec 32 := 0#32
  let v363 : BitVec 1 := Scalar.cmpi .slt v361 c0_i32_252
  let c0_i32_253 : BitVec 32 := 0#32
  let v364 : BitVec 1 := Scalar.cmpi .slt v360 c0_i32_253
  let v365 : BitVec 1 := Scalar.xori v363 v364
  let c0_i32_251 : BitVec 32 := 0#32
  let v362 : BitVec 1 := Scalar.cmpi .ne v361 c0_i32_251
  let v366 : BitVec 1 := Scalar.andi v365 v362
  let v367 : BitVec 32 := Scalar.addi v361 v360
  let v368 : BitVec 32 := Scalar.select v366 v367 v361
  let c1_i32_255 : BitVec 32 := 1#32
  let v369 : BitVec 32 := Scalar.muli v368 c1_i32_255
  let v370 : BitVec 32 := Scalar.addi c0_i32_256 v369
  v370.toNat
def k0_dev28 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v371 : BitVec 32 := Scalar.addi v2 c28_i32
  let c32_i32_257 : BitVec 32 := 32#32
  let c0_i32_258 : BitVec 32 := 0#32
  let v372 : BitVec 1 := Scalar.cmpi .eq c32_i32_257 c0_i32_258
  let c1_i32_259 : BitVec 32 := 1#32
  let v373 : BitVec 32 := Scalar.select v372 c1_i32_259 c32_i32_257
  let v374 : BitVec 32 := Scalar.remsi v371 v373
  let c0_i32_261 : BitVec 32 := 0#32
  let v376 : BitVec 1 := Scalar.cmpi .slt v374 c0_i32_261
  let c0_i32_262 : BitVec 32 := 0#32
  let v377 : BitVec 1 := Scalar.cmpi .slt v373 c0_i32_262
  let v378 : BitVec 1 := Scalar.xori v376 v377
  let c0_i32_260 : BitVec 32 := 0#32
  let v375 : BitVec 1 := Scalar.cmpi .ne v374 c0_i32_260
  let v379 : BitVec 1 := Scalar.andi v378 v375
  let v380 : BitVec 32 := Scalar.addi v374 v373
  let v381 : BitVec 32 := Scalar.select v379 v380 v374
  let c1_i32_264 : BitVec 32 := 1#32
  let v382 : BitVec 32 := Scalar.muli v381 c1_i32_264
  let v383 : BitVec 32 := Scalar.addi c0_i32_265 v382
  v383.toNat
def k0_dev29 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v384 : BitVec 32 := Scalar.addi v2 c29_i32
  let c32_i32_266 : BitVec 32 := 32#32
  let c0_i32_267 : BitVec 32 := 0#32
  let v385 : BitVec 1 := Scalar.cmpi .eq c32_i32_266 c0_i32_267
  let c1_i32_268 : BitVec 32 := 1#32
  let v386 : BitVec 32 := Scalar.select v385 c1_i32_268 c32_i32_266
  let v387 : BitVec 32 := Scalar.remsi v384 v386
  let c0_i32_270 : BitVec 32 := 0#32
  let v389 : BitVec 1 := Scalar.cmpi .slt v387 c0_i32_270
  let c0_i32_271 : BitVec 32 := 0#32
  let v390 : BitVec 1 := Scalar.cmpi .slt v386 c0_i32_271
  let v391 : BitVec 1 := Scalar.xori v389 v390
  let c0_i32_269 : BitVec 32 := 0#32
  let v388 : BitVec 1 := Scalar.cmpi .ne v387 c0_i32_269
  let v392 : BitVec 1 := Scalar.andi v391 v388
  let v393 : BitVec 32 := Scalar.addi v387 v386
  let v394 : BitVec 32 := Scalar.select v392 v393 v387
  let c1_i32_273 : BitVec 32 := 1#32
  let v395 : BitVec 32 := Scalar.muli v394 c1_i32_273
  let v396 : BitVec 32 := Scalar.addi c0_i32_274 v395
  v396.toNat
def k0_dev30 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v397 : BitVec 32 := Scalar.addi v2 c30_i32
  let c32_i32_275 : BitVec 32 := 32#32
  let c0_i32_276 : BitVec 32 := 0#32
  let v398 : BitVec 1 := Scalar.cmpi .eq c32_i32_275 c0_i32_276
  let c1_i32_277 : BitVec 32 := 1#32
  let v399 : BitVec 32 := Scalar.select v398 c1_i32_277 c32_i32_275
  let v400 : BitVec 32 := Scalar.remsi v397 v399
  let c0_i32_279 : BitVec 32 := 0#32
  let v402 : BitVec 1 := Scalar.cmpi .slt v400 c0_i32_279
  let c0_i32_280 : BitVec 32 := 0#32
  let v403 : BitVec 1 := Scalar.cmpi .slt v399 c0_i32_280
  let v404 : BitVec 1 := Scalar.xori v402 v403
  let c0_i32_278 : BitVec 32 := 0#32
  let v401 : BitVec 1 := Scalar.cmpi .ne v400 c0_i32_278
  let v405 : BitVec 1 := Scalar.andi v404 v401
  let v406 : BitVec 32 := Scalar.addi v400 v399
  let v407 : BitVec 32 := Scalar.select v405 v406 v400
  let c1_i32_282 : BitVec 32 := 1#32
  let v408 : BitVec 32 := Scalar.muli v407 c1_i32_282
  let v409 : BitVec 32 := Scalar.addi c0_i32_283 v408
  v409.toNat
def k0_dev31 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v410 : BitVec 32 := Scalar.addi v2 c31_i32
  let c32_i32_284 : BitVec 32 := 32#32
  let c0_i32_285 : BitVec 32 := 0#32
  let v411 : BitVec 1 := Scalar.cmpi .eq c32_i32_284 c0_i32_285
  let c1_i32_286 : BitVec 32 := 1#32
  let v412 : BitVec 32 := Scalar.select v411 c1_i32_286 c32_i32_284
  let v413 : BitVec 32 := Scalar.remsi v410 v412
  let c0_i32_288 : BitVec 32 := 0#32
  let v415 : BitVec 1 := Scalar.cmpi .slt v413 c0_i32_288
  let c0_i32_289 : BitVec 32 := 0#32
  let v416 : BitVec 1 := Scalar.cmpi .slt v412 c0_i32_289
  let v417 : BitVec 1 := Scalar.xori v415 v416
  let c0_i32_287 : BitVec 32 := 0#32
  let v414 : BitVec 1 := Scalar.cmpi .ne v413 c0_i32_287
  let v418 : BitVec 1 := Scalar.andi v417 v414
  let v419 : BitVec 32 := Scalar.addi v413 v412
  let v420 : BitVec 32 := Scalar.select v418 v419 v413
  let c1_i32_291 : BitVec 32 := 1#32
  let v421 : BitVec 32 := Scalar.muli v420 c1_i32_291
  let v422 : BitVec 32 := Scalar.addi c0_i32_292 v421
  v422.toNat
def k0_off1 (d0 : Dev nD) (c0_i32_294 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v423 : BitVec 32 := Scalar.addi v2 c0_i32_294
  let c32_i32_295 : BitVec 32 := 32#32
  let c0_i32_296 : BitVec 32 := 0#32
  let v424 : BitVec 1 := Scalar.cmpi .eq c32_i32_295 c0_i32_296
  let c1_i32_297 : BitVec 32 := 1#32
  let v425 : BitVec 32 := Scalar.select v424 c1_i32_297 c32_i32_295
  let v426 : BitVec 32 := Scalar.remsi v423 v425
  let c0_i32_299 : BitVec 32 := 0#32
  let v428 : BitVec 1 := Scalar.cmpi .slt v426 c0_i32_299
  let c0_i32_300 : BitVec 32 := 0#32
  let v429 : BitVec 1 := Scalar.cmpi .slt v425 c0_i32_300
  let v430 : BitVec 1 := Scalar.xori v428 v429
  let c0_i32_298 : BitVec 32 := 0#32
  let v427 : BitVec 1 := Scalar.cmpi .ne v426 c0_i32_298
  let v431 : BitVec 1 := Scalar.andi v430 v427
  let v432 : BitVec 32 := Scalar.addi v426 v425
  let v433 : BitVec 32 := Scalar.select v431 v432 v426
  ![v433.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_303 : BitVec 32 := 0#32
  let c0_i32_304 : BitVec 32 := 0#32
  ![v2.toNat, 0, 0]
def k0_off4 (d0 : Dev nD) (c0_i32_294 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v423 : BitVec 32 := Scalar.addi v2 c0_i32_294
  let c32_i32_295 : BitVec 32 := 32#32
  let c0_i32_296 : BitVec 32 := 0#32
  let v424 : BitVec 1 := Scalar.cmpi .eq c32_i32_295 c0_i32_296
  let c1_i32_297 : BitVec 32 := 1#32
  let v425 : BitVec 32 := Scalar.select v424 c1_i32_297 c32_i32_295
  let v426 : BitVec 32 := Scalar.remsi v423 v425
  let c0_i32_299 : BitVec 32 := 0#32
  let v428 : BitVec 1 := Scalar.cmpi .slt v426 c0_i32_299
  let c0_i32_300 : BitVec 32 := 0#32
  let v429 : BitVec 1 := Scalar.cmpi .slt v425 c0_i32_300
  let v430 : BitVec 1 := Scalar.xori v428 v429
  let c0_i32_298 : BitVec 32 := 0#32
  let v427 : BitVec 1 := Scalar.cmpi .ne v426 c0_i32_298
  let v431 : BitVec 1 := Scalar.andi v430 v427
  let v432 : BitVec 32 := Scalar.addi v426 v425
  let v433 : BitVec 32 := Scalar.select v431 v432 v426
  let c128_i32 : BitVec 32 := 128#32
  let v434 : BitVec 32 := Scalar.muli v433 c128_i32
  let c0_i32_305 : BitVec 32 := 0#32
  ![v434.toNat, 0]
def k0_dev32 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_294 : BitVec 32 := 0#32
  let v423 : BitVec 32 := Scalar.addi v2 c0_i32_294
  let c32_i32_295 : BitVec 32 := 32#32
  let c0_i32_296 : BitVec 32 := 0#32
  let v424 : BitVec 1 := Scalar.cmpi .eq c32_i32_295 c0_i32_296
  let c1_i32_297 : BitVec 32 := 1#32
  let v425 : BitVec 32 := Scalar.select v424 c1_i32_297 c32_i32_295
  let v426 : BitVec 32 := Scalar.remsi v423 v425
  let c0_i32_299 : BitVec 32 := 0#32
  let v428 : BitVec 1 := Scalar.cmpi .slt v426 c0_i32_299
  let c0_i32_300 : BitVec 32 := 0#32
  let v429 : BitVec 1 := Scalar.cmpi .slt v425 c0_i32_300
  let v430 : BitVec 1 := Scalar.xori v428 v429
  let c0_i32_298 : BitVec 32 := 0#32
  let v427 : BitVec 1 := Scalar.cmpi .ne v426 c0_i32_298
  let v431 : BitVec 1 := Scalar.andi v430 v427
  let v432 : BitVec 32 := Scalar.addi v426 v425
  let v433 : BitVec 32 := Scalar.select v431 v432 v426
  let c1_i32_301 : BitVec 32 := 1#32
  let v435 : BitVec 32 := Scalar.muli v433 c1_i32_301
  let v436 : BitVec 32 := Scalar.addi c0_i32_302 v435
  v436.toNat
def k0_dev33 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_306 : BitVec 32 := 1#32
  let v444 : BitVec 32 := Scalar.addi v2 c1_i32_306
  let c32_i32_307 : BitVec 32 := 32#32
  let c0_i32_308 : BitVec 32 := 0#32
  let v445 : BitVec 1 := Scalar.cmpi .eq c32_i32_307 c0_i32_308
  let c1_i32_309 : BitVec 32 := 1#32
  let v446 : BitVec 32 := Scalar.select v445 c1_i32_309 c32_i32_307
  let v447 : BitVec 32 := Scalar.remsi v444 v446
  let c0_i32_311 : BitVec 32 := 0#32
  let v449 : BitVec 1 := Scalar.cmpi .slt v447 c0_i32_311
  let c0_i32_312 : BitVec 32 := 0#32
  let v450 : BitVec 1 := Scalar.cmpi .slt v446 c0_i32_312
  let v451 : BitVec 1 := Scalar.xori v449 v450
  let c0_i32_310 : BitVec 32 := 0#32
  let v448 : BitVec 1 := Scalar.cmpi .ne v447 c0_i32_310
  let v452 : BitVec 1 := Scalar.andi v451 v448
  let v453 : BitVec 32 := Scalar.addi v447 v446
  let v454 : BitVec 32 := Scalar.select v452 v453 v447
  let c1_i32_314 : BitVec 32 := 1#32
  let v456 : BitVec 32 := Scalar.muli v454 c1_i32_314
  let v457 : BitVec 32 := Scalar.addi c0_i32_315 v456
  v457.toNat
def k0_dev34 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_319 : BitVec 32 := 2#32
  let v465 : BitVec 32 := Scalar.addi v2 c2_i32_319
  let c32_i32_320 : BitVec 32 := 32#32
  let c0_i32_321 : BitVec 32 := 0#32
  let v466 : BitVec 1 := Scalar.cmpi .eq c32_i32_320 c0_i32_321
  let c1_i32_322 : BitVec 32 := 1#32
  let v467 : BitVec 32 := Scalar.select v466 c1_i32_322 c32_i32_320
  let v468 : BitVec 32 := Scalar.remsi v465 v467
  let c0_i32_324 : BitVec 32 := 0#32
  let v470 : BitVec 1 := Scalar.cmpi .slt v468 c0_i32_324
  let c0_i32_325 : BitVec 32 := 0#32
  let v471 : BitVec 1 := Scalar.cmpi .slt v467 c0_i32_325
  let v472 : BitVec 1 := Scalar.xori v470 v471
  let c0_i32_323 : BitVec 32 := 0#32
  let v469 : BitVec 1 := Scalar.cmpi .ne v468 c0_i32_323
  let v473 : BitVec 1 := Scalar.andi v472 v469
  let v474 : BitVec 32 := Scalar.addi v468 v467
  let v475 : BitVec 32 := Scalar.select v473 v474 v468
  let c1_i32_327 : BitVec 32 := 1#32
  let v477 : BitVec 32 := Scalar.muli v475 c1_i32_327
  let v478 : BitVec 32 := Scalar.addi c0_i32_328 v477
  v478.toNat
def k0_dev35 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_332 : BitVec 32 := 3#32
  let v486 : BitVec 32 := Scalar.addi v2 c3_i32_332
  let c32_i32_333 : BitVec 32 := 32#32
  let c0_i32_334 : BitVec 32 := 0#32
  let v487 : BitVec 1 := Scalar.cmpi .eq c32_i32_333 c0_i32_334
  let c1_i32_335 : BitVec 32 := 1#32
  let v488 : BitVec 32 := Scalar.select v487 c1_i32_335 c32_i32_333
  let v489 : BitVec 32 := Scalar.remsi v486 v488
  let c0_i32_337 : BitVec 32 := 0#32
  let v491 : BitVec 1 := Scalar.cmpi .slt v489 c0_i32_337
  let c0_i32_338 : BitVec 32 := 0#32
  let v492 : BitVec 1 := Scalar.cmpi .slt v488 c0_i32_338
  let v493 : BitVec 1 := Scalar.xori v491 v492
  let c0_i32_336 : BitVec 32 := 0#32
  let v490 : BitVec 1 := Scalar.cmpi .ne v489 c0_i32_336
  let v494 : BitVec 1 := Scalar.andi v493 v490
  let v495 : BitVec 32 := Scalar.addi v489 v488
  let v496 : BitVec 32 := Scalar.select v494 v495 v489
  let c1_i32_340 : BitVec 32 := 1#32
  let v498 : BitVec 32 := Scalar.muli v496 c1_i32_340
  let v499 : BitVec 32 := Scalar.addi c0_i32_341 v498
  v499.toNat
def k0_dev36 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_345 : BitVec 32 := 4#32
  let v507 : BitVec 32 := Scalar.addi v2 c4_i32_345
  let c32_i32_346 : BitVec 32 := 32#32
  let c0_i32_347 : BitVec 32 := 0#32
  let v508 : BitVec 1 := Scalar.cmpi .eq c32_i32_346 c0_i32_347
  let c1_i32_348 : BitVec 32 := 1#32
  let v509 : BitVec 32 := Scalar.select v508 c1_i32_348 c32_i32_346
  let v510 : BitVec 32 := Scalar.remsi v507 v509
  let c0_i32_350 : BitVec 32 := 0#32
  let v512 : BitVec 1 := Scalar.cmpi .slt v510 c0_i32_350
  let c0_i32_351 : BitVec 32 := 0#32
  let v513 : BitVec 1 := Scalar.cmpi .slt v509 c0_i32_351
  let v514 : BitVec 1 := Scalar.xori v512 v513
  let c0_i32_349 : BitVec 32 := 0#32
  let v511 : BitVec 1 := Scalar.cmpi .ne v510 c0_i32_349
  let v515 : BitVec 1 := Scalar.andi v514 v511
  let v516 : BitVec 32 := Scalar.addi v510 v509
  let v517 : BitVec 32 := Scalar.select v515 v516 v510
  let c1_i32_353 : BitVec 32 := 1#32
  let v519 : BitVec 32 := Scalar.muli v517 c1_i32_353
  let v520 : BitVec 32 := Scalar.addi c0_i32_354 v519
  v520.toNat
def k0_dev37 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_358 : BitVec 32 := 5#32
  let v528 : BitVec 32 := Scalar.addi v2 c5_i32_358
  let c32_i32_359 : BitVec 32 := 32#32
  let c0_i32_360 : BitVec 32 := 0#32
  let v529 : BitVec 1 := Scalar.cmpi .eq c32_i32_359 c0_i32_360
  let c1_i32_361 : BitVec 32 := 1#32
  let v530 : BitVec 32 := Scalar.select v529 c1_i32_361 c32_i32_359
  let v531 : BitVec 32 := Scalar.remsi v528 v530
  let c0_i32_363 : BitVec 32 := 0#32
  let v533 : BitVec 1 := Scalar.cmpi .slt v531 c0_i32_363
  let c0_i32_364 : BitVec 32 := 0#32
  let v534 : BitVec 1 := Scalar.cmpi .slt v530 c0_i32_364
  let v535 : BitVec 1 := Scalar.xori v533 v534
  let c0_i32_362 : BitVec 32 := 0#32
  let v532 : BitVec 1 := Scalar.cmpi .ne v531 c0_i32_362
  let v536 : BitVec 1 := Scalar.andi v535 v532
  let v537 : BitVec 32 := Scalar.addi v531 v530
  let v538 : BitVec 32 := Scalar.select v536 v537 v531
  let c1_i32_366 : BitVec 32 := 1#32
  let v540 : BitVec 32 := Scalar.muli v538 c1_i32_366
  let v541 : BitVec 32 := Scalar.addi c0_i32_367 v540
  v541.toNat
def k0_dev38 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_371 : BitVec 32 := 6#32
  let v549 : BitVec 32 := Scalar.addi v2 c6_i32_371
  let c32_i32_372 : BitVec 32 := 32#32
  let c0_i32_373 : BitVec 32 := 0#32
  let v550 : BitVec 1 := Scalar.cmpi .eq c32_i32_372 c0_i32_373
  let c1_i32_374 : BitVec 32 := 1#32
  let v551 : BitVec 32 := Scalar.select v550 c1_i32_374 c32_i32_372
  let v552 : BitVec 32 := Scalar.remsi v549 v551
  let c0_i32_376 : BitVec 32 := 0#32
  let v554 : BitVec 1 := Scalar.cmpi .slt v552 c0_i32_376
  let c0_i32_377 : BitVec 32 := 0#32
  let v555 : BitVec 1 := Scalar.cmpi .slt v551 c0_i32_377
  let v556 : BitVec 1 := Scalar.xori v554 v555
  let c0_i32_375 : BitVec 32 := 0#32
  let v553 : BitVec 1 := Scalar.cmpi .ne v552 c0_i32_375
  let v557 : BitVec 1 := Scalar.andi v556 v553
  let v558 : BitVec 32 := Scalar.addi v552 v551
  let v559 : BitVec 32 := Scalar.select v557 v558 v552
  let c1_i32_379 : BitVec 32 := 1#32
  let v561 : BitVec 32 := Scalar.muli v559 c1_i32_379
  let v562 : BitVec 32 := Scalar.addi c0_i32_380 v561
  v562.toNat
def k0_dev39 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_384 : BitVec 32 := 7#32
  let v570 : BitVec 32 := Scalar.addi v2 c7_i32_384
  let c32_i32_385 : BitVec 32 := 32#32
  let c0_i32_386 : BitVec 32 := 0#32
  let v571 : BitVec 1 := Scalar.cmpi .eq c32_i32_385 c0_i32_386
  let c1_i32_387 : BitVec 32 := 1#32
  let v572 : BitVec 32 := Scalar.select v571 c1_i32_387 c32_i32_385
  let v573 : BitVec 32 := Scalar.remsi v570 v572
  let c0_i32_389 : BitVec 32 := 0#32
  let v575 : BitVec 1 := Scalar.cmpi .slt v573 c0_i32_389
  let c0_i32_390 : BitVec 32 := 0#32
  let v576 : BitVec 1 := Scalar.cmpi .slt v572 c0_i32_390
  let v577 : BitVec 1 := Scalar.xori v575 v576
  let c0_i32_388 : BitVec 32 := 0#32
  let v574 : BitVec 1 := Scalar.cmpi .ne v573 c0_i32_388
  let v578 : BitVec 1 := Scalar.andi v577 v574
  let v579 : BitVec 32 := Scalar.addi v573 v572
  let v580 : BitVec 32 := Scalar.select v578 v579 v573
  let c1_i32_392 : BitVec 32 := 1#32
  let v582 : BitVec 32 := Scalar.muli v580 c1_i32_392
  let v583 : BitVec 32 := Scalar.addi c0_i32_393 v582
  v583.toNat
def k0_dev40 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_397 : BitVec 32 := 8#32
  let v591 : BitVec 32 := Scalar.addi v2 c8_i32_397
  let c32_i32_398 : BitVec 32 := 32#32
  let c0_i32_399 : BitVec 32 := 0#32
  let v592 : BitVec 1 := Scalar.cmpi .eq c32_i32_398 c0_i32_399
  let c1_i32_400 : BitVec 32 := 1#32
  let v593 : BitVec 32 := Scalar.select v592 c1_i32_400 c32_i32_398
  let v594 : BitVec 32 := Scalar.remsi v591 v593
  let c0_i32_402 : BitVec 32 := 0#32
  let v596 : BitVec 1 := Scalar.cmpi .slt v594 c0_i32_402
  let c0_i32_403 : BitVec 32 := 0#32
  let v597 : BitVec 1 := Scalar.cmpi .slt v593 c0_i32_403
  let v598 : BitVec 1 := Scalar.xori v596 v597
  let c0_i32_401 : BitVec 32 := 0#32
  let v595 : BitVec 1 := Scalar.cmpi .ne v594 c0_i32_401
  let v599 : BitVec 1 := Scalar.andi v598 v595
  let v600 : BitVec 32 := Scalar.addi v594 v593
  let v601 : BitVec 32 := Scalar.select v599 v600 v594
  let c1_i32_405 : BitVec 32 := 1#32
  let v603 : BitVec 32 := Scalar.muli v601 c1_i32_405
  let v604 : BitVec 32 := Scalar.addi c0_i32_406 v603
  v604.toNat
def k0_dev41 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_410 : BitVec 32 := 9#32
  let v612 : BitVec 32 := Scalar.addi v2 c9_i32_410
  let c32_i32_411 : BitVec 32 := 32#32
  let c0_i32_412 : BitVec 32 := 0#32
  let v613 : BitVec 1 := Scalar.cmpi .eq c32_i32_411 c0_i32_412
  let c1_i32_413 : BitVec 32 := 1#32
  let v614 : BitVec 32 := Scalar.select v613 c1_i32_413 c32_i32_411
  let v615 : BitVec 32 := Scalar.remsi v612 v614
  let c0_i32_415 : BitVec 32 := 0#32
  let v617 : BitVec 1 := Scalar.cmpi .slt v615 c0_i32_415
  let c0_i32_416 : BitVec 32 := 0#32
  let v618 : BitVec 1 := Scalar.cmpi .slt v614 c0_i32_416
  let v619 : BitVec 1 := Scalar.xori v617 v618
  let c0_i32_414 : BitVec 32 := 0#32
  let v616 : BitVec 1 := Scalar.cmpi .ne v615 c0_i32_414
  let v620 : BitVec 1 := Scalar.andi v619 v616
  let v621 : BitVec 32 := Scalar.addi v615 v614
  let v622 : BitVec 32 := Scalar.select v620 v621 v615
  let c1_i32_418 : BitVec 32 := 1#32
  let v624 : BitVec 32 := Scalar.muli v622 c1_i32_418
  let v625 : BitVec 32 := Scalar.addi c0_i32_419 v624
  v625.toNat
def k0_dev42 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_423 : BitVec 32 := 10#32
  let v633 : BitVec 32 := Scalar.addi v2 c10_i32_423
  let c32_i32_424 : BitVec 32 := 32#32
  let c0_i32_425 : BitVec 32 := 0#32
  let v634 : BitVec 1 := Scalar.cmpi .eq c32_i32_424 c0_i32_425
  let c1_i32_426 : BitVec 32 := 1#32
  let v635 : BitVec 32 := Scalar.select v634 c1_i32_426 c32_i32_424
  let v636 : BitVec 32 := Scalar.remsi v633 v635
  let c0_i32_428 : BitVec 32 := 0#32
  let v638 : BitVec 1 := Scalar.cmpi .slt v636 c0_i32_428
  let c0_i32_429 : BitVec 32 := 0#32
  let v639 : BitVec 1 := Scalar.cmpi .slt v635 c0_i32_429
  let v640 : BitVec 1 := Scalar.xori v638 v639
  let c0_i32_427 : BitVec 32 := 0#32
  let v637 : BitVec 1 := Scalar.cmpi .ne v636 c0_i32_427
  let v641 : BitVec 1 := Scalar.andi v640 v637
  let v642 : BitVec 32 := Scalar.addi v636 v635
  let v643 : BitVec 32 := Scalar.select v641 v642 v636
  let c1_i32_431 : BitVec 32 := 1#32
  let v645 : BitVec 32 := Scalar.muli v643 c1_i32_431
  let v646 : BitVec 32 := Scalar.addi c0_i32_432 v645
  v646.toNat
def k0_dev43 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_436 : BitVec 32 := 11#32
  let v654 : BitVec 32 := Scalar.addi v2 c11_i32_436
  let c32_i32_437 : BitVec 32 := 32#32
  let c0_i32_438 : BitVec 32 := 0#32
  let v655 : BitVec 1 := Scalar.cmpi .eq c32_i32_437 c0_i32_438
  let c1_i32_439 : BitVec 32 := 1#32
  let v656 : BitVec 32 := Scalar.select v655 c1_i32_439 c32_i32_437
  let v657 : BitVec 32 := Scalar.remsi v654 v656
  let c0_i32_441 : BitVec 32 := 0#32
  let v659 : BitVec 1 := Scalar.cmpi .slt v657 c0_i32_441
  let c0_i32_442 : BitVec 32 := 0#32
  let v660 : BitVec 1 := Scalar.cmpi .slt v656 c0_i32_442
  let v661 : BitVec 1 := Scalar.xori v659 v660
  let c0_i32_440 : BitVec 32 := 0#32
  let v658 : BitVec 1 := Scalar.cmpi .ne v657 c0_i32_440
  let v662 : BitVec 1 := Scalar.andi v661 v658
  let v663 : BitVec 32 := Scalar.addi v657 v656
  let v664 : BitVec 32 := Scalar.select v662 v663 v657
  let c1_i32_444 : BitVec 32 := 1#32
  let v666 : BitVec 32 := Scalar.muli v664 c1_i32_444
  let v667 : BitVec 32 := Scalar.addi c0_i32_445 v666
  v667.toNat
def k0_dev44 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_449 : BitVec 32 := 12#32
  let v675 : BitVec 32 := Scalar.addi v2 c12_i32_449
  let c32_i32_450 : BitVec 32 := 32#32
  let c0_i32_451 : BitVec 32 := 0#32
  let v676 : BitVec 1 := Scalar.cmpi .eq c32_i32_450 c0_i32_451
  let c1_i32_452 : BitVec 32 := 1#32
  let v677 : BitVec 32 := Scalar.select v676 c1_i32_452 c32_i32_450
  let v678 : BitVec 32 := Scalar.remsi v675 v677
  let c0_i32_454 : BitVec 32 := 0#32
  let v680 : BitVec 1 := Scalar.cmpi .slt v678 c0_i32_454
  let c0_i32_455 : BitVec 32 := 0#32
  let v681 : BitVec 1 := Scalar.cmpi .slt v677 c0_i32_455
  let v682 : BitVec 1 := Scalar.xori v680 v681
  let c0_i32_453 : BitVec 32 := 0#32
  let v679 : BitVec 1 := Scalar.cmpi .ne v678 c0_i32_453
  let v683 : BitVec 1 := Scalar.andi v682 v679
  let v684 : BitVec 32 := Scalar.addi v678 v677
  let v685 : BitVec 32 := Scalar.select v683 v684 v678
  let c1_i32_457 : BitVec 32 := 1#32
  let v687 : BitVec 32 := Scalar.muli v685 c1_i32_457
  let v688 : BitVec 32 := Scalar.addi c0_i32_458 v687
  v688.toNat
def k0_dev45 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_462 : BitVec 32 := 13#32
  let v696 : BitVec 32 := Scalar.addi v2 c13_i32_462
  let c32_i32_463 : BitVec 32 := 32#32
  let c0_i32_464 : BitVec 32 := 0#32
  let v697 : BitVec 1 := Scalar.cmpi .eq c32_i32_463 c0_i32_464
  let c1_i32_465 : BitVec 32 := 1#32
  let v698 : BitVec 32 := Scalar.select v697 c1_i32_465 c32_i32_463
  let v699 : BitVec 32 := Scalar.remsi v696 v698
  let c0_i32_467 : BitVec 32 := 0#32
  let v701 : BitVec 1 := Scalar.cmpi .slt v699 c0_i32_467
  let c0_i32_468 : BitVec 32 := 0#32
  let v702 : BitVec 1 := Scalar.cmpi .slt v698 c0_i32_468
  let v703 : BitVec 1 := Scalar.xori v701 v702
  let c0_i32_466 : BitVec 32 := 0#32
  let v700 : BitVec 1 := Scalar.cmpi .ne v699 c0_i32_466
  let v704 : BitVec 1 := Scalar.andi v703 v700
  let v705 : BitVec 32 := Scalar.addi v699 v698
  let v706 : BitVec 32 := Scalar.select v704 v705 v699
  let c1_i32_470 : BitVec 32 := 1#32
  let v708 : BitVec 32 := Scalar.muli v706 c1_i32_470
  let v709 : BitVec 32 := Scalar.addi c0_i32_471 v708
  v709.toNat
def k0_dev46 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_475 : BitVec 32 := 14#32
  let v717 : BitVec 32 := Scalar.addi v2 c14_i32_475
  let c32_i32_476 : BitVec 32 := 32#32
  let c0_i32_477 : BitVec 32 := 0#32
  let v718 : BitVec 1 := Scalar.cmpi .eq c32_i32_476 c0_i32_477
  let c1_i32_478 : BitVec 32 := 1#32
  let v719 : BitVec 32 := Scalar.select v718 c1_i32_478 c32_i32_476
  let v720 : BitVec 32 := Scalar.remsi v717 v719
  let c0_i32_480 : BitVec 32 := 0#32
  let v722 : BitVec 1 := Scalar.cmpi .slt v720 c0_i32_480
  let c0_i32_481 : BitVec 32 := 0#32
  let v723 : BitVec 1 := Scalar.cmpi .slt v719 c0_i32_481
  let v724 : BitVec 1 := Scalar.xori v722 v723
  let c0_i32_479 : BitVec 32 := 0#32
  let v721 : BitVec 1 := Scalar.cmpi .ne v720 c0_i32_479
  let v725 : BitVec 1 := Scalar.andi v724 v721
  let v726 : BitVec 32 := Scalar.addi v720 v719
  let v727 : BitVec 32 := Scalar.select v725 v726 v720
  let c1_i32_483 : BitVec 32 := 1#32
  let v729 : BitVec 32 := Scalar.muli v727 c1_i32_483
  let v730 : BitVec 32 := Scalar.addi c0_i32_484 v729
  v730.toNat
def k0_dev47 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_488 : BitVec 32 := 15#32
  let v738 : BitVec 32 := Scalar.addi v2 c15_i32_488
  let c32_i32_489 : BitVec 32 := 32#32
  let c0_i32_490 : BitVec 32 := 0#32
  let v739 : BitVec 1 := Scalar.cmpi .eq c32_i32_489 c0_i32_490
  let c1_i32_491 : BitVec 32 := 1#32
  let v740 : BitVec 32 := Scalar.select v739 c1_i32_491 c32_i32_489
  let v741 : BitVec 32 := Scalar.remsi v738 v740
  let c0_i32_493 : BitVec 32 := 0#32
  let v743 : BitVec 1 := Scalar.cmpi .slt v741 c0_i32_493
  let c0_i32_494 : BitVec 32 := 0#32
  let v744 : BitVec 1 := Scalar.cmpi .slt v740 c0_i32_494
  let v745 : BitVec 1 := Scalar.xori v743 v744
  let c0_i32_492 : BitVec 32 := 0#32
  let v742 : BitVec 1 := Scalar.cmpi .ne v741 c0_i32_492
  let v746 : BitVec 1 := Scalar.andi v745 v742
  let v747 : BitVec 32 := Scalar.addi v741 v740
  let v748 : BitVec 32 := Scalar.select v746 v747 v741
  let c1_i32_496 : BitVec 32 := 1#32
  let v750 : BitVec 32 := Scalar.muli v748 c1_i32_496
  let v751 : BitVec 32 := Scalar.addi c0_i32_497 v750
  v751.toNat
def k0_dev48 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_501 : BitVec 32 := 16#32
  let v759 : BitVec 32 := Scalar.addi v2 c16_i32_501
  let c32_i32_502 : BitVec 32 := 32#32
  let c0_i32_503 : BitVec 32 := 0#32
  let v760 : BitVec 1 := Scalar.cmpi .eq c32_i32_502 c0_i32_503
  let c1_i32_504 : BitVec 32 := 1#32
  let v761 : BitVec 32 := Scalar.select v760 c1_i32_504 c32_i32_502
  let v762 : BitVec 32 := Scalar.remsi v759 v761
  let c0_i32_506 : BitVec 32 := 0#32
  let v764 : BitVec 1 := Scalar.cmpi .slt v762 c0_i32_506
  let c0_i32_507 : BitVec 32 := 0#32
  let v765 : BitVec 1 := Scalar.cmpi .slt v761 c0_i32_507
  let v766 : BitVec 1 := Scalar.xori v764 v765
  let c0_i32_505 : BitVec 32 := 0#32
  let v763 : BitVec 1 := Scalar.cmpi .ne v762 c0_i32_505
  let v767 : BitVec 1 := Scalar.andi v766 v763
  let v768 : BitVec 32 := Scalar.addi v762 v761
  let v769 : BitVec 32 := Scalar.select v767 v768 v762
  let c1_i32_509 : BitVec 32 := 1#32
  let v771 : BitVec 32 := Scalar.muli v769 c1_i32_509
  let v772 : BitVec 32 := Scalar.addi c0_i32_510 v771
  v772.toNat
def k0_dev49 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_514 : BitVec 32 := 17#32
  let v780 : BitVec 32 := Scalar.addi v2 c17_i32_514
  let c32_i32_515 : BitVec 32 := 32#32
  let c0_i32_516 : BitVec 32 := 0#32
  let v781 : BitVec 1 := Scalar.cmpi .eq c32_i32_515 c0_i32_516
  let c1_i32_517 : BitVec 32 := 1#32
  let v782 : BitVec 32 := Scalar.select v781 c1_i32_517 c32_i32_515
  let v783 : BitVec 32 := Scalar.remsi v780 v782
  let c0_i32_519 : BitVec 32 := 0#32
  let v785 : BitVec 1 := Scalar.cmpi .slt v783 c0_i32_519
  let c0_i32_520 : BitVec 32 := 0#32
  let v786 : BitVec 1 := Scalar.cmpi .slt v782 c0_i32_520
  let v787 : BitVec 1 := Scalar.xori v785 v786
  let c0_i32_518 : BitVec 32 := 0#32
  let v784 : BitVec 1 := Scalar.cmpi .ne v783 c0_i32_518
  let v788 : BitVec 1 := Scalar.andi v787 v784
  let v789 : BitVec 32 := Scalar.addi v783 v782
  let v790 : BitVec 32 := Scalar.select v788 v789 v783
  let c1_i32_522 : BitVec 32 := 1#32
  let v792 : BitVec 32 := Scalar.muli v790 c1_i32_522
  let v793 : BitVec 32 := Scalar.addi c0_i32_523 v792
  v793.toNat
def k0_dev50 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_527 : BitVec 32 := 18#32
  let v801 : BitVec 32 := Scalar.addi v2 c18_i32_527
  let c32_i32_528 : BitVec 32 := 32#32
  let c0_i32_529 : BitVec 32 := 0#32
  let v802 : BitVec 1 := Scalar.cmpi .eq c32_i32_528 c0_i32_529
  let c1_i32_530 : BitVec 32 := 1#32
  let v803 : BitVec 32 := Scalar.select v802 c1_i32_530 c32_i32_528
  let v804 : BitVec 32 := Scalar.remsi v801 v803
  let c0_i32_532 : BitVec 32 := 0#32
  let v806 : BitVec 1 := Scalar.cmpi .slt v804 c0_i32_532
  let c0_i32_533 : BitVec 32 := 0#32
  let v807 : BitVec 1 := Scalar.cmpi .slt v803 c0_i32_533
  let v808 : BitVec 1 := Scalar.xori v806 v807
  let c0_i32_531 : BitVec 32 := 0#32
  let v805 : BitVec 1 := Scalar.cmpi .ne v804 c0_i32_531
  let v809 : BitVec 1 := Scalar.andi v808 v805
  let v810 : BitVec 32 := Scalar.addi v804 v803
  let v811 : BitVec 32 := Scalar.select v809 v810 v804
  let c1_i32_535 : BitVec 32 := 1#32
  let v813 : BitVec 32 := Scalar.muli v811 c1_i32_535
  let v814 : BitVec 32 := Scalar.addi c0_i32_536 v813
  v814.toNat
def k0_dev51 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_540 : BitVec 32 := 19#32
  let v822 : BitVec 32 := Scalar.addi v2 c19_i32_540
  let c32_i32_541 : BitVec 32 := 32#32
  let c0_i32_542 : BitVec 32 := 0#32
  let v823 : BitVec 1 := Scalar.cmpi .eq c32_i32_541 c0_i32_542
  let c1_i32_543 : BitVec 32 := 1#32
  let v824 : BitVec 32 := Scalar.select v823 c1_i32_543 c32_i32_541
  let v825 : BitVec 32 := Scalar.remsi v822 v824
  let c0_i32_545 : BitVec 32 := 0#32
  let v827 : BitVec 1 := Scalar.cmpi .slt v825 c0_i32_545
  let c0_i32_546 : BitVec 32 := 0#32
  let v828 : BitVec 1 := Scalar.cmpi .slt v824 c0_i32_546
  let v829 : BitVec 1 := Scalar.xori v827 v828
  let c0_i32_544 : BitVec 32 := 0#32
  let v826 : BitVec 1 := Scalar.cmpi .ne v825 c0_i32_544
  let v830 : BitVec 1 := Scalar.andi v829 v826
  let v831 : BitVec 32 := Scalar.addi v825 v824
  let v832 : BitVec 32 := Scalar.select v830 v831 v825
  let c1_i32_548 : BitVec 32 := 1#32
  let v834 : BitVec 32 := Scalar.muli v832 c1_i32_548
  let v835 : BitVec 32 := Scalar.addi c0_i32_549 v834
  v835.toNat
def k0_dev52 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_553 : BitVec 32 := 20#32
  let v843 : BitVec 32 := Scalar.addi v2 c20_i32_553
  let c32_i32_554 : BitVec 32 := 32#32
  let c0_i32_555 : BitVec 32 := 0#32
  let v844 : BitVec 1 := Scalar.cmpi .eq c32_i32_554 c0_i32_555
  let c1_i32_556 : BitVec 32 := 1#32
  let v845 : BitVec 32 := Scalar.select v844 c1_i32_556 c32_i32_554
  let v846 : BitVec 32 := Scalar.remsi v843 v845
  let c0_i32_558 : BitVec 32 := 0#32
  let v848 : BitVec 1 := Scalar.cmpi .slt v846 c0_i32_558
  let c0_i32_559 : BitVec 32 := 0#32
  let v849 : BitVec 1 := Scalar.cmpi .slt v845 c0_i32_559
  let v850 : BitVec 1 := Scalar.xori v848 v849
  let c0_i32_557 : BitVec 32 := 0#32
  let v847 : BitVec 1 := Scalar.cmpi .ne v846 c0_i32_557
  let v851 : BitVec 1 := Scalar.andi v850 v847
  let v852 : BitVec 32 := Scalar.addi v846 v845
  let v853 : BitVec 32 := Scalar.select v851 v852 v846
  let c1_i32_561 : BitVec 32 := 1#32
  let v855 : BitVec 32 := Scalar.muli v853 c1_i32_561
  let v856 : BitVec 32 := Scalar.addi c0_i32_562 v855
  v856.toNat
def k0_dev53 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_566 : BitVec 32 := 21#32
  let v864 : BitVec 32 := Scalar.addi v2 c21_i32_566
  let c32_i32_567 : BitVec 32 := 32#32
  let c0_i32_568 : BitVec 32 := 0#32
  let v865 : BitVec 1 := Scalar.cmpi .eq c32_i32_567 c0_i32_568
  let c1_i32_569 : BitVec 32 := 1#32
  let v866 : BitVec 32 := Scalar.select v865 c1_i32_569 c32_i32_567
  let v867 : BitVec 32 := Scalar.remsi v864 v866
  let c0_i32_571 : BitVec 32 := 0#32
  let v869 : BitVec 1 := Scalar.cmpi .slt v867 c0_i32_571
  let c0_i32_572 : BitVec 32 := 0#32
  let v870 : BitVec 1 := Scalar.cmpi .slt v866 c0_i32_572
  let v871 : BitVec 1 := Scalar.xori v869 v870
  let c0_i32_570 : BitVec 32 := 0#32
  let v868 : BitVec 1 := Scalar.cmpi .ne v867 c0_i32_570
  let v872 : BitVec 1 := Scalar.andi v871 v868
  let v873 : BitVec 32 := Scalar.addi v867 v866
  let v874 : BitVec 32 := Scalar.select v872 v873 v867
  let c1_i32_574 : BitVec 32 := 1#32
  let v876 : BitVec 32 := Scalar.muli v874 c1_i32_574
  let v877 : BitVec 32 := Scalar.addi c0_i32_575 v876
  v877.toNat
def k0_dev54 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_579 : BitVec 32 := 22#32
  let v885 : BitVec 32 := Scalar.addi v2 c22_i32_579
  let c32_i32_580 : BitVec 32 := 32#32
  let c0_i32_581 : BitVec 32 := 0#32
  let v886 : BitVec 1 := Scalar.cmpi .eq c32_i32_580 c0_i32_581
  let c1_i32_582 : BitVec 32 := 1#32
  let v887 : BitVec 32 := Scalar.select v886 c1_i32_582 c32_i32_580
  let v888 : BitVec 32 := Scalar.remsi v885 v887
  let c0_i32_584 : BitVec 32 := 0#32
  let v890 : BitVec 1 := Scalar.cmpi .slt v888 c0_i32_584
  let c0_i32_585 : BitVec 32 := 0#32
  let v891 : BitVec 1 := Scalar.cmpi .slt v887 c0_i32_585
  let v892 : BitVec 1 := Scalar.xori v890 v891
  let c0_i32_583 : BitVec 32 := 0#32
  let v889 : BitVec 1 := Scalar.cmpi .ne v888 c0_i32_583
  let v893 : BitVec 1 := Scalar.andi v892 v889
  let v894 : BitVec 32 := Scalar.addi v888 v887
  let v895 : BitVec 32 := Scalar.select v893 v894 v888
  let c1_i32_587 : BitVec 32 := 1#32
  let v897 : BitVec 32 := Scalar.muli v895 c1_i32_587
  let v898 : BitVec 32 := Scalar.addi c0_i32_588 v897
  v898.toNat
def k0_dev55 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_592 : BitVec 32 := 23#32
  let v906 : BitVec 32 := Scalar.addi v2 c23_i32_592
  let c32_i32_593 : BitVec 32 := 32#32
  let c0_i32_594 : BitVec 32 := 0#32
  let v907 : BitVec 1 := Scalar.cmpi .eq c32_i32_593 c0_i32_594
  let c1_i32_595 : BitVec 32 := 1#32
  let v908 : BitVec 32 := Scalar.select v907 c1_i32_595 c32_i32_593
  let v909 : BitVec 32 := Scalar.remsi v906 v908
  let c0_i32_597 : BitVec 32 := 0#32
  let v911 : BitVec 1 := Scalar.cmpi .slt v909 c0_i32_597
  let c0_i32_598 : BitVec 32 := 0#32
  let v912 : BitVec 1 := Scalar.cmpi .slt v908 c0_i32_598
  let v913 : BitVec 1 := Scalar.xori v911 v912
  let c0_i32_596 : BitVec 32 := 0#32
  let v910 : BitVec 1 := Scalar.cmpi .ne v909 c0_i32_596
  let v914 : BitVec 1 := Scalar.andi v913 v910
  let v915 : BitVec 32 := Scalar.addi v909 v908
  let v916 : BitVec 32 := Scalar.select v914 v915 v909
  let c1_i32_600 : BitVec 32 := 1#32
  let v918 : BitVec 32 := Scalar.muli v916 c1_i32_600
  let v919 : BitVec 32 := Scalar.addi c0_i32_601 v918
  v919.toNat
def k0_dev56 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_605 : BitVec 32 := 24#32
  let v927 : BitVec 32 := Scalar.addi v2 c24_i32_605
  let c32_i32_606 : BitVec 32 := 32#32
  let c0_i32_607 : BitVec 32 := 0#32
  let v928 : BitVec 1 := Scalar.cmpi .eq c32_i32_606 c0_i32_607
  let c1_i32_608 : BitVec 32 := 1#32
  let v929 : BitVec 32 := Scalar.select v928 c1_i32_608 c32_i32_606
  let v930 : BitVec 32 := Scalar.remsi v927 v929
  let c0_i32_610 : BitVec 32 := 0#32
  let v932 : BitVec 1 := Scalar.cmpi .slt v930 c0_i32_610
  let c0_i32_611 : BitVec 32 := 0#32
  let v933 : BitVec 1 := Scalar.cmpi .slt v929 c0_i32_611
  let v934 : BitVec 1 := Scalar.xori v932 v933
  let c0_i32_609 : BitVec 32 := 0#32
  let v931 : BitVec 1 := Scalar.cmpi .ne v930 c0_i32_609
  let v935 : BitVec 1 := Scalar.andi v934 v931
  let v936 : BitVec 32 := Scalar.addi v930 v929
  let v937 : BitVec 32 := Scalar.select v935 v936 v930
  let c1_i32_613 : BitVec 32 := 1#32
  let v939 : BitVec 32 := Scalar.muli v937 c1_i32_613
  let v940 : BitVec 32 := Scalar.addi c0_i32_614 v939
  v940.toNat
def k0_dev57 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_618 : BitVec 32 := 25#32
  let v948 : BitVec 32 := Scalar.addi v2 c25_i32_618
  let c32_i32_619 : BitVec 32 := 32#32
  let c0_i32_620 : BitVec 32 := 0#32
  let v949 : BitVec 1 := Scalar.cmpi .eq c32_i32_619 c0_i32_620
  let c1_i32_621 : BitVec 32 := 1#32
  let v950 : BitVec 32 := Scalar.select v949 c1_i32_621 c32_i32_619
  let v951 : BitVec 32 := Scalar.remsi v948 v950
  let c0_i32_623 : BitVec 32 := 0#32
  let v953 : BitVec 1 := Scalar.cmpi .slt v951 c0_i32_623
  let c0_i32_624 : BitVec 32 := 0#32
  let v954 : BitVec 1 := Scalar.cmpi .slt v950 c0_i32_624
  let v955 : BitVec 1 := Scalar.xori v953 v954
  let c0_i32_622 : BitVec 32 := 0#32
  let v952 : BitVec 1 := Scalar.cmpi .ne v951 c0_i32_622
  let v956 : BitVec 1 := Scalar.andi v955 v952
  let v957 : BitVec 32 := Scalar.addi v951 v950
  let v958 : BitVec 32 := Scalar.select v956 v957 v951
  let c1_i32_626 : BitVec 32 := 1#32
  let v960 : BitVec 32 := Scalar.muli v958 c1_i32_626
  let v961 : BitVec 32 := Scalar.addi c0_i32_627 v960
  v961.toNat
def k0_dev58 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_631 : BitVec 32 := 26#32
  let v969 : BitVec 32 := Scalar.addi v2 c26_i32_631
  let c32_i32_632 : BitVec 32 := 32#32
  let c0_i32_633 : BitVec 32 := 0#32
  let v970 : BitVec 1 := Scalar.cmpi .eq c32_i32_632 c0_i32_633
  let c1_i32_634 : BitVec 32 := 1#32
  let v971 : BitVec 32 := Scalar.select v970 c1_i32_634 c32_i32_632
  let v972 : BitVec 32 := Scalar.remsi v969 v971
  let c0_i32_636 : BitVec 32 := 0#32
  let v974 : BitVec 1 := Scalar.cmpi .slt v972 c0_i32_636
  let c0_i32_637 : BitVec 32 := 0#32
  let v975 : BitVec 1 := Scalar.cmpi .slt v971 c0_i32_637
  let v976 : BitVec 1 := Scalar.xori v974 v975
  let c0_i32_635 : BitVec 32 := 0#32
  let v973 : BitVec 1 := Scalar.cmpi .ne v972 c0_i32_635
  let v977 : BitVec 1 := Scalar.andi v976 v973
  let v978 : BitVec 32 := Scalar.addi v972 v971
  let v979 : BitVec 32 := Scalar.select v977 v978 v972
  let c1_i32_639 : BitVec 32 := 1#32
  let v981 : BitVec 32 := Scalar.muli v979 c1_i32_639
  let v982 : BitVec 32 := Scalar.addi c0_i32_640 v981
  v982.toNat
def k0_dev59 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_644 : BitVec 32 := 27#32
  let v990 : BitVec 32 := Scalar.addi v2 c27_i32_644
  let c32_i32_645 : BitVec 32 := 32#32
  let c0_i32_646 : BitVec 32 := 0#32
  let v991 : BitVec 1 := Scalar.cmpi .eq c32_i32_645 c0_i32_646
  let c1_i32_647 : BitVec 32 := 1#32
  let v992 : BitVec 32 := Scalar.select v991 c1_i32_647 c32_i32_645
  let v993 : BitVec 32 := Scalar.remsi v990 v992
  let c0_i32_649 : BitVec 32 := 0#32
  let v995 : BitVec 1 := Scalar.cmpi .slt v993 c0_i32_649
  let c0_i32_650 : BitVec 32 := 0#32
  let v996 : BitVec 1 := Scalar.cmpi .slt v992 c0_i32_650
  let v997 : BitVec 1 := Scalar.xori v995 v996
  let c0_i32_648 : BitVec 32 := 0#32
  let v994 : BitVec 1 := Scalar.cmpi .ne v993 c0_i32_648
  let v998 : BitVec 1 := Scalar.andi v997 v994
  let v999 : BitVec 32 := Scalar.addi v993 v992
  let v1000 : BitVec 32 := Scalar.select v998 v999 v993
  let c1_i32_652 : BitVec 32 := 1#32
  let v1002 : BitVec 32 := Scalar.muli v1000 c1_i32_652
  let v1003 : BitVec 32 := Scalar.addi c0_i32_653 v1002
  v1003.toNat
def k0_dev60 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_657 : BitVec 32 := 28#32
  let v1011 : BitVec 32 := Scalar.addi v2 c28_i32_657
  let c32_i32_658 : BitVec 32 := 32#32
  let c0_i32_659 : BitVec 32 := 0#32
  let v1012 : BitVec 1 := Scalar.cmpi .eq c32_i32_658 c0_i32_659
  let c1_i32_660 : BitVec 32 := 1#32
  let v1013 : BitVec 32 := Scalar.select v1012 c1_i32_660 c32_i32_658
  let v1014 : BitVec 32 := Scalar.remsi v1011 v1013
  let c0_i32_662 : BitVec 32 := 0#32
  let v1016 : BitVec 1 := Scalar.cmpi .slt v1014 c0_i32_662
  let c0_i32_663 : BitVec 32 := 0#32
  let v1017 : BitVec 1 := Scalar.cmpi .slt v1013 c0_i32_663
  let v1018 : BitVec 1 := Scalar.xori v1016 v1017
  let c0_i32_661 : BitVec 32 := 0#32
  let v1015 : BitVec 1 := Scalar.cmpi .ne v1014 c0_i32_661
  let v1019 : BitVec 1 := Scalar.andi v1018 v1015
  let v1020 : BitVec 32 := Scalar.addi v1014 v1013
  let v1021 : BitVec 32 := Scalar.select v1019 v1020 v1014
  let c1_i32_665 : BitVec 32 := 1#32
  let v1023 : BitVec 32 := Scalar.muli v1021 c1_i32_665
  let v1024 : BitVec 32 := Scalar.addi c0_i32_666 v1023
  v1024.toNat
def k0_dev61 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_670 : BitVec 32 := 29#32
  let v1032 : BitVec 32 := Scalar.addi v2 c29_i32_670
  let c32_i32_671 : BitVec 32 := 32#32
  let c0_i32_672 : BitVec 32 := 0#32
  let v1033 : BitVec 1 := Scalar.cmpi .eq c32_i32_671 c0_i32_672
  let c1_i32_673 : BitVec 32 := 1#32
  let v1034 : BitVec 32 := Scalar.select v1033 c1_i32_673 c32_i32_671
  let v1035 : BitVec 32 := Scalar.remsi v1032 v1034
  let c0_i32_675 : BitVec 32 := 0#32
  let v1037 : BitVec 1 := Scalar.cmpi .slt v1035 c0_i32_675
  let c0_i32_676 : BitVec 32 := 0#32
  let v1038 : BitVec 1 := Scalar.cmpi .slt v1034 c0_i32_676
  let v1039 : BitVec 1 := Scalar.xori v1037 v1038
  let c0_i32_674 : BitVec 32 := 0#32
  let v1036 : BitVec 1 := Scalar.cmpi .ne v1035 c0_i32_674
  let v1040 : BitVec 1 := Scalar.andi v1039 v1036
  let v1041 : BitVec 32 := Scalar.addi v1035 v1034
  let v1042 : BitVec 32 := Scalar.select v1040 v1041 v1035
  let c1_i32_678 : BitVec 32 := 1#32
  let v1044 : BitVec 32 := Scalar.muli v1042 c1_i32_678
  let v1045 : BitVec 32 := Scalar.addi c0_i32_679 v1044
  v1045.toNat
def k0_dev62 (d0 : Dev nD) : Nat :=
  let c0_i32_692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_683 : BitVec 32 := 30#32
  let v1053 : BitVec 32 := Scalar.addi v2 c30_i32_683
  let c32_i32_684 : BitVec 32 := 32#32
  let c0_i32_685 : BitVec 32 := 0#32
  let v1054 : BitVec 1 := Scalar.cmpi .eq c32_i32_684 c0_i32_685
  let c1_i32_686 : BitVec 32 := 1#32
  let v1055 : BitVec 32 := Scalar.select v1054 c1_i32_686 c32_i32_684
  let v1056 : BitVec 32 := Scalar.remsi v1053 v1055
  let c0_i32_688 : BitVec 32 := 0#32
  let v1058 : BitVec 1 := Scalar.cmpi .slt v1056 c0_i32_688
  let c0_i32_689 : BitVec 32 := 0#32
  let v1059 : BitVec 1 := Scalar.cmpi .slt v1055 c0_i32_689
  let v1060 : BitVec 1 := Scalar.xori v1058 v1059
  let c0_i32_687 : BitVec 32 := 0#32
  let v1057 : BitVec 1 := Scalar.cmpi .ne v1056 c0_i32_687
  let v1061 : BitVec 1 := Scalar.andi v1060 v1057
  let v1062 : BitVec 32 := Scalar.addi v1056 v1055
  let v1063 : BitVec 32 := Scalar.select v1061 v1062 v1056
  let c1_i32_691 : BitVec 32 := 1#32
  let v1065 : BitVec 32 := Scalar.muli v1063 c1_i32_691
  let v1066 : BitVec 32 := Scalar.addi c0_i32_692 v1065
  v1066.toNat
def k0_dev63 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_696 : BitVec 32 := 31#32
  let v1074 : BitVec 32 := Scalar.addi v2 c31_i32_696
  let c32_i32_697 : BitVec 32 := 32#32
  let c0_i32_698 : BitVec 32 := 0#32
  let v1075 : BitVec 1 := Scalar.cmpi .eq c32_i32_697 c0_i32_698
  let c1_i32_699 : BitVec 32 := 1#32
  let v1076 : BitVec 32 := Scalar.select v1075 c1_i32_699 c32_i32_697
  let v1077 : BitVec 32 := Scalar.remsi v1074 v1076
  let c0_i32_701 : BitVec 32 := 0#32
  let v1079 : BitVec 1 := Scalar.cmpi .slt v1077 c0_i32_701
  let c0_i32_702 : BitVec 32 := 0#32
  let v1080 : BitVec 1 := Scalar.cmpi .slt v1076 c0_i32_702
  let v1081 : BitVec 1 := Scalar.xori v1079 v1080
  let c0_i32_700 : BitVec 32 := 0#32
  let v1078 : BitVec 1 := Scalar.cmpi .ne v1077 c0_i32_700
  let v1082 : BitVec 1 := Scalar.andi v1081 v1078
  let v1083 : BitVec 32 := Scalar.addi v1077 v1076
  let v1084 : BitVec 32 := Scalar.select v1082 v1083 v1077
  let c1_i32_704 : BitVec 32 := 1#32
  let v1086 : BitVec 32 := Scalar.muli v1084 c1_i32_704
  let v1087 : BitVec 32 := Scalar.addi c0_i32_705 v1086
  v1087.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1508 : Index := Scalar.indexCast v2
  let c0_1182 : Index := 0#32
  let c0_1183 : Index := 0#32
  ![v1508.toNat, 0, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1193 : BitVec 32 := 0#32
  let c0_i32_1194 : BitVec 32 := 0#32
  ![v2.toNat, 0, 0]
def k0_dev64 (d0 : Dev nD) : Nat :=
  let c0_i32_1192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1184 : BitVec 32 := 1#32
  let v1512 : BitVec 32 := Scalar.addi v2 c1_i32_1184
  let c32_i32_1185 : BitVec 32 := 32#32
  let c0_i32_1186 : BitVec 32 := 0#32
  let v1513 : BitVec 1 := Scalar.cmpi .eq c32_i32_1185 c0_i32_1186
  let c1_i32_1187 : BitVec 32 := 1#32
  let v1514 : BitVec 32 := Scalar.select v1513 c1_i32_1187 c32_i32_1185
  let v1515 : BitVec 32 := Scalar.remsi v1512 v1514
  let c0_i32_1189 : BitVec 32 := 0#32
  let v1517 : BitVec 1 := Scalar.cmpi .slt v1515 c0_i32_1189
  let c0_i32_1190 : BitVec 32 := 0#32
  let v1518 : BitVec 1 := Scalar.cmpi .slt v1514 c0_i32_1190
  let v1519 : BitVec 1 := Scalar.xori v1517 v1518
  let c0_i32_1188 : BitVec 32 := 0#32
  let v1516 : BitVec 1 := Scalar.cmpi .ne v1515 c0_i32_1188
  let v1520 : BitVec 1 := Scalar.andi v1519 v1516
  let v1521 : BitVec 32 := Scalar.addi v1515 v1514
  let v1522 : BitVec 32 := Scalar.select v1520 v1521 v1515
  let c1_i32_1191 : BitVec 32 := 1#32
  let v1523 : BitVec 32 := Scalar.muli v1522 c1_i32_1191
  let v1524 : BitVec 32 := Scalar.addi c0_i32_1192 v1523
  v1524.toNat
def k0_dev65 (d0 : Dev nD) : Nat :=
  let c0_i32_1205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1197 : BitVec 32 := 2#32
  let v1533 : BitVec 32 := Scalar.addi v2 c2_i32_1197
  let c32_i32_1198 : BitVec 32 := 32#32
  let c0_i32_1199 : BitVec 32 := 0#32
  let v1534 : BitVec 1 := Scalar.cmpi .eq c32_i32_1198 c0_i32_1199
  let c1_i32_1200 : BitVec 32 := 1#32
  let v1535 : BitVec 32 := Scalar.select v1534 c1_i32_1200 c32_i32_1198
  let v1536 : BitVec 32 := Scalar.remsi v1533 v1535
  let c0_i32_1202 : BitVec 32 := 0#32
  let v1538 : BitVec 1 := Scalar.cmpi .slt v1536 c0_i32_1202
  let c0_i32_1203 : BitVec 32 := 0#32
  let v1539 : BitVec 1 := Scalar.cmpi .slt v1535 c0_i32_1203
  let v1540 : BitVec 1 := Scalar.xori v1538 v1539
  let c0_i32_1201 : BitVec 32 := 0#32
  let v1537 : BitVec 1 := Scalar.cmpi .ne v1536 c0_i32_1201
  let v1541 : BitVec 1 := Scalar.andi v1540 v1537
  let v1542 : BitVec 32 := Scalar.addi v1536 v1535
  let v1543 : BitVec 32 := Scalar.select v1541 v1542 v1536
  let c1_i32_1204 : BitVec 32 := 1#32
  let v1544 : BitVec 32 := Scalar.muli v1543 c1_i32_1204
  let v1545 : BitVec 32 := Scalar.addi c0_i32_1205 v1544
  v1545.toNat
def k0_dev66 (d0 : Dev nD) : Nat :=
  let c0_i32_1218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1210 : BitVec 32 := 3#32
  let v1554 : BitVec 32 := Scalar.addi v2 c3_i32_1210
  let c32_i32_1211 : BitVec 32 := 32#32
  let c0_i32_1212 : BitVec 32 := 0#32
  let v1555 : BitVec 1 := Scalar.cmpi .eq c32_i32_1211 c0_i32_1212
  let c1_i32_1213 : BitVec 32 := 1#32
  let v1556 : BitVec 32 := Scalar.select v1555 c1_i32_1213 c32_i32_1211
  let v1557 : BitVec 32 := Scalar.remsi v1554 v1556
  let c0_i32_1215 : BitVec 32 := 0#32
  let v1559 : BitVec 1 := Scalar.cmpi .slt v1557 c0_i32_1215
  let c0_i32_1216 : BitVec 32 := 0#32
  let v1560 : BitVec 1 := Scalar.cmpi .slt v1556 c0_i32_1216
  let v1561 : BitVec 1 := Scalar.xori v1559 v1560
  let c0_i32_1214 : BitVec 32 := 0#32
  let v1558 : BitVec 1 := Scalar.cmpi .ne v1557 c0_i32_1214
  let v1562 : BitVec 1 := Scalar.andi v1561 v1558
  let v1563 : BitVec 32 := Scalar.addi v1557 v1556
  let v1564 : BitVec 32 := Scalar.select v1562 v1563 v1557
  let c1_i32_1217 : BitVec 32 := 1#32
  let v1565 : BitVec 32 := Scalar.muli v1564 c1_i32_1217
  let v1566 : BitVec 32 := Scalar.addi c0_i32_1218 v1565
  v1566.toNat
def k0_dev67 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1223 : BitVec 32 := 4#32
  let v1575 : BitVec 32 := Scalar.addi v2 c4_i32_1223
  let c32_i32_1224 : BitVec 32 := 32#32
  let c0_i32_1225 : BitVec 32 := 0#32
  let v1576 : BitVec 1 := Scalar.cmpi .eq c32_i32_1224 c0_i32_1225
  let c1_i32_1226 : BitVec 32 := 1#32
  let v1577 : BitVec 32 := Scalar.select v1576 c1_i32_1226 c32_i32_1224
  let v1578 : BitVec 32 := Scalar.remsi v1575 v1577
  let c0_i32_1228 : BitVec 32 := 0#32
  let v1580 : BitVec 1 := Scalar.cmpi .slt v1578 c0_i32_1228
  let c0_i32_1229 : BitVec 32 := 0#32
  let v1581 : BitVec 1 := Scalar.cmpi .slt v1577 c0_i32_1229
  let v1582 : BitVec 1 := Scalar.xori v1580 v1581
  let c0_i32_1227 : BitVec 32 := 0#32
  let v1579 : BitVec 1 := Scalar.cmpi .ne v1578 c0_i32_1227
  let v1583 : BitVec 1 := Scalar.andi v1582 v1579
  let v1584 : BitVec 32 := Scalar.addi v1578 v1577
  let v1585 : BitVec 32 := Scalar.select v1583 v1584 v1578
  let c1_i32_1230 : BitVec 32 := 1#32
  let v1586 : BitVec 32 := Scalar.muli v1585 c1_i32_1230
  let v1587 : BitVec 32 := Scalar.addi c0_i32_1231 v1586
  v1587.toNat
def k0_dev68 (d0 : Dev nD) : Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1236 : BitVec 32 := 5#32
  let v1596 : BitVec 32 := Scalar.addi v2 c5_i32_1236
  let c32_i32_1237 : BitVec 32 := 32#32
  let c0_i32_1238 : BitVec 32 := 0#32
  let v1597 : BitVec 1 := Scalar.cmpi .eq c32_i32_1237 c0_i32_1238
  let c1_i32_1239 : BitVec 32 := 1#32
  let v1598 : BitVec 32 := Scalar.select v1597 c1_i32_1239 c32_i32_1237
  let v1599 : BitVec 32 := Scalar.remsi v1596 v1598
  let c0_i32_1241 : BitVec 32 := 0#32
  let v1601 : BitVec 1 := Scalar.cmpi .slt v1599 c0_i32_1241
  let c0_i32_1242 : BitVec 32 := 0#32
  let v1602 : BitVec 1 := Scalar.cmpi .slt v1598 c0_i32_1242
  let v1603 : BitVec 1 := Scalar.xori v1601 v1602
  let c0_i32_1240 : BitVec 32 := 0#32
  let v1600 : BitVec 1 := Scalar.cmpi .ne v1599 c0_i32_1240
  let v1604 : BitVec 1 := Scalar.andi v1603 v1600
  let v1605 : BitVec 32 := Scalar.addi v1599 v1598
  let v1606 : BitVec 32 := Scalar.select v1604 v1605 v1599
  let c1_i32_1243 : BitVec 32 := 1#32
  let v1607 : BitVec 32 := Scalar.muli v1606 c1_i32_1243
  let v1608 : BitVec 32 := Scalar.addi c0_i32_1244 v1607
  v1608.toNat
def k0_dev69 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1249 : BitVec 32 := 6#32
  let v1617 : BitVec 32 := Scalar.addi v2 c6_i32_1249
  let c32_i32_1250 : BitVec 32 := 32#32
  let c0_i32_1251 : BitVec 32 := 0#32
  let v1618 : BitVec 1 := Scalar.cmpi .eq c32_i32_1250 c0_i32_1251
  let c1_i32_1252 : BitVec 32 := 1#32
  let v1619 : BitVec 32 := Scalar.select v1618 c1_i32_1252 c32_i32_1250
  let v1620 : BitVec 32 := Scalar.remsi v1617 v1619
  let c0_i32_1254 : BitVec 32 := 0#32
  let v1622 : BitVec 1 := Scalar.cmpi .slt v1620 c0_i32_1254
  let c0_i32_1255 : BitVec 32 := 0#32
  let v1623 : BitVec 1 := Scalar.cmpi .slt v1619 c0_i32_1255
  let v1624 : BitVec 1 := Scalar.xori v1622 v1623
  let c0_i32_1253 : BitVec 32 := 0#32
  let v1621 : BitVec 1 := Scalar.cmpi .ne v1620 c0_i32_1253
  let v1625 : BitVec 1 := Scalar.andi v1624 v1621
  let v1626 : BitVec 32 := Scalar.addi v1620 v1619
  let v1627 : BitVec 32 := Scalar.select v1625 v1626 v1620
  let c1_i32_1256 : BitVec 32 := 1#32
  let v1628 : BitVec 32 := Scalar.muli v1627 c1_i32_1256
  let v1629 : BitVec 32 := Scalar.addi c0_i32_1257 v1628
  v1629.toNat
def k0_dev70 (d0 : Dev nD) : Nat :=
  let c0_i32_1270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1262 : BitVec 32 := 7#32
  let v1638 : BitVec 32 := Scalar.addi v2 c7_i32_1262
  let c32_i32_1263 : BitVec 32 := 32#32
  let c0_i32_1264 : BitVec 32 := 0#32
  let v1639 : BitVec 1 := Scalar.cmpi .eq c32_i32_1263 c0_i32_1264
  let c1_i32_1265 : BitVec 32 := 1#32
  let v1640 : BitVec 32 := Scalar.select v1639 c1_i32_1265 c32_i32_1263
  let v1641 : BitVec 32 := Scalar.remsi v1638 v1640
  let c0_i32_1267 : BitVec 32 := 0#32
  let v1643 : BitVec 1 := Scalar.cmpi .slt v1641 c0_i32_1267
  let c0_i32_1268 : BitVec 32 := 0#32
  let v1644 : BitVec 1 := Scalar.cmpi .slt v1640 c0_i32_1268
  let v1645 : BitVec 1 := Scalar.xori v1643 v1644
  let c0_i32_1266 : BitVec 32 := 0#32
  let v1642 : BitVec 1 := Scalar.cmpi .ne v1641 c0_i32_1266
  let v1646 : BitVec 1 := Scalar.andi v1645 v1642
  let v1647 : BitVec 32 := Scalar.addi v1641 v1640
  let v1648 : BitVec 32 := Scalar.select v1646 v1647 v1641
  let c1_i32_1269 : BitVec 32 := 1#32
  let v1649 : BitVec 32 := Scalar.muli v1648 c1_i32_1269
  let v1650 : BitVec 32 := Scalar.addi c0_i32_1270 v1649
  v1650.toNat
def k0_dev71 (d0 : Dev nD) : Nat :=
  let c0_i32_1283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1275 : BitVec 32 := 8#32
  let v1659 : BitVec 32 := Scalar.addi v2 c8_i32_1275
  let c32_i32_1276 : BitVec 32 := 32#32
  let c0_i32_1277 : BitVec 32 := 0#32
  let v1660 : BitVec 1 := Scalar.cmpi .eq c32_i32_1276 c0_i32_1277
  let c1_i32_1278 : BitVec 32 := 1#32
  let v1661 : BitVec 32 := Scalar.select v1660 c1_i32_1278 c32_i32_1276
  let v1662 : BitVec 32 := Scalar.remsi v1659 v1661
  let c0_i32_1280 : BitVec 32 := 0#32
  let v1664 : BitVec 1 := Scalar.cmpi .slt v1662 c0_i32_1280
  let c0_i32_1281 : BitVec 32 := 0#32
  let v1665 : BitVec 1 := Scalar.cmpi .slt v1661 c0_i32_1281
  let v1666 : BitVec 1 := Scalar.xori v1664 v1665
  let c0_i32_1279 : BitVec 32 := 0#32
  let v1663 : BitVec 1 := Scalar.cmpi .ne v1662 c0_i32_1279
  let v1667 : BitVec 1 := Scalar.andi v1666 v1663
  let v1668 : BitVec 32 := Scalar.addi v1662 v1661
  let v1669 : BitVec 32 := Scalar.select v1667 v1668 v1662
  let c1_i32_1282 : BitVec 32 := 1#32
  let v1670 : BitVec 32 := Scalar.muli v1669 c1_i32_1282
  let v1671 : BitVec 32 := Scalar.addi c0_i32_1283 v1670
  v1671.toNat
def k0_dev72 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1288 : BitVec 32 := 9#32
  let v1680 : BitVec 32 := Scalar.addi v2 c9_i32_1288
  let c32_i32_1289 : BitVec 32 := 32#32
  let c0_i32_1290 : BitVec 32 := 0#32
  let v1681 : BitVec 1 := Scalar.cmpi .eq c32_i32_1289 c0_i32_1290
  let c1_i32_1291 : BitVec 32 := 1#32
  let v1682 : BitVec 32 := Scalar.select v1681 c1_i32_1291 c32_i32_1289
  let v1683 : BitVec 32 := Scalar.remsi v1680 v1682
  let c0_i32_1293 : BitVec 32 := 0#32
  let v1685 : BitVec 1 := Scalar.cmpi .slt v1683 c0_i32_1293
  let c0_i32_1294 : BitVec 32 := 0#32
  let v1686 : BitVec 1 := Scalar.cmpi .slt v1682 c0_i32_1294
  let v1687 : BitVec 1 := Scalar.xori v1685 v1686
  let c0_i32_1292 : BitVec 32 := 0#32
  let v1684 : BitVec 1 := Scalar.cmpi .ne v1683 c0_i32_1292
  let v1688 : BitVec 1 := Scalar.andi v1687 v1684
  let v1689 : BitVec 32 := Scalar.addi v1683 v1682
  let v1690 : BitVec 32 := Scalar.select v1688 v1689 v1683
  let c1_i32_1295 : BitVec 32 := 1#32
  let v1691 : BitVec 32 := Scalar.muli v1690 c1_i32_1295
  let v1692 : BitVec 32 := Scalar.addi c0_i32_1296 v1691
  v1692.toNat
def k0_dev73 (d0 : Dev nD) : Nat :=
  let c0_i32_1309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1301 : BitVec 32 := 10#32
  let v1701 : BitVec 32 := Scalar.addi v2 c10_i32_1301
  let c32_i32_1302 : BitVec 32 := 32#32
  let c0_i32_1303 : BitVec 32 := 0#32
  let v1702 : BitVec 1 := Scalar.cmpi .eq c32_i32_1302 c0_i32_1303
  let c1_i32_1304 : BitVec 32 := 1#32
  let v1703 : BitVec 32 := Scalar.select v1702 c1_i32_1304 c32_i32_1302
  let v1704 : BitVec 32 := Scalar.remsi v1701 v1703
  let c0_i32_1306 : BitVec 32 := 0#32
  let v1706 : BitVec 1 := Scalar.cmpi .slt v1704 c0_i32_1306
  let c0_i32_1307 : BitVec 32 := 0#32
  let v1707 : BitVec 1 := Scalar.cmpi .slt v1703 c0_i32_1307
  let v1708 : BitVec 1 := Scalar.xori v1706 v1707
  let c0_i32_1305 : BitVec 32 := 0#32
  let v1705 : BitVec 1 := Scalar.cmpi .ne v1704 c0_i32_1305
  let v1709 : BitVec 1 := Scalar.andi v1708 v1705
  let v1710 : BitVec 32 := Scalar.addi v1704 v1703
  let v1711 : BitVec 32 := Scalar.select v1709 v1710 v1704
  let c1_i32_1308 : BitVec 32 := 1#32
  let v1712 : BitVec 32 := Scalar.muli v1711 c1_i32_1308
  let v1713 : BitVec 32 := Scalar.addi c0_i32_1309 v1712
  v1713.toNat
def k0_dev74 (d0 : Dev nD) : Nat :=
  let c0_i32_1322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1314 : BitVec 32 := 11#32
  let v1722 : BitVec 32 := Scalar.addi v2 c11_i32_1314
  let c32_i32_1315 : BitVec 32 := 32#32
  let c0_i32_1316 : BitVec 32 := 0#32
  let v1723 : BitVec 1 := Scalar.cmpi .eq c32_i32_1315 c0_i32_1316
  let c1_i32_1317 : BitVec 32 := 1#32
  let v1724 : BitVec 32 := Scalar.select v1723 c1_i32_1317 c32_i32_1315
  let v1725 : BitVec 32 := Scalar.remsi v1722 v1724
  let c0_i32_1319 : BitVec 32 := 0#32
  let v1727 : BitVec 1 := Scalar.cmpi .slt v1725 c0_i32_1319
  let c0_i32_1320 : BitVec 32 := 0#32
  let v1728 : BitVec 1 := Scalar.cmpi .slt v1724 c0_i32_1320
  let v1729 : BitVec 1 := Scalar.xori v1727 v1728
  let c0_i32_1318 : BitVec 32 := 0#32
  let v1726 : BitVec 1 := Scalar.cmpi .ne v1725 c0_i32_1318
  let v1730 : BitVec 1 := Scalar.andi v1729 v1726
  let v1731 : BitVec 32 := Scalar.addi v1725 v1724
  let v1732 : BitVec 32 := Scalar.select v1730 v1731 v1725
  let c1_i32_1321 : BitVec 32 := 1#32
  let v1733 : BitVec 32 := Scalar.muli v1732 c1_i32_1321
  let v1734 : BitVec 32 := Scalar.addi c0_i32_1322 v1733
  v1734.toNat
def k0_dev75 (d0 : Dev nD) : Nat :=
  let c0_i32_1335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1327 : BitVec 32 := 12#32
  let v1743 : BitVec 32 := Scalar.addi v2 c12_i32_1327
  let c32_i32_1328 : BitVec 32 := 32#32
  let c0_i32_1329 : BitVec 32 := 0#32
  let v1744 : BitVec 1 := Scalar.cmpi .eq c32_i32_1328 c0_i32_1329
  let c1_i32_1330 : BitVec 32 := 1#32
  let v1745 : BitVec 32 := Scalar.select v1744 c1_i32_1330 c32_i32_1328
  let v1746 : BitVec 32 := Scalar.remsi v1743 v1745
  let c0_i32_1332 : BitVec 32 := 0#32
  let v1748 : BitVec 1 := Scalar.cmpi .slt v1746 c0_i32_1332
  let c0_i32_1333 : BitVec 32 := 0#32
  let v1749 : BitVec 1 := Scalar.cmpi .slt v1745 c0_i32_1333
  let v1750 : BitVec 1 := Scalar.xori v1748 v1749
  let c0_i32_1331 : BitVec 32 := 0#32
  let v1747 : BitVec 1 := Scalar.cmpi .ne v1746 c0_i32_1331
  let v1751 : BitVec 1 := Scalar.andi v1750 v1747
  let v1752 : BitVec 32 := Scalar.addi v1746 v1745
  let v1753 : BitVec 32 := Scalar.select v1751 v1752 v1746
  let c1_i32_1334 : BitVec 32 := 1#32
  let v1754 : BitVec 32 := Scalar.muli v1753 c1_i32_1334
  let v1755 : BitVec 32 := Scalar.addi c0_i32_1335 v1754
  v1755.toNat
def k0_dev76 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1340 : BitVec 32 := 13#32
  let v1764 : BitVec 32 := Scalar.addi v2 c13_i32_1340
  let c32_i32_1341 : BitVec 32 := 32#32
  let c0_i32_1342 : BitVec 32 := 0#32
  let v1765 : BitVec 1 := Scalar.cmpi .eq c32_i32_1341 c0_i32_1342
  let c1_i32_1343 : BitVec 32 := 1#32
  let v1766 : BitVec 32 := Scalar.select v1765 c1_i32_1343 c32_i32_1341
  let v1767 : BitVec 32 := Scalar.remsi v1764 v1766
  let c0_i32_1345 : BitVec 32 := 0#32
  let v1769 : BitVec 1 := Scalar.cmpi .slt v1767 c0_i32_1345
  let c0_i32_1346 : BitVec 32 := 0#32
  let v1770 : BitVec 1 := Scalar.cmpi .slt v1766 c0_i32_1346
  let v1771 : BitVec 1 := Scalar.xori v1769 v1770
  let c0_i32_1344 : BitVec 32 := 0#32
  let v1768 : BitVec 1 := Scalar.cmpi .ne v1767 c0_i32_1344
  let v1772 : BitVec 1 := Scalar.andi v1771 v1768
  let v1773 : BitVec 32 := Scalar.addi v1767 v1766
  let v1774 : BitVec 32 := Scalar.select v1772 v1773 v1767
  let c1_i32_1347 : BitVec 32 := 1#32
  let v1775 : BitVec 32 := Scalar.muli v1774 c1_i32_1347
  let v1776 : BitVec 32 := Scalar.addi c0_i32_1348 v1775
  v1776.toNat
def k0_dev77 (d0 : Dev nD) : Nat :=
  let c0_i32_1361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1353 : BitVec 32 := 14#32
  let v1785 : BitVec 32 := Scalar.addi v2 c14_i32_1353
  let c32_i32_1354 : BitVec 32 := 32#32
  let c0_i32_1355 : BitVec 32 := 0#32
  let v1786 : BitVec 1 := Scalar.cmpi .eq c32_i32_1354 c0_i32_1355
  let c1_i32_1356 : BitVec 32 := 1#32
  let v1787 : BitVec 32 := Scalar.select v1786 c1_i32_1356 c32_i32_1354
  let v1788 : BitVec 32 := Scalar.remsi v1785 v1787
  let c0_i32_1358 : BitVec 32 := 0#32
  let v1790 : BitVec 1 := Scalar.cmpi .slt v1788 c0_i32_1358
  let c0_i32_1359 : BitVec 32 := 0#32
  let v1791 : BitVec 1 := Scalar.cmpi .slt v1787 c0_i32_1359
  let v1792 : BitVec 1 := Scalar.xori v1790 v1791
  let c0_i32_1357 : BitVec 32 := 0#32
  let v1789 : BitVec 1 := Scalar.cmpi .ne v1788 c0_i32_1357
  let v1793 : BitVec 1 := Scalar.andi v1792 v1789
  let v1794 : BitVec 32 := Scalar.addi v1788 v1787
  let v1795 : BitVec 32 := Scalar.select v1793 v1794 v1788
  let c1_i32_1360 : BitVec 32 := 1#32
  let v1796 : BitVec 32 := Scalar.muli v1795 c1_i32_1360
  let v1797 : BitVec 32 := Scalar.addi c0_i32_1361 v1796
  v1797.toNat
def k0_dev78 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1366 : BitVec 32 := 15#32
  let v1806 : BitVec 32 := Scalar.addi v2 c15_i32_1366
  let c32_i32_1367 : BitVec 32 := 32#32
  let c0_i32_1368 : BitVec 32 := 0#32
  let v1807 : BitVec 1 := Scalar.cmpi .eq c32_i32_1367 c0_i32_1368
  let c1_i32_1369 : BitVec 32 := 1#32
  let v1808 : BitVec 32 := Scalar.select v1807 c1_i32_1369 c32_i32_1367
  let v1809 : BitVec 32 := Scalar.remsi v1806 v1808
  let c0_i32_1371 : BitVec 32 := 0#32
  let v1811 : BitVec 1 := Scalar.cmpi .slt v1809 c0_i32_1371
  let c0_i32_1372 : BitVec 32 := 0#32
  let v1812 : BitVec 1 := Scalar.cmpi .slt v1808 c0_i32_1372
  let v1813 : BitVec 1 := Scalar.xori v1811 v1812
  let c0_i32_1370 : BitVec 32 := 0#32
  let v1810 : BitVec 1 := Scalar.cmpi .ne v1809 c0_i32_1370
  let v1814 : BitVec 1 := Scalar.andi v1813 v1810
  let v1815 : BitVec 32 := Scalar.addi v1809 v1808
  let v1816 : BitVec 32 := Scalar.select v1814 v1815 v1809
  let c1_i32_1373 : BitVec 32 := 1#32
  let v1817 : BitVec 32 := Scalar.muli v1816 c1_i32_1373
  let v1818 : BitVec 32 := Scalar.addi c0_i32_1374 v1817
  v1818.toNat
def k0_dev79 (d0 : Dev nD) : Nat :=
  let c0_i32_1387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1379 : BitVec 32 := 16#32
  let v1827 : BitVec 32 := Scalar.addi v2 c16_i32_1379
  let c32_i32_1380 : BitVec 32 := 32#32
  let c0_i32_1381 : BitVec 32 := 0#32
  let v1828 : BitVec 1 := Scalar.cmpi .eq c32_i32_1380 c0_i32_1381
  let c1_i32_1382 : BitVec 32 := 1#32
  let v1829 : BitVec 32 := Scalar.select v1828 c1_i32_1382 c32_i32_1380
  let v1830 : BitVec 32 := Scalar.remsi v1827 v1829
  let c0_i32_1384 : BitVec 32 := 0#32
  let v1832 : BitVec 1 := Scalar.cmpi .slt v1830 c0_i32_1384
  let c0_i32_1385 : BitVec 32 := 0#32
  let v1833 : BitVec 1 := Scalar.cmpi .slt v1829 c0_i32_1385
  let v1834 : BitVec 1 := Scalar.xori v1832 v1833
  let c0_i32_1383 : BitVec 32 := 0#32
  let v1831 : BitVec 1 := Scalar.cmpi .ne v1830 c0_i32_1383
  let v1835 : BitVec 1 := Scalar.andi v1834 v1831
  let v1836 : BitVec 32 := Scalar.addi v1830 v1829
  let v1837 : BitVec 32 := Scalar.select v1835 v1836 v1830
  let c1_i32_1386 : BitVec 32 := 1#32
  let v1838 : BitVec 32 := Scalar.muli v1837 c1_i32_1386
  let v1839 : BitVec 32 := Scalar.addi c0_i32_1387 v1838
  v1839.toNat
def k0_dev80 (d0 : Dev nD) : Nat :=
  let c0_i32_1400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1392 : BitVec 32 := 17#32
  let v1848 : BitVec 32 := Scalar.addi v2 c17_i32_1392
  let c32_i32_1393 : BitVec 32 := 32#32
  let c0_i32_1394 : BitVec 32 := 0#32
  let v1849 : BitVec 1 := Scalar.cmpi .eq c32_i32_1393 c0_i32_1394
  let c1_i32_1395 : BitVec 32 := 1#32
  let v1850 : BitVec 32 := Scalar.select v1849 c1_i32_1395 c32_i32_1393
  let v1851 : BitVec 32 := Scalar.remsi v1848 v1850
  let c0_i32_1397 : BitVec 32 := 0#32
  let v1853 : BitVec 1 := Scalar.cmpi .slt v1851 c0_i32_1397
  let c0_i32_1398 : BitVec 32 := 0#32
  let v1854 : BitVec 1 := Scalar.cmpi .slt v1850 c0_i32_1398
  let v1855 : BitVec 1 := Scalar.xori v1853 v1854
  let c0_i32_1396 : BitVec 32 := 0#32
  let v1852 : BitVec 1 := Scalar.cmpi .ne v1851 c0_i32_1396
  let v1856 : BitVec 1 := Scalar.andi v1855 v1852
  let v1857 : BitVec 32 := Scalar.addi v1851 v1850
  let v1858 : BitVec 32 := Scalar.select v1856 v1857 v1851
  let c1_i32_1399 : BitVec 32 := 1#32
  let v1859 : BitVec 32 := Scalar.muli v1858 c1_i32_1399
  let v1860 : BitVec 32 := Scalar.addi c0_i32_1400 v1859
  v1860.toNat
def k0_dev81 (d0 : Dev nD) : Nat :=
  let c0_i32_1413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1405 : BitVec 32 := 18#32
  let v1869 : BitVec 32 := Scalar.addi v2 c18_i32_1405
  let c32_i32_1406 : BitVec 32 := 32#32
  let c0_i32_1407 : BitVec 32 := 0#32
  let v1870 : BitVec 1 := Scalar.cmpi .eq c32_i32_1406 c0_i32_1407
  let c1_i32_1408 : BitVec 32 := 1#32
  let v1871 : BitVec 32 := Scalar.select v1870 c1_i32_1408 c32_i32_1406
  let v1872 : BitVec 32 := Scalar.remsi v1869 v1871
  let c0_i32_1410 : BitVec 32 := 0#32
  let v1874 : BitVec 1 := Scalar.cmpi .slt v1872 c0_i32_1410
  let c0_i32_1411 : BitVec 32 := 0#32
  let v1875 : BitVec 1 := Scalar.cmpi .slt v1871 c0_i32_1411
  let v1876 : BitVec 1 := Scalar.xori v1874 v1875
  let c0_i32_1409 : BitVec 32 := 0#32
  let v1873 : BitVec 1 := Scalar.cmpi .ne v1872 c0_i32_1409
  let v1877 : BitVec 1 := Scalar.andi v1876 v1873
  let v1878 : BitVec 32 := Scalar.addi v1872 v1871
  let v1879 : BitVec 32 := Scalar.select v1877 v1878 v1872
  let c1_i32_1412 : BitVec 32 := 1#32
  let v1880 : BitVec 32 := Scalar.muli v1879 c1_i32_1412
  let v1881 : BitVec 32 := Scalar.addi c0_i32_1413 v1880
  v1881.toNat
def k0_dev82 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1418 : BitVec 32 := 19#32
  let v1890 : BitVec 32 := Scalar.addi v2 c19_i32_1418
  let c32_i32_1419 : BitVec 32 := 32#32
  let c0_i32_1420 : BitVec 32 := 0#32
  let v1891 : BitVec 1 := Scalar.cmpi .eq c32_i32_1419 c0_i32_1420
  let c1_i32_1421 : BitVec 32 := 1#32
  let v1892 : BitVec 32 := Scalar.select v1891 c1_i32_1421 c32_i32_1419
  let v1893 : BitVec 32 := Scalar.remsi v1890 v1892
  let c0_i32_1423 : BitVec 32 := 0#32
  let v1895 : BitVec 1 := Scalar.cmpi .slt v1893 c0_i32_1423
  let c0_i32_1424 : BitVec 32 := 0#32
  let v1896 : BitVec 1 := Scalar.cmpi .slt v1892 c0_i32_1424
  let v1897 : BitVec 1 := Scalar.xori v1895 v1896
  let c0_i32_1422 : BitVec 32 := 0#32
  let v1894 : BitVec 1 := Scalar.cmpi .ne v1893 c0_i32_1422
  let v1898 : BitVec 1 := Scalar.andi v1897 v1894
  let v1899 : BitVec 32 := Scalar.addi v1893 v1892
  let v1900 : BitVec 32 := Scalar.select v1898 v1899 v1893
  let c1_i32_1425 : BitVec 32 := 1#32
  let v1901 : BitVec 32 := Scalar.muli v1900 c1_i32_1425
  let v1902 : BitVec 32 := Scalar.addi c0_i32_1426 v1901
  v1902.toNat
def k0_dev83 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1431 : BitVec 32 := 20#32
  let v1911 : BitVec 32 := Scalar.addi v2 c20_i32_1431
  let c32_i32_1432 : BitVec 32 := 32#32
  let c0_i32_1433 : BitVec 32 := 0#32
  let v1912 : BitVec 1 := Scalar.cmpi .eq c32_i32_1432 c0_i32_1433
  let c1_i32_1434 : BitVec 32 := 1#32
  let v1913 : BitVec 32 := Scalar.select v1912 c1_i32_1434 c32_i32_1432
  let v1914 : BitVec 32 := Scalar.remsi v1911 v1913
  let c0_i32_1436 : BitVec 32 := 0#32
  let v1916 : BitVec 1 := Scalar.cmpi .slt v1914 c0_i32_1436
  let c0_i32_1437 : BitVec 32 := 0#32
  let v1917 : BitVec 1 := Scalar.cmpi .slt v1913 c0_i32_1437
  let v1918 : BitVec 1 := Scalar.xori v1916 v1917
  let c0_i32_1435 : BitVec 32 := 0#32
  let v1915 : BitVec 1 := Scalar.cmpi .ne v1914 c0_i32_1435
  let v1919 : BitVec 1 := Scalar.andi v1918 v1915
  let v1920 : BitVec 32 := Scalar.addi v1914 v1913
  let v1921 : BitVec 32 := Scalar.select v1919 v1920 v1914
  let c1_i32_1438 : BitVec 32 := 1#32
  let v1922 : BitVec 32 := Scalar.muli v1921 c1_i32_1438
  let v1923 : BitVec 32 := Scalar.addi c0_i32_1439 v1922
  v1923.toNat
def k0_dev84 (d0 : Dev nD) : Nat :=
  let c0_i32_1452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1444 : BitVec 32 := 21#32
  let v1932 : BitVec 32 := Scalar.addi v2 c21_i32_1444
  let c32_i32_1445 : BitVec 32 := 32#32
  let c0_i32_1446 : BitVec 32 := 0#32
  let v1933 : BitVec 1 := Scalar.cmpi .eq c32_i32_1445 c0_i32_1446
  let c1_i32_1447 : BitVec 32 := 1#32
  let v1934 : BitVec 32 := Scalar.select v1933 c1_i32_1447 c32_i32_1445
  let v1935 : BitVec 32 := Scalar.remsi v1932 v1934
  let c0_i32_1449 : BitVec 32 := 0#32
  let v1937 : BitVec 1 := Scalar.cmpi .slt v1935 c0_i32_1449
  let c0_i32_1450 : BitVec 32 := 0#32
  let v1938 : BitVec 1 := Scalar.cmpi .slt v1934 c0_i32_1450
  let v1939 : BitVec 1 := Scalar.xori v1937 v1938
  let c0_i32_1448 : BitVec 32 := 0#32
  let v1936 : BitVec 1 := Scalar.cmpi .ne v1935 c0_i32_1448
  let v1940 : BitVec 1 := Scalar.andi v1939 v1936
  let v1941 : BitVec 32 := Scalar.addi v1935 v1934
  let v1942 : BitVec 32 := Scalar.select v1940 v1941 v1935
  let c1_i32_1451 : BitVec 32 := 1#32
  let v1943 : BitVec 32 := Scalar.muli v1942 c1_i32_1451
  let v1944 : BitVec 32 := Scalar.addi c0_i32_1452 v1943
  v1944.toNat
def k0_dev85 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1457 : BitVec 32 := 22#32
  let v1953 : BitVec 32 := Scalar.addi v2 c22_i32_1457
  let c32_i32_1458 : BitVec 32 := 32#32
  let c0_i32_1459 : BitVec 32 := 0#32
  let v1954 : BitVec 1 := Scalar.cmpi .eq c32_i32_1458 c0_i32_1459
  let c1_i32_1460 : BitVec 32 := 1#32
  let v1955 : BitVec 32 := Scalar.select v1954 c1_i32_1460 c32_i32_1458
  let v1956 : BitVec 32 := Scalar.remsi v1953 v1955
  let c0_i32_1462 : BitVec 32 := 0#32
  let v1958 : BitVec 1 := Scalar.cmpi .slt v1956 c0_i32_1462
  let c0_i32_1463 : BitVec 32 := 0#32
  let v1959 : BitVec 1 := Scalar.cmpi .slt v1955 c0_i32_1463
  let v1960 : BitVec 1 := Scalar.xori v1958 v1959
  let c0_i32_1461 : BitVec 32 := 0#32
  let v1957 : BitVec 1 := Scalar.cmpi .ne v1956 c0_i32_1461
  let v1961 : BitVec 1 := Scalar.andi v1960 v1957
  let v1962 : BitVec 32 := Scalar.addi v1956 v1955
  let v1963 : BitVec 32 := Scalar.select v1961 v1962 v1956
  let c1_i32_1464 : BitVec 32 := 1#32
  let v1964 : BitVec 32 := Scalar.muli v1963 c1_i32_1464
  let v1965 : BitVec 32 := Scalar.addi c0_i32_1465 v1964
  v1965.toNat
def k0_dev86 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1470 : BitVec 32 := 23#32
  let v1974 : BitVec 32 := Scalar.addi v2 c23_i32_1470
  let c32_i32_1471 : BitVec 32 := 32#32
  let c0_i32_1472 : BitVec 32 := 0#32
  let v1975 : BitVec 1 := Scalar.cmpi .eq c32_i32_1471 c0_i32_1472
  let c1_i32_1473 : BitVec 32 := 1#32
  let v1976 : BitVec 32 := Scalar.select v1975 c1_i32_1473 c32_i32_1471
  let v1977 : BitVec 32 := Scalar.remsi v1974 v1976
  let c0_i32_1475 : BitVec 32 := 0#32
  let v1979 : BitVec 1 := Scalar.cmpi .slt v1977 c0_i32_1475
  let c0_i32_1476 : BitVec 32 := 0#32
  let v1980 : BitVec 1 := Scalar.cmpi .slt v1976 c0_i32_1476
  let v1981 : BitVec 1 := Scalar.xori v1979 v1980
  let c0_i32_1474 : BitVec 32 := 0#32
  let v1978 : BitVec 1 := Scalar.cmpi .ne v1977 c0_i32_1474
  let v1982 : BitVec 1 := Scalar.andi v1981 v1978
  let v1983 : BitVec 32 := Scalar.addi v1977 v1976
  let v1984 : BitVec 32 := Scalar.select v1982 v1983 v1977
  let c1_i32_1477 : BitVec 32 := 1#32
  let v1985 : BitVec 32 := Scalar.muli v1984 c1_i32_1477
  let v1986 : BitVec 32 := Scalar.addi c0_i32_1478 v1985
  v1986.toNat
def k0_dev87 (d0 : Dev nD) : Nat :=
  let c0_i32_1491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1483 : BitVec 32 := 24#32
  let v1995 : BitVec 32 := Scalar.addi v2 c24_i32_1483
  let c32_i32_1484 : BitVec 32 := 32#32
  let c0_i32_1485 : BitVec 32 := 0#32
  let v1996 : BitVec 1 := Scalar.cmpi .eq c32_i32_1484 c0_i32_1485
  let c1_i32_1486 : BitVec 32 := 1#32
  let v1997 : BitVec 32 := Scalar.select v1996 c1_i32_1486 c32_i32_1484
  let v1998 : BitVec 32 := Scalar.remsi v1995 v1997
  let c0_i32_1488 : BitVec 32 := 0#32
  let v2000 : BitVec 1 := Scalar.cmpi .slt v1998 c0_i32_1488
  let c0_i32_1489 : BitVec 32 := 0#32
  let v2001 : BitVec 1 := Scalar.cmpi .slt v1997 c0_i32_1489
  let v2002 : BitVec 1 := Scalar.xori v2000 v2001
  let c0_i32_1487 : BitVec 32 := 0#32
  let v1999 : BitVec 1 := Scalar.cmpi .ne v1998 c0_i32_1487
  let v2003 : BitVec 1 := Scalar.andi v2002 v1999
  let v2004 : BitVec 32 := Scalar.addi v1998 v1997
  let v2005 : BitVec 32 := Scalar.select v2003 v2004 v1998
  let c1_i32_1490 : BitVec 32 := 1#32
  let v2006 : BitVec 32 := Scalar.muli v2005 c1_i32_1490
  let v2007 : BitVec 32 := Scalar.addi c0_i32_1491 v2006
  v2007.toNat
def k0_dev88 (d0 : Dev nD) : Nat :=
  let c0_i32_1504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1496 : BitVec 32 := 25#32
  let v2016 : BitVec 32 := Scalar.addi v2 c25_i32_1496
  let c32_i32_1497 : BitVec 32 := 32#32
  let c0_i32_1498 : BitVec 32 := 0#32
  let v2017 : BitVec 1 := Scalar.cmpi .eq c32_i32_1497 c0_i32_1498
  let c1_i32_1499 : BitVec 32 := 1#32
  let v2018 : BitVec 32 := Scalar.select v2017 c1_i32_1499 c32_i32_1497
  let v2019 : BitVec 32 := Scalar.remsi v2016 v2018
  let c0_i32_1501 : BitVec 32 := 0#32
  let v2021 : BitVec 1 := Scalar.cmpi .slt v2019 c0_i32_1501
  let c0_i32_1502 : BitVec 32 := 0#32
  let v2022 : BitVec 1 := Scalar.cmpi .slt v2018 c0_i32_1502
  let v2023 : BitVec 1 := Scalar.xori v2021 v2022
  let c0_i32_1500 : BitVec 32 := 0#32
  let v2020 : BitVec 1 := Scalar.cmpi .ne v2019 c0_i32_1500
  let v2024 : BitVec 1 := Scalar.andi v2023 v2020
  let v2025 : BitVec 32 := Scalar.addi v2019 v2018
  let v2026 : BitVec 32 := Scalar.select v2024 v2025 v2019
  let c1_i32_1503 : BitVec 32 := 1#32
  let v2027 : BitVec 32 := Scalar.muli v2026 c1_i32_1503
  let v2028 : BitVec 32 := Scalar.addi c0_i32_1504 v2027
  v2028.toNat
def k0_dev89 (d0 : Dev nD) : Nat :=
  let c0_i32_1517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1509 : BitVec 32 := 26#32
  let v2037 : BitVec 32 := Scalar.addi v2 c26_i32_1509
  let c32_i32_1510 : BitVec 32 := 32#32
  let c0_i32_1511 : BitVec 32 := 0#32
  let v2038 : BitVec 1 := Scalar.cmpi .eq c32_i32_1510 c0_i32_1511
  let c1_i32_1512 : BitVec 32 := 1#32
  let v2039 : BitVec 32 := Scalar.select v2038 c1_i32_1512 c32_i32_1510
  let v2040 : BitVec 32 := Scalar.remsi v2037 v2039
  let c0_i32_1514 : BitVec 32 := 0#32
  let v2042 : BitVec 1 := Scalar.cmpi .slt v2040 c0_i32_1514
  let c0_i32_1515 : BitVec 32 := 0#32
  let v2043 : BitVec 1 := Scalar.cmpi .slt v2039 c0_i32_1515
  let v2044 : BitVec 1 := Scalar.xori v2042 v2043
  let c0_i32_1513 : BitVec 32 := 0#32
  let v2041 : BitVec 1 := Scalar.cmpi .ne v2040 c0_i32_1513
  let v2045 : BitVec 1 := Scalar.andi v2044 v2041
  let v2046 : BitVec 32 := Scalar.addi v2040 v2039
  let v2047 : BitVec 32 := Scalar.select v2045 v2046 v2040
  let c1_i32_1516 : BitVec 32 := 1#32
  let v2048 : BitVec 32 := Scalar.muli v2047 c1_i32_1516
  let v2049 : BitVec 32 := Scalar.addi c0_i32_1517 v2048
  v2049.toNat
def k0_dev90 (d0 : Dev nD) : Nat :=
  let c0_i32_1530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1522 : BitVec 32 := 27#32
  let v2058 : BitVec 32 := Scalar.addi v2 c27_i32_1522
  let c32_i32_1523 : BitVec 32 := 32#32
  let c0_i32_1524 : BitVec 32 := 0#32
  let v2059 : BitVec 1 := Scalar.cmpi .eq c32_i32_1523 c0_i32_1524
  let c1_i32_1525 : BitVec 32 := 1#32
  let v2060 : BitVec 32 := Scalar.select v2059 c1_i32_1525 c32_i32_1523
  let v2061 : BitVec 32 := Scalar.remsi v2058 v2060
  let c0_i32_1527 : BitVec 32 := 0#32
  let v2063 : BitVec 1 := Scalar.cmpi .slt v2061 c0_i32_1527
  let c0_i32_1528 : BitVec 32 := 0#32
  let v2064 : BitVec 1 := Scalar.cmpi .slt v2060 c0_i32_1528
  let v2065 : BitVec 1 := Scalar.xori v2063 v2064
  let c0_i32_1526 : BitVec 32 := 0#32
  let v2062 : BitVec 1 := Scalar.cmpi .ne v2061 c0_i32_1526
  let v2066 : BitVec 1 := Scalar.andi v2065 v2062
  let v2067 : BitVec 32 := Scalar.addi v2061 v2060
  let v2068 : BitVec 32 := Scalar.select v2066 v2067 v2061
  let c1_i32_1529 : BitVec 32 := 1#32
  let v2069 : BitVec 32 := Scalar.muli v2068 c1_i32_1529
  let v2070 : BitVec 32 := Scalar.addi c0_i32_1530 v2069
  v2070.toNat
def k0_dev91 (d0 : Dev nD) : Nat :=
  let c0_i32_1543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1535 : BitVec 32 := 28#32
  let v2079 : BitVec 32 := Scalar.addi v2 c28_i32_1535
  let c32_i32_1536 : BitVec 32 := 32#32
  let c0_i32_1537 : BitVec 32 := 0#32
  let v2080 : BitVec 1 := Scalar.cmpi .eq c32_i32_1536 c0_i32_1537
  let c1_i32_1538 : BitVec 32 := 1#32
  let v2081 : BitVec 32 := Scalar.select v2080 c1_i32_1538 c32_i32_1536
  let v2082 : BitVec 32 := Scalar.remsi v2079 v2081
  let c0_i32_1540 : BitVec 32 := 0#32
  let v2084 : BitVec 1 := Scalar.cmpi .slt v2082 c0_i32_1540
  let c0_i32_1541 : BitVec 32 := 0#32
  let v2085 : BitVec 1 := Scalar.cmpi .slt v2081 c0_i32_1541
  let v2086 : BitVec 1 := Scalar.xori v2084 v2085
  let c0_i32_1539 : BitVec 32 := 0#32
  let v2083 : BitVec 1 := Scalar.cmpi .ne v2082 c0_i32_1539
  let v2087 : BitVec 1 := Scalar.andi v2086 v2083
  let v2088 : BitVec 32 := Scalar.addi v2082 v2081
  let v2089 : BitVec 32 := Scalar.select v2087 v2088 v2082
  let c1_i32_1542 : BitVec 32 := 1#32
  let v2090 : BitVec 32 := Scalar.muli v2089 c1_i32_1542
  let v2091 : BitVec 32 := Scalar.addi c0_i32_1543 v2090
  v2091.toNat
def k0_dev92 (d0 : Dev nD) : Nat :=
  let c0_i32_1556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1548 : BitVec 32 := 29#32
  let v2100 : BitVec 32 := Scalar.addi v2 c29_i32_1548
  let c32_i32_1549 : BitVec 32 := 32#32
  let c0_i32_1550 : BitVec 32 := 0#32
  let v2101 : BitVec 1 := Scalar.cmpi .eq c32_i32_1549 c0_i32_1550
  let c1_i32_1551 : BitVec 32 := 1#32
  let v2102 : BitVec 32 := Scalar.select v2101 c1_i32_1551 c32_i32_1549
  let v2103 : BitVec 32 := Scalar.remsi v2100 v2102
  let c0_i32_1553 : BitVec 32 := 0#32
  let v2105 : BitVec 1 := Scalar.cmpi .slt v2103 c0_i32_1553
  let c0_i32_1554 : BitVec 32 := 0#32
  let v2106 : BitVec 1 := Scalar.cmpi .slt v2102 c0_i32_1554
  let v2107 : BitVec 1 := Scalar.xori v2105 v2106
  let c0_i32_1552 : BitVec 32 := 0#32
  let v2104 : BitVec 1 := Scalar.cmpi .ne v2103 c0_i32_1552
  let v2108 : BitVec 1 := Scalar.andi v2107 v2104
  let v2109 : BitVec 32 := Scalar.addi v2103 v2102
  let v2110 : BitVec 32 := Scalar.select v2108 v2109 v2103
  let c1_i32_1555 : BitVec 32 := 1#32
  let v2111 : BitVec 32 := Scalar.muli v2110 c1_i32_1555
  let v2112 : BitVec 32 := Scalar.addi c0_i32_1556 v2111
  v2112.toNat
def k0_dev93 (d0 : Dev nD) : Nat :=
  let c0_i32_1569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1561 : BitVec 32 := 30#32
  let v2121 : BitVec 32 := Scalar.addi v2 c30_i32_1561
  let c32_i32_1562 : BitVec 32 := 32#32
  let c0_i32_1563 : BitVec 32 := 0#32
  let v2122 : BitVec 1 := Scalar.cmpi .eq c32_i32_1562 c0_i32_1563
  let c1_i32_1564 : BitVec 32 := 1#32
  let v2123 : BitVec 32 := Scalar.select v2122 c1_i32_1564 c32_i32_1562
  let v2124 : BitVec 32 := Scalar.remsi v2121 v2123
  let c0_i32_1566 : BitVec 32 := 0#32
  let v2126 : BitVec 1 := Scalar.cmpi .slt v2124 c0_i32_1566
  let c0_i32_1567 : BitVec 32 := 0#32
  let v2127 : BitVec 1 := Scalar.cmpi .slt v2123 c0_i32_1567
  let v2128 : BitVec 1 := Scalar.xori v2126 v2127
  let c0_i32_1565 : BitVec 32 := 0#32
  let v2125 : BitVec 1 := Scalar.cmpi .ne v2124 c0_i32_1565
  let v2129 : BitVec 1 := Scalar.andi v2128 v2125
  let v2130 : BitVec 32 := Scalar.addi v2124 v2123
  let v2131 : BitVec 32 := Scalar.select v2129 v2130 v2124
  let c1_i32_1568 : BitVec 32 := 1#32
  let v2132 : BitVec 32 := Scalar.muli v2131 c1_i32_1568
  let v2133 : BitVec 32 := Scalar.addi c0_i32_1569 v2132
  v2133.toNat
def k0_dev94 (d0 : Dev nD) : Nat :=
  let c0_i32_1582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1574 : BitVec 32 := 31#32
  let v2142 : BitVec 32 := Scalar.addi v2 c31_i32_1574
  let c32_i32_1575 : BitVec 32 := 32#32
  let c0_i32_1576 : BitVec 32 := 0#32
  let v2143 : BitVec 1 := Scalar.cmpi .eq c32_i32_1575 c0_i32_1576
  let c1_i32_1577 : BitVec 32 := 1#32
  let v2144 : BitVec 32 := Scalar.select v2143 c1_i32_1577 c32_i32_1575
  let v2145 : BitVec 32 := Scalar.remsi v2142 v2144
  let c0_i32_1579 : BitVec 32 := 0#32
  let v2147 : BitVec 1 := Scalar.cmpi .slt v2145 c0_i32_1579
  let c0_i32_1580 : BitVec 32 := 0#32
  let v2148 : BitVec 1 := Scalar.cmpi .slt v2144 c0_i32_1580
  let v2149 : BitVec 1 := Scalar.xori v2147 v2148
  let c0_i32_1578 : BitVec 32 := 0#32
  let v2146 : BitVec 1 := Scalar.cmpi .ne v2145 c0_i32_1578
  let v2150 : BitVec 1 := Scalar.andi v2149 v2146
  let v2151 : BitVec 32 := Scalar.addi v2145 v2144
  let v2152 : BitVec 32 := Scalar.select v2150 v2151 v2145
  let c1_i32_1581 : BitVec 32 := 1#32
  let v2153 : BitVec 32 := Scalar.muli v2152 c1_i32_1581
  let v2154 : BitVec 32 := Scalar.addi c0_i32_1582 v2153
  v2154.toNat
def k0_off7 (d0 : Dev nD) (c1_i32_1587 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2163 : BitVec 32 := Scalar.subi v2 c1_i32_1587
  let c32_i32_1588 : BitVec 32 := 32#32
  let c0_i32_1589 : BitVec 32 := 0#32
  let v2164 : BitVec 1 := Scalar.cmpi .eq c32_i32_1588 c0_i32_1589
  let c1_i32_1590 : BitVec 32 := 1#32
  let v2165 : BitVec 32 := Scalar.select v2164 c1_i32_1590 c32_i32_1588
  let v2166 : BitVec 32 := Scalar.remsi v2163 v2165
  let c0_i32_1592 : BitVec 32 := 0#32
  let v2168 : BitVec 1 := Scalar.cmpi .slt v2166 c0_i32_1592
  let c0_i32_1593 : BitVec 32 := 0#32
  let v2169 : BitVec 1 := Scalar.cmpi .slt v2165 c0_i32_1593
  let v2170 : BitVec 1 := Scalar.xori v2168 v2169
  let c0_i32_1591 : BitVec 32 := 0#32
  let v2167 : BitVec 1 := Scalar.cmpi .ne v2166 c0_i32_1591
  let v2171 : BitVec 1 := Scalar.andi v2170 v2167
  let v2172 : BitVec 32 := Scalar.addi v2166 v2165
  let v2173 : BitVec 32 := Scalar.select v2171 v2172 v2166
  ![v2173.toNat]
def k0_off8 (d0 : Dev nD) (c1_i32_1587 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2163 : BitVec 32 := Scalar.subi v2 c1_i32_1587
  let c32_i32_1588 : BitVec 32 := 32#32
  let c0_i32_1589 : BitVec 32 := 0#32
  let v2164 : BitVec 1 := Scalar.cmpi .eq c32_i32_1588 c0_i32_1589
  let c1_i32_1590 : BitVec 32 := 1#32
  let v2165 : BitVec 32 := Scalar.select v2164 c1_i32_1590 c32_i32_1588
  let v2166 : BitVec 32 := Scalar.remsi v2163 v2165
  let c0_i32_1592 : BitVec 32 := 0#32
  let v2168 : BitVec 1 := Scalar.cmpi .slt v2166 c0_i32_1592
  let c0_i32_1593 : BitVec 32 := 0#32
  let v2169 : BitVec 1 := Scalar.cmpi .slt v2165 c0_i32_1593
  let v2170 : BitVec 1 := Scalar.xori v2168 v2169
  let c0_i32_1591 : BitVec 32 := 0#32
  let v2167 : BitVec 1 := Scalar.cmpi .ne v2166 c0_i32_1591
  let v2171 : BitVec 1 := Scalar.andi v2170 v2167
  let v2172 : BitVec 32 := Scalar.addi v2166 v2165
  let v2173 : BitVec 32 := Scalar.select v2171 v2172 v2166
  let c0_i32_1596 : BitVec 32 := 0#32
  let c0_i32_1597 : BitVec 32 := 0#32
  ![v2173.toNat, 0, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Base.lean ====
/- The cells, buffers and contents of the kernel's exchange, over any float values `F`:
   which device and which semaphore each step of the program names, what each slot of each
   buffer holds once it is filled, and the values the body computes from them. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Devices -/

/-- The device `d` places after `c`. -/
def rot (c : Dev nD) (d : ℕ) : Dev nD := ⟨(c.val + d) % 32, Nat.mod_lt _ (by decide)⟩
/-- The device `d` places before `c`. -/
def back (c : Dev nD) (d : ℕ) : Dev nD := ⟨(c.val + (32 - d)) % 32, Nat.mod_lt _ (by decide)⟩
/-- A natural number as a device. -/
def dv (n : ℕ) : Dev nD := ⟨n % 32, Nat.mod_lt _ (by decide)⟩

theorem rot_zero (c : Dev nD) : rot c 0 = c := by revert c; decide +kernel
theorem rot_ne (c : Dev nD) {d : ℕ} (h1 : 1 ≤ d) (h2 : d < 32) : rot c d ≠ c := by
  intro h
  have h' := congrArg Fin.val h
  have := c.isLt
  simp only [rot, nD] at h' this
  omega
theorem back_ne (c : Dev nD) {d : ℕ} (h1 : 1 ≤ d) (h2 : d < 32) : back c d ≠ c := by
  intro h
  have h' := congrArg Fin.val h
  have := c.isLt
  simp only [back, nD] at h' this
  omega

theorem off1_eq (c : Dev nD) (d : ℕ) (hd : d < 32) : k0_off1 c (BitVec.ofNat 32 d) = ![(rot c d).val] :=
  (by decide +kernel : ∀ (c : Dev nD) (r : Fin 32), k0_off1 c (BitVec.ofNat 32 r.val) = ![(rot c r.val).val]) c ⟨d, hd⟩
theorem off4_eq (c : Dev nD) (d : ℕ) (hd : d < 32) : k0_off4 c (BitVec.ofNat 32 d) = ![128 * (rot c d).val, 0] :=
  (by decide +kernel : ∀ (c : Dev nD) (r : Fin 32), k0_off4 c (BitVec.ofNat 32 r.val) = ![128 * (rot c r.val).val, 0]) c ⟨d, hd⟩
theorem off7_eq (c : Dev nD) (d : ℕ) (hd : d < 32) : k0_off7 c (BitVec.ofNat 32 d) = ![(back c d).val] :=
  (by decide +kernel : ∀ (c : Dev nD) (r : Fin 32), k0_off7 c (BitVec.ofNat 32 r.val) = ![(back c r.val).val]) c ⟨d, hd⟩

/-! ## Semaphores -/

/-- The runtime's barrier semaphore. -/
abbrev barS : Sem sig := (SemArray.scalar (sig.barrier 0 rfl) : Sems sig S_).sem

def wdS (b : Fin 2) : DmaSem sig := ⟨2 + b.val, by have := b.isLt; show _ < 132; omega⟩
def sndS (p : Dev nD) : DmaSem sig := ⟨4 + p.val, by have := p.isLt; simp only [nD] at this; show _ < 132; omega⟩
def rcvS (p : Dev nD) : DmaSem sig := ⟨36 + p.val, by have := p.isLt; simp only [nD] at this; show _ < 132; omega⟩
def asnS (p : Dev nD) : DmaSem sig := ⟨68 + p.val, by have := p.isLt; simp only [nD] at this; show _ < 132; omega⟩
def arcS (p : Dev nD) : DmaSem sig := ⟨100 + p.val, by have := p.isLt; simp only [nD] at this; show _ < 132; omega⟩

theorem off2_inb (p : Dev nD) (a : Fin 1) : (![p.val] : Fin 1 → ℕ) a + S1.size a ≤ S32.size a := by
  revert a; revert p; decide +kernel

theorem snd_sem (p : Dev nD) (off : Fin 1 → ℕ) (ho : off = ![p.val]) (h) :
    ((cc0_scratch5.slice (Rect.unit (s := S32) off S1.size h)).squeeze S_ squeezes_S1_S_).sem = sndS p := by
  subst ho; revert p; decide +kernel

theorem rcv_sem (p : Dev nD) (off : Fin 1 → ℕ) (ho : off = ![p.val]) (h) :
    ((cc0_scratch6.slice (Rect.unit (s := S32) off S1.size h)).squeeze S_ squeezes_S1_S_).sem = rcvS p := by
  subst ho; revert p; decide +kernel

theorem asn_sem (p : Dev nD) (off : Fin 1 → ℕ) (ho : off = ![p.val]) (h) :
    ((cc0_scratch7.slice (Rect.unit (s := S32) off S1.size h)).squeeze S_ squeezes_S1_S_).sem = asnS p := by
  subst ho; revert p; decide +kernel

theorem arc_sem (p : Dev nD) (off : Fin 1 → ℕ) (ho : off = ![p.val]) (h) :
    ((cc0_scratch8.slice (Rect.unit (s := S32) off S1.size h)).squeeze S_ squeezes_S1_S_).sem = arcS p := by
  subst ho; revert p; decide +kernel

theorem wd_sem (b : Fin 2) (off : Fin 1 → ℕ) (ho : off = ![b.val]) (h) :
    ((cc0_scratch4.slice (Rect.unit (s := S2) off S1.size h)).squeeze S_ squeezes_S1_S_).sem = wdS b := by
  subst ho; revert b; decide +kernel

end Cert.Exchange
end
-- ==== Proof.Protocol.lean ====
/- The exchange as a schedule of rounds: what every semaphore cell is credited with, in which round and by whom, and
   which elements of which buffer each credit hands over, with their contents. -/
module

public import proofs.«01_k».proof.Proof.Base

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The buffers and their slots -/

abbrev xM : Memref sig .tc .vmem S4096x128 .f32 := Memref.whole cc0_stg0_0
abbrev wM : Memref sig .tc .hbm S4096x2048 .f32 := Memref.whole main_arg1
abbrev oM : Memref sig .tc .vmem S128x2048 .f32 := Memref.whole cc0_stg1_0
abbrev xbM : Memref sig .tc .vmem S4096x128 .bf16 := Memref.whole cc0_scratch0
abbrev stM : Memref sig .tc .vmem S32x128x128 .bf16 := Memref.whole cc0_scratch1
abbrev wbM : Memref sig .tc .vmem S2x512x2048 .f32 := Memref.whole cc0_scratch2
abbrev amM : Memref sig .tc .vmem S32x8x128 .f32 := Memref.whole cc0_scratch3

theorem inbX (p : Dev nD) : ∀ a, (![128 * p.val, 0] : Fin 2 → ℕ) a + S128x128.size a ≤ S4096x128.size a := by revert p; decide +kernel
theorem inbS (p : Dev nD) : ∀ a, (![p.val, 0, 0] : Fin 3 → ℕ) a + S1x128x128.size a ≤ S32x128x128.size a := by revert p; decide +kernel
theorem inbA (p : Dev nD) : ∀ a, (![p.val, 0, 0] : Fin 3 → ℕ) a + S1x8x128.size a ≤ S32x8x128.size a := by revert p; decide +kernel
theorem inbW (j : Fin 8) : ∀ a, (![512 * j.val, 0] : Fin 2 → ℕ) a + S512x2048.size a ≤ S4096x2048.size a := by revert j; decide +kernel
theorem inbB (b : Fin 2) : ∀ a, (![b.val, 0, 0] : Fin 3 → ℕ) a + S1x512x2048.size a ≤ S2x512x2048.size a := by revert b; decide +kernel

/-- Rows `128 p …` of the cast shard; row block `p` of it goes to device `p`. -/
abbrev rX (p : Dev nD) : Rect S4096x128 := Rect.unit (s := S4096x128) ![128 * p.val, 0] S128x128.size (inbX p)
/-- Slot `p` of the staging buffer: filled by device `p`. -/
abbrev rS (p : Dev nD) : Rect S32x128x128 := Rect.unit (s := S32x128x128) ![p.val, 0, 0] S1x128x128.size (inbS p)
/-- Slot `p` of the table of maxima. -/
abbrev rA (p : Dev nD) : Rect S32x8x128 := Rect.unit (s := S32x8x128) ![p.val, 0, 0] S1x8x128.size (inbA p)
/-- Rows `512 j …` of the replicated operand. -/
abbrev rW (j : Fin 8) : Rect S4096x2048 := Rect.unit (s := S4096x2048) ![512 * j.val, 0] S512x2048.size (inbW j)
/-- Half `b` of the double buffer for it. -/
abbrev rB (b : Fin 2) : Rect S2x512x2048 := Rect.unit (s := S2x512x2048) ![b.val, 0, 0] S1x512x2048.size (inbB b)

abbrev xRow (p : Dev nD) : Memref sig .tc .vmem S128x128 .bf16 := xbM.slice (rX p) (fun _ => rfl)
abbrev stSlot (p : Dev nD) : Memref sig .tc .vmem S128x128 .bf16 := (stM.slice (rS p) (fun _ => rfl)).squeeze S128x128 squeezes_S1x128x128_S128x128
abbrev amSlot (p : Dev nD) : Memref sig .tc .vmem S8x128 .f32 := (amM.slice (rA p) (fun _ => rfl)).squeeze S8x128 squeezes_S1x8x128_S8x128
abbrev wRow (j : Fin 8) : Memref sig .tc .hbm S512x2048 .f32 := wM.slice (rW j) (fun _ => rfl)
abbrev wSlot (b : Fin 2) : Memref sig .tc .vmem S512x2048 .f32 := (wbM.slice (rB b) (fun _ => rfl)).squeeze S512x2048 squeezes_S1x512x2048_S512x2048

theorem set_xRow (p : Dev nD) : (xRow p).view.set = (rX p).set := View.set_slice_whole _ _
theorem set_stSlot (p : Dev nD) : (stSlot p).view.set = (rS p).set := (View.set_reshape _ _).trans (View.set_slice_whole _ _)
theorem set_amSlot (p : Dev nD) : (amSlot p).view.set = (rA p).set := (View.set_reshape _ _).trans (View.set_slice_whole _ _)
theorem set_wRow (j : Fin 8) : (wRow j).view.set = (rW j).set := View.set_slice_whole _ _
theorem set_wSlot (b : Fin 2) : (wSlot b).view.set = (rB b).set := (View.set_reshape _ _).trans (View.set_slice_whole _ _)

/-! ## Contents -/

/-- Chunk `j` (read modulo 8) and the half of the double buffer it goes to. -/
def cj (j : ℕ) : Fin 8 := ⟨j % 8, Nat.mod_lt _ (by decide)⟩
def hb (j : ℕ) : Fin 2 := ⟨j % 2, Nat.mod_lt _ (by decide)⟩

/-- The staged block of the first operand on device `c`. -/
def xs (c : Dev nD) : (cc0_stg0_0 : Ref sig .tc).ty.Contents (Elt F) :=
  (win0_0.blk (0 : Fin 1)).view.read (Elt F) (m ((c : Thread nD τ).loc main_arg0))
/-- It, cast. -/
def xb (c : Dev nD) : (cc0_scratch0 : Ref sig .tc).ty.Contents (Elt F) := k0_pay1 (xs m c)
/-- The replicated operand as device `c` holds it. -/
def wA (c : Dev nD) : (main_arg1 : Ref sig .tc).ty.Contents (Elt F) := m ((c : Thread nD τ).loc main_arg1)

/-- The staging buffer of device `c`, slot `q` filled with row block `c` of device `q`'s cast shard. -/
def stG (c q : Dev nD) : (cc0_scratch1 : Ref sig .tc).ty.Contents (Elt F) :=
  (stSlot q).view.write (Elt F) (m ((c : Thread nD τ).loc cc0_scratch1)) ((xRow c).view.read (Elt F) (xb m q)) Finset.univ
/-- The double buffer of device `c`, chunk `j`'s half filled. -/
def wbG (c : Dev nD) (j : ℕ) : (cc0_scratch2 : Ref sig .tc).ty.Contents (Elt F) :=
  (wSlot (hb j)).view.write (Elt F) (m ((c : Thread nD τ).loc cc0_scratch2)) ((wRow (cj j)).view.read (Elt F) (wA m c)) Finset.univ

/-- What the body loads from staging slot `q`, and from chunk `j`'s half. -/
def stLd (c q : Dev nD) : Vec F S1x128x128 .bf16 := stM.view.readAt (Elt F) (rS q).toLoadRect (stG m c q)
def wLd (c : Dev nD) (j : ℕ) : Vec F S1x512x2048 .f32 := wbM.view.readAt (Elt F) (rB (hb j)).toLoadRect (wbG m c j)

/-- The product accumulated over the first `j` chunks. -/
def yAcc (c : Dev nD) : ℕ → FVec F S128x2048 .f32
  | 0 => k0_pay2
  | j + 1 => k0_pay3 (yAcc c j) (stLd m c (dv (4 * j))) (stLd m c (dv (4 * j + 1))) (stLd m c (dv (4 * j + 2))) (stLd m c (dv (4 * j + 3))) (wLd m c j)

/-- The tile of device `q`'s largest absolute value. -/
def lmx (q : Dev nD) : FVec F S1x8x128 .f32 :=
  k0_pay21 (yAcc m q 7) (k0_pay17 (stLd m q (dv 28))) (k0_pay18 (stLd m q (dv 29))) (k0_pay19 (stLd m q (dv 30))) (stLd m q (dv 31)) (wLd m q 7)

theorem lmx_const (q : Dev nD) (i i' : S1x8x128.Idx) : lmx m q i = lmx m q i' := rfl

/-- The table of the devices' maxima. -/
def amG : (cc0_scratch3 : Ref sig .tc).ty.Contents (Elt F) := fun i => lmx m (i 0) (fun a => ⟨0, by revert a; decide⟩)

/-- The result of device `c`. -/
def outAt (c : Dev nD) : (cc0_stg1_0 : Ref sig .tc).ty.Contents (Elt F) := k0_pay22 (yAcc m c 8) (amG m)

end Cert.Exchange
end
-- ==== Proof.Sched.lean ====
/- The exchange as a schedule of rounds: what every semaphore cell is credited with, in which round and by whom, and
   which elements of which buffer each credit hands over, with their contents. -/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Ownership of the slots -/

/-- Row block `p` of the cast shard on `c`. -/
def xRowP (c p : Dev nD) : sProp 𝕄 := (xRow p).view.loc (c : Thread nD τ) ↦[(xRow p).view.set]{fullShare} xb m c
/-- Staging slot `q` on `c`, filled. -/
def stP (c q : Dev nD) : sProp 𝕄 := (stSlot q).view.loc (c : Thread nD τ) ↦[(stSlot q).view.set]{fullShare} stG m c q
/-- Staging slot `q` on `c`, at any contents. -/
def stAny (c q : Dev nD) : sProp 𝕄 := iprop(∃ f, (stSlot q).view.loc (c : Thread nD τ) ↦[(stSlot q).view.set]{fullShare} f)
/-- A share `s` of slot `q` of the table of maxima on `c`, filled. -/
def amP (c q : Dev nD) (s : PosShare TreeShare) : sProp 𝕄 := (amSlot q).view.loc (c : Thread nD τ) ↦[(amSlot q).view.set]{s} amG m
def amAny (c q : Dev nD) : sProp 𝕄 := iprop(∃ f, (amSlot q).view.loc (c : Thread nD τ) ↦[(amSlot q).view.set]{fullShare} f)
/-- Rows of chunk `j` of the replicated operand on `c`. -/
def wRowP (c : Dev nD) (j : ℕ) : sProp 𝕄 := (wRow (cj j)).view.loc (c : Thread nD τ) ↦[(wRow (cj j)).view.set]{fullShare} wA m c
/-- The half of the double buffer on `c` holding chunk `j`. -/
def wbP (c : Dev nD) (j : ℕ) : sProp 𝕄 := (wSlot (hb j)).view.loc (c : Thread nD τ) ↦[(wSlot (hb j)).view.set]{fullShare} wbG m c j

/-- The share of a slot of the table meant for device `p`. -/
abbrev shr (p : Dev nD) : PosShare TreeShare := Transfers.dealOf fullShare (Finset.univ : Finset (Dev nD)) p

/-- What device `p`'s barrier signal hands to `c`: slots `c` of its two landing buffers. -/
def barPay (c p : Dev nD) : sProp 𝕄 := iprop(stAny p c ∗ amAny p c)

omit [FloatOps F] in
instance stAny_storable (c q : Dev nD) : BI.Storable (upEmb : UEmb _ 𝕄) (stAny (F := F) c q) := by unfold stAny; infer_instance
omit [FloatOps F] in
instance amAny_storable (c q : Dev nD) : BI.Storable (upEmb : UEmb _ 𝕄) (amAny (F := F) c q) := by unfold amAny; infer_instance
instance xRowP_storable (c p : Dev nD) : BI.Storable (upEmb : UEmb _ 𝕄) (xRowP m c p) := by unfold xRowP; infer_instance
instance stP_storable (c q : Dev nD) : BI.Storable (upEmb : UEmb _ 𝕄) (stP m c q) := by unfold stP; infer_instance
instance amP_storable (c q : Dev nD) (s) : BI.Storable (upEmb : UEmb _ 𝕄) (amP m c q s) := by unfold amP; infer_instance
omit [FloatOps F] in
instance wRowP_storable (c : Dev nD) (j : ℕ) : BI.Storable (upEmb : UEmb _ 𝕄) (wRowP m c j) := by unfold wRowP; infer_instance
omit [FloatOps F] in
instance wbP_storable (c : Dev nD) (j : ℕ) : BI.Storable (upEmb : UEmb _ 𝕄) (wbP m c j) := by unfold wbP; infer_instance
omit [FloatOps F] in
instance barPay_storable (c p : Dev nD) : BI.Storable (upEmb : UEmb _ 𝕄) (barPay (F := F) c p) := by unfold barPay; infer_instance

/-! ## The schedule -/

/-- The credits of a row block, of a chunk of the replicated operand, and of a tile of the table. -/
abbrev NX : ℕ := (stSlot 0).view.dmaCredit
abbrev NW : ℕ := (wSlot 0).view.dmaCredit
abbrev NA : ℕ := (amSlot 0).view.dmaCredit
theorem NX_pos : 0 < NX := View.dmaCredit_pos _ (by decide)
theorem NW_pos : 0 < NW := View.dmaCredit_pos _ (by decide)
theorem NA_pos : 0 < NA := View.dmaCredit_pos _ (by decide)

/-- A device's duties on one of its cells: its barrier is signalled once by every other device; the copies of the
    replicated operand take four rounds on each of two cells; every other cell takes one transfer, and the cells of a
    device's tile sent to itself take none. -/
def dutiesS (c : Dev nD) : SemLoc sig → ℕ → Finset (Dev nD)
  | .reg _, r => if r = 0 then Finset.univ.erase c else ∅
  | .dma i, r =>
    if i.val < 2 then ∅
    else if i.val < 4 then (if r < 4 then {0} else ∅)
    else if i.val < 68 then (if r = 0 then {0} else ∅)
    else if i.val < 100 then (if r = 0 ∧ dv (i.val - 68) ≠ c then {0} else ∅)
    else (if r = 0 ∧ dv (i.val - 100) ≠ c then {0} else ∅)

def amountS : SemLoc sig → ℕ
  | .reg _ => 1
  | .dma i => if i.val < 4 then NW else if i.val < 68 then NX else NA

def paysS (c : Dev nD) : SemLoc sig → ℕ → Dev nD → sProp 𝕄
  | .reg _, _, d => barPay c d
  | .dma i, r, _ =>
    if i.val < 4 then iprop(wbP m c (2 * r + (i.val - 2)) ∗ wRowP m c (2 * r + (i.val - 2)))
    else if i.val < 36 then xRowP m c (dv (i.val - 4))
    else if i.val < 68 then stP m c (dv (i.val - 36))
    else if i.val < 100 then amP m c c (shr (dv (i.val - 68)))
    else amP m c (dv (i.val - 100)) fullShare

instance paysS_storable (c : Dev nD) (s : SemLoc sig) (r : ℕ) (d : Dev nD) : BI.Storable (upEmb : UEmb _ 𝕄) (paysS m c s r d) := by
  cases s with
  | reg _ => show BI.Storable upEmb (barPay c d); infer_instance
  | dma i => unfold paysS; dsimp only; (repeat' split) <;> infer_instance

def Rd : Rounds.Schedule (GSem nD τ sig) (Dev nD) 𝕄 where
  duties g r := if g.1.2 = .tc then dutiesS g.1.1 g.2 r else ∅
  unitless _ := False
  amount g _ _ := amountS g.2
  payload g r d := paysS m g.1.1 g.2 r d
  amount_pos g _ _ _ := by
    obtain ⟨_, s⟩ := g
    cases s with
    | reg _ => exact Nat.one_pos
    | dma i =>
      show 0 < (if i.val < 4 then NW else if i.val < 68 then NX else NA)
      split
      · exact NW_pos
      · split
        · exact NX_pos
        · exact NA_pos

instance Rd_storable (g : GSem nD τ sig) (r : ℕ) (d : Dev nD) : BI.Storable (upEmb : UEmb _ 𝕄) ((Rd m).payload g r d) := by
  show BI.Storable upEmb (paysS m g.1.1 g.2 r d); infer_instance

abbrev barC (c : Dev nD) : GSem nD τ sig := ((c : Thread nD τ), .reg barS)
abbrev dmaC (c : Dev nD) (i : DmaSem sig) : GSem nD τ sig := ((c : Thread nD τ), .dma i)

theorem dv_val (p : Dev nD) : dv p.val = p := by revert p; decide +kernel
theorem dv_add (k : ℕ) (p : Dev nD) : dv (k + p.val - k) = p := by rw [Nat.add_sub_cancel_left]; exact dv_val p

section Cells
variable (c p : Dev nD)

theorem duties_bar : (Rd m).duties (barC c) 0 = Finset.univ.erase c := rfl
theorem duties_wd (b : Fin 2) (r : ℕ) (hr : r < 4) : (Rd m).duties (dmaC c (wdS b)) r = {0} := by
  have := b.isLt
  show (if 2 + b.val < 2 then ∅ else if 2 + b.val < 4 then (if r < 4 then {0} else ∅) else _) = _
  rw [if_neg (by omega), if_pos (by omega), if_pos hr]
theorem duties_snd : (Rd m).duties (dmaC c (sndS p)) 0 = {0} := by
  have hp : p.val < 32 := p.isLt
  show (if 4 + p.val < 2 then ∅ else if 4 + p.val < 4 then _ else if 4 + p.val < 68 then _ else _) = _
  rw [if_neg (by omega), if_neg (by omega), if_pos (by omega)]; rfl
theorem duties_rcv : (Rd m).duties (dmaC c (rcvS p)) 0 = {0} := by
  have hp : p.val < 32 := p.isLt
  show (if 36 + p.val < 2 then ∅ else if 36 + p.val < 4 then _ else if 36 + p.val < 68 then _ else _) = _
  rw [if_neg (by omega), if_neg (by omega), if_pos (by omega)]; rfl
theorem duties_asn (h : p ≠ c) : (Rd m).duties (dmaC c (asnS p)) 0 = {0} := by
  have hp : p.val < 32 := p.isLt
  show (if 68 + p.val < 2 then ∅ else if 68 + p.val < 4 then _ else if 68 + p.val < 68 then _
    else if 68 + p.val < 100 then (if 0 = 0 ∧ dv (68 + p.val - 68) ≠ c then {0} else ∅) else _) = _
  rw [if_neg (by omega), if_neg (by omega), if_neg (by omega), if_pos (by omega)]
  exact if_pos ⟨rfl, fun e => h ((dv_add 68 p).symm.trans e)⟩
theorem duties_arc (h : p ≠ c) : (Rd m).duties (dmaC c (arcS p)) 0 = {0} := by
  have hp : p.val < 32 := p.isLt
  show (if 100 + p.val < 2 then ∅ else if 100 + p.val < 4 then _ else if 100 + p.val < 68 then _
    else if 100 + p.val < 100 then _ else (if 0 = 0 ∧ dv (100 + p.val - 100) ≠ c then {0} else ∅)) = _
  rw [if_neg (by omega), if_neg (by omega), if_neg (by omega), if_neg (by omega)]
  exact if_pos ⟨rfl, fun e => h ((dv_add 100 p).symm.trans e)⟩
theorem duties_asn_self (r : ℕ) : (Rd m).duties (dmaC c (asnS c)) r = ∅ := by
  have hp : c.val < 32 := c.isLt
  show (if 68 + c.val < 2 then ∅ else if 68 + c.val < 4 then _ else if 68 + c.val < 68 then _
    else if 68 + c.val < 100 then (if r = 0 ∧ dv (68 + c.val - 68) ≠ c then {0} else ∅) else _) = _
  rw [if_neg (by omega), if_neg (by omega), if_neg (by omega), if_pos (by omega)]
  exact if_neg fun h => h.2 (dv_add 68 c)
theorem duties_arc_self (r : ℕ) : (Rd m).duties (dmaC c (arcS c)) r = ∅ := by
  have hp : c.val < 32 := c.isLt
  show (if 100 + c.val < 2 then ∅ else if 100 + c.val < 4 then _ else if 100 + c.val < 68 then _
    else if 100 + c.val < 100 then _ else (if r = 0 ∧ dv (100 + c.val - 100) ≠ c then {0} else ∅)) = _
  rw [if_neg (by omega), if_neg (by omega), if_neg (by omega), if_neg (by omega)]
  exact if_neg fun h => h.2 (dv_add 100 c)

/-- No cell but the two of the replicated operand has a duty after its first round, and those none after the fourth. -/
theorem duties_later (g : GSem nD τ sig) (h : ∀ b, g.2 ≠ .dma (wdS b)) (r : ℕ) (hr : 1 ≤ r) : (Rd m).duties g r = ∅ := by
  obtain ⟨⟨c, t⟩, s⟩ := g
  show (if t = .tc then dutiesS c s r else ∅) = ∅
  split
  · cases s with
    | reg _ => exact if_neg (by omega)
    | dma i =>
      have h0 : ¬ (2 ≤ i.val ∧ i.val < 4) := fun hi => h ⟨i.val - 2, by omega⟩
        (congrArg SemLoc.dma (Fin.ext (by show i.val = 2 + (i.val - 2); omega) : i = wdS ⟨i.val - 2, by omega⟩))
      have hr0 : ¬ r = 0 := by omega
      have hf (P : Prop) : ¬ (r = 0 ∧ P) := fun x => hr0 x.1
      show (if i.val < 2 then ∅ else if i.val < 4 then _ else if i.val < 68 then (if r = 0 then {0} else ∅)
        else if i.val < 100 then (if r = 0 ∧ dv (i.val - 68) ≠ c then {0} else ∅) else (if r = 0 ∧ dv (i.val - 100) ≠ c then {0} else ∅)) = _
      rw [if_neg hr0, if_neg (hf _), if_neg (hf _)]
      (repeat' split) <;> first | rfl | omega
  · rfl
theorem duties_wd_later (b : Fin 2) (r : ℕ) (hr : 4 ≤ r) : (Rd m).duties (dmaC c (wdS b)) r = ∅ := by
  have := b.isLt
  show (if 2 + b.val < 2 then ∅ else if 2 + b.val < 4 then (if r < 4 then {0} else ∅) else _) = _
  rw [if_neg (by omega), if_pos (by omega), if_neg (by omega)]

theorem amount_wd (b : Fin 2) : amountS (.dma (wdS b)) = NW := if_pos (by have := b.isLt; show 2 + b.val < 4; omega)
theorem amount_snd : amountS (.dma (sndS p)) = NX := by
  have hp : p.val < 32 := p.isLt
  exact (if_neg (by show ¬ 4 + p.val < 4; omega)).trans (if_pos (by show 4 + p.val < 68; omega))
theorem amount_rcv : amountS (.dma (rcvS p)) = NX := by
  have hp : p.val < 32 := p.isLt
  exact (if_neg (by show ¬ 36 + p.val < 4; omega)).trans (if_pos (by show 36 + p.val < 68; omega))
theorem amount_asn : amountS (.dma (asnS p)) = NA :=
  (if_neg (by show ¬ 68 + p.val < 4; omega)).trans (if_neg (by show ¬ 68 + p.val < 68; omega))
theorem amount_arc : amountS (.dma (arcS p)) = NA :=
  (if_neg (by show ¬ 100 + p.val < 4; omega)).trans (if_neg (by show ¬ 100 + p.val < 68; omega))

theorem pays_wd (j : ℕ) (d : Dev nD) : (Rd m).payload (dmaC c (wdS (hb j))) (j / 2) d = iprop(wbP m c j ∗ wRowP m c j) := by
  have hj : 2 * (j / 2) + (2 + (j % 2) - 2) = j := by omega
  show (if 2 + (j % 2) < 4 then iprop(wbP m c (2 * (j / 2) + (2 + (j % 2) - 2)) ∗ wRowP m c (2 * (j / 2) + (2 + (j % 2) - 2))) else _) = _
  rw [if_pos (by omega), hj]
theorem pays_snd (r : ℕ) (d : Dev nD) : (Rd m).payload (dmaC c (sndS p)) r d = xRowP m c p := by
  have hp : p.val < 32 := p.isLt
  show (if 4 + p.val < 4 then _ else if 4 + p.val < 36 then xRowP m c (dv (4 + p.val - 4)) else _) = _
  rw [if_neg (by omega), if_pos (by omega), dv_add]
theorem pays_rcv (r : ℕ) (d : Dev nD) : (Rd m).payload (dmaC c (rcvS p)) r d = stP m c p := by
  have hp : p.val < 32 := p.isLt
  show (if 36 + p.val < 4 then _ else if 36 + p.val < 36 then _ else if 36 + p.val < 68 then stP m c (dv (36 + p.val - 36)) else _) = _
  rw [if_neg (by omega), if_neg (by omega), if_pos (by omega), dv_add]
theorem pays_asn (r : ℕ) (d : Dev nD) : (Rd m).payload (dmaC c (asnS p)) r d = amP m c c (shr p) := by
  have hp : p.val < 32 := p.isLt
  show (if 68 + p.val < 4 then _ else if 68 + p.val < 36 then _ else if 68 + p.val < 68 then _
    else if 68 + p.val < 100 then amP m c c (shr (dv (68 + p.val - 68))) else _) = _
  rw [if_neg (by omega), if_neg (by omega), if_neg (by omega), if_pos (by omega), dv_add]
theorem pays_arc (r : ℕ) (d : Dev nD) : (Rd m).payload (dmaC c (arcS p)) r d = amP m c p fullShare := by
  have hp : p.val < 32 := p.isLt
  show (if 100 + p.val < 4 then _ else if 100 + p.val < 36 then _ else if 100 + p.val < 68 then _
    else if 100 + p.val < 100 then _ else amP m c (dv (100 + p.val - 100)) fullShare) = _
  rw [if_neg (by omega), if_neg (by omega), if_neg (by omega), if_neg (by omega), dv_add]

theorem expect_bar : (Rd m).expect (barC c) 0 = 31 := by
  unfold Schedule.expect Schedule.amountOf
  rw [duties_bar, Finset.sum_congr rfl fun d _ => (show (Rd m).amount (barC c) 0 d = 1 from rfl), Finset.sum_const, Finset.card_erase_of_mem (Finset.mem_univ _),
    Finset.card_univ, Fintype.card_fin, smul_eq_mul]; rfl
/-- A cell with the one duty expects that duty's credit. -/
theorem expect_one {g : GSem nD τ sig} {r n : ℕ} (hd : (Rd m).duties g r = {0}) (ha : amountS g.2 = n) : (Rd m).expect g r = n := by
  unfold Schedule.expect Schedule.amountOf; rw [hd, Finset.sum_singleton]; exact ha
theorem rest_one {g : GSem nD τ sig} {r : ℕ} {P : sProp 𝕄} (hd : (Rd m).duties g r = {0}) (hp : (Rd m).payload g r 0 = P) :
    bigSep ((Rd m).duties g r \ ∅) (fun d => (Rd m).payload g r d) = P := by
  rw [Finset.sdiff_empty, hd, bigSep_singleton, hp]

end Cells

/-! ## What a filled slot holds -/

omit [FloatOps F] in
/-- The elements under a view, the view written: the same whatever the buffer held before. -/
theorem written_eq {t : Thread nD τ} {sp : Space} {s : Shape} {e : EltTy} (v : View sig t.2.kind sp s e) (q : PosShare TreeShare)
    (f g : Buf (Elt F) (v.loc t)) (w : s.Idx → Elt F e) :
    (v.loc t ↦[v.set]{q} v.write (Elt F) f w Finset.univ : sProp 𝕄) = v.loc t ↦[v.set]{q} v.write (Elt F) g w Finset.univ :=
  pointsTo_congr fun i hi => by
    obtain ⟨x, -, rfl⟩ := Finset.mem_map.mp hi
    rw [View.write_emb_of_mem _ _ (Finset.mem_univ x), View.write_emb_of_mem _ _ (Finset.mem_univ x)]

/-- The same where a buffer reads through the view as what is written. -/
theorem written_as {t : Thread nD τ} {sp : Space} {s : Shape} {e : EltTy} (v : View sig t.2.kind sp s e) (q : PosShare TreeShare)
    (f g : Buf (Elt F) (v.loc t)) (w : s.Idx → Elt F e) (h : v.read (Elt F) g = w) :
    (v.loc t ↦[v.set]{q} v.write (Elt F) f w Finset.univ : sProp 𝕄) = v.loc t ↦[v.set]{q} g := by
  rw [written_eq v q f g w, ← h]
  exact pointsTo_congr fun i hi => by
    obtain ⟨x, -, rfl⟩ := Finset.mem_map.mp hi
    rw [View.write_emb_of_mem _ _ (Finset.mem_univ x), View.read_apply, cast_cast, cast_eq]

end Cert.Exchange
end
-- ==== Proof.Env.lean ====
/- What is owed, at which levels, and the tools the steps share: the records every device keeps, sums and separating
   conjunctions over an interval of offsets, a buffer split into its slots. -/
module

public import proofs.«01_k».proof.Proof.Sched

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Intervals of offsets -/

omit [FloatOps F] in
theorem ico_bot {a b : ℕ} (h : a < b) (Φ : ℕ → sProp 𝕄) :
    bigSep (Finset.Ico a b) Φ = iprop(Φ a ∗ bigSep (Finset.Ico (a + 1) b) Φ) := by
  have e : Finset.Ico a b = insert a (Finset.Ico (a + 1) b) := by
    ext x; simp only [Finset.mem_insert, Finset.mem_Ico]; omega
  rw [e, bigSep_insert (by simp)]
  rfl
omit [FloatOps F] in
theorem ico_top {a b : ℕ} (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext x; simp only [Finset.mem_insert, Finset.mem_Ico]; omega
  rw [e, bigSep_insert (by simp)]
  rfl
omit [FloatOps F] in
theorem ico_nil (a : ℕ) (Φ : ℕ → sProp 𝕄) : bigSep (Finset.Ico a a) Φ = iprop(emp) := by
  rw [Finset.Ico_self, bigSep_empty]; rfl

/-- An enumeration of the devices by the offsets below 32. -/
def Enum (f : ℕ → Dev nD) : Prop := ∀ i j, i < 32 → j < 32 → f i = f j → i = j
theorem enum_dv : Enum dv := by
  intro i j hi hj h
  have := congrArg Fin.val h
  simp only [dv] at this; omega
theorem enum_rot (c : Dev nD) : Enum (rot c) := by
  intro i j hi hj h
  have := congrArg Fin.val h
  have hc : c.val < 32 := c.isLt
  simp only [rot] at this; omega
theorem back_zero (c : Dev nD) : back c 0 = c := by revert c; decide +kernel
theorem enum_back (c : Dev nD) : Enum (back c) := by
  intro i j hi hj h
  have := congrArg Fin.val h
  have hc : c.val < 32 := c.isLt
  simp only [back] at this; omega

theorem Enum.image {f : ℕ → Dev nD} (h : Enum f) : (Finset.Ico 0 32).image f = Finset.univ := by
  apply Finset.eq_univ_of_card
  rw [Finset.card_image_of_injOn (fun i hi j hj => h i j (Finset.mem_Ico.mp hi).2 (Finset.mem_Ico.mp hj).2), Nat.card_Ico, Fintype.card_fin]
omit [FloatOps F] in
theorem Enum.sep {f : ℕ → Dev nD} (h : Enum f) (Φ : Dev nD → sProp 𝕄) :
    bigSep Finset.univ Φ = bigSep (Finset.Ico 0 32) (fun e => Φ (f e)) := by
  rw [← h.image]
  exact Finset.fold_image fun i hi j hj => h i j (Finset.mem_Ico.mp hi).2 (Finset.mem_Ico.mp hj).2
omit [FloatOps F] in
/-- The other devices, by the offsets from 1. -/
theorem Enum.sep_erase {f : ℕ → Dev nD} (h : Enum f) {c : Dev nD} (h0 : f 0 = c) (Φ : Dev nD → sProp 𝕄) :
    bigSep (Finset.univ.erase c) Φ = bigSep (Finset.Ico 1 32) (fun e => Φ (f e)) := by
  have e : Finset.univ.erase c = (Finset.Ico 1 32).image f := by
    ext p
    simp only [Finset.mem_erase, Finset.mem_univ, and_true, Finset.mem_image, Finset.mem_Ico]
    constructor
    · intro hp
      have : p ∈ (Finset.Ico 0 32).image f := by rw [h.image]; exact Finset.mem_univ _
      obtain ⟨i, hi, rfl⟩ := Finset.mem_image.mp this
      refine ⟨i, ⟨?_, (Finset.mem_Ico.mp hi).2⟩, rfl⟩
      rcases Nat.eq_zero_or_pos i with rfl | hi'
      · exact absurd h0 hp
      · exact hi'
    · rintro ⟨i, hi, rfl⟩ hc
      have := h i 0 hi.2 (by decide) (hc.trans h0.symm)
      omega
  rw [e]
  exact Finset.fold_image fun i hi j hj => h i j (Finset.mem_Ico.mp hi).2 (Finset.mem_Ico.mp hj).2

/-! ## What device `c` owes at launch, and the levels -/

/-- One barrier unit to each device from offset `a` on. -/
def oBar (c : Dev nD) (a : ℕ) : CellTallies nD τ sig Unit := ∑ e ∈ Finset.Ico a 32, tallyAt (barC (rot c e)) () 1
/-- A row block's credit. -/
def oRcv (c : Dev nD) (a : ℕ) : CellTallies nD τ sig Unit := ∑ e ∈ Finset.Ico a 32, tallyAt (dmaC (rot c e) (rcvS c)) () NX
/-- A tile's credit. -/
def oArc (c : Dev nD) (a : ℕ) : CellTallies nD τ sig Unit := ∑ e ∈ Finset.Ico a 32, tallyAt (dmaC (rot c e) (arcS c)) () NA
def O₀ (c : Dev nD) : CellTallies nD τ sig Unit := oArc c 1 + oRcv c 0 + oBar c 1

theorem sum_bot {a b : ℕ} (h : a < b) (f : ℕ → CellTallies nD τ sig Unit) :
    ∑ e ∈ Finset.Ico a b, f e = f a + ∑ e ∈ Finset.Ico (a + 1) b, f e := by
  have e : Finset.Ico a b = insert a (Finset.Ico (a + 1) b) := by
    ext x; simp only [Finset.mem_insert, Finset.mem_Ico]; omega
  rw [e, Finset.sum_insert (by simp)]
theorem oBar_step (c : Dev nD) {d : ℕ} (hd : d < 32) : oBar c d = oBar c (d + 1) + tallyAt (barC (rot c d)) () 1 := by
  unfold oBar; rw [sum_bot hd, add_comm]
theorem oRcv_step (c : Dev nD) {d : ℕ} (hd : d < 32) : oRcv c d = oRcv c (d + 1) + tallyAt (dmaC (rot c d) (rcvS c)) () NX := by
  unfold oRcv; rw [sum_bot hd, add_comm]
theorem oArc_step (c : Dev nD) {d : ℕ} (hd : d < 32) : oArc c d = oArc c (d + 1) + tallyAt (dmaC (rot c d) (arcS c)) () NA := by
  unfold oArc; rw [sum_bot hd, add_comm]
theorem oBar_end (c : Dev nD) : oBar c 32 = 0 := by unfold oBar; rw [Finset.Ico_self, Finset.sum_empty]
theorem oRcv_end (c : Dev nD) : oRcv c 32 = 0 := by unfold oRcv; rw [Finset.Ico_self, Finset.sum_empty]
theorem oArc_end (c : Dev nD) : oArc c 32 = 0 := by unfold oArc; rw [Finset.Ico_self, Finset.sum_empty]

def L (g : GSem nD τ sig) : Finset Unit := if g.1.2 = .tc then {()} else ∅
def lvS : SemLoc sig → ℕ
  | .reg _ => 1
  | .dma i => if i.val < 36 then 0 else if i.val < 68 then 2 else if i.val < 100 then 0 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_rcv (p : Dev nD) : lvS (.dma (rcvS p)) = 2 := by revert p; decide +kernel
theorem lv_arc (p : Dev nD) : lvS (.dma (arcS p)) = 3 := by revert p; decide +kernel
theorem lv_wd (b : Fin 2) : lvS (.dma (wdS b)) = 0 := by revert b; decide +kernel

/-- Every cell owed lies above level `n`, and is a TensorCore's. -/
def Above (n : ℕ) (O : CellTallies nD τ sig Unit) : Prop := ∀ g u, 0 < O g u → g.1.2 = .tc ∧ n < lvS g.2

theorem above_zero (n : ℕ) : Above n 0 := fun _ _ h => absurd h (Nat.lt_irrefl 0)
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem Above.sum {n : ℕ} (s : Finset ℕ) (f : ℕ → CellTallies nD τ sig Unit) (h : ∀ e ∈ s, Above n (f e)) : Above n (∑ e ∈ s, f e) := by
  induction s using Finset.induction_on with
  | empty => rw [Finset.sum_empty]; exact above_zero n
  | insert a s ha ih =>
    rw [Finset.sum_insert ha]
    exact (h a (Finset.mem_insert_self _ _)).add (ih fun e he => h e (Finset.mem_insert_of_mem he))
theorem above_at {n : ℕ} (c : Dev nD) (s : SemLoc sig) (k : ℕ) (h : n < lvS s) : Above n (tallyAt ((c : Thread nD τ), s) () k) := fun g u hg => by
  rw [tallyAt_apply] at hg
  by_cases e : g = ((c : Thread nD τ), s) ∧ u = ()
  · rw [e.1]; exact ⟨rfl, h⟩
  · rw [if_neg e] at hg; exact absurd hg (Nat.lt_irrefl 0)
theorem above_bar (c : Dev nD) (a : ℕ) : Above 0 (oBar c a) := Above.sum _ _ fun e _ => above_at _ _ _ (by show 0 < 1; decide)
theorem above_rcv (c : Dev nD) (a : ℕ) : Above 1 (oRcv c a) := Above.sum _ _ fun e _ => above_at _ _ _ (by rw [lv_rcv]; decide)
theorem above_arc (c : Dev nD) (a : ℕ) : Above 2 (oArc c a) := Above.sum _ _ fun e _ => above_at _ _ _ (by rw [lv_arc]; decide)
theorem Above.mono {n n' : ℕ} (hn : n' ≤ n) {O : CellTallies nD τ sig Unit} (h : Above n O) : Above n' O :=
  fun g u hg => ⟨(h g u hg).1, lt_of_le_of_lt hn (h g u hg).2⟩

omit [FloatOps F] in
/-- A wait at a cell below everything owed is allowed. -/
theorem may_wait (c : Dev nD) (s : SemLoc sig) {O : CellTallies nD τ sig Unit} (h : Above (lvS s) O) :
    (levAts L lv : sProp 𝕄) ⊢ MayWait (c : Thread nD τ) s () O :=
  MayOwe.of_cut (lvS s) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

/-- What `c` owes, its record of waits left open. -/
def owesX (c : Dev nD) (O : CellTallies nD τ sig Unit) : sProp 𝕄 := iprop(∃ W, owes (c : Thread nD τ) O W)

/-! ## The records -/

/-- A device's cells: its barrier, and its 130 transfer cells. -/
def csem (k : Fin 131) : SemLoc sig := if h : k.val = 0 then .reg barS else .dma ⟨k.val + 1, by have := k.isLt; show _ < 132; omega⟩
abbrev kcell (ck : Dev nD × Fin 131) : GSem nD τ sig := ((ck.1 : Thread nD τ), csem ck.2)

theorem csem_dma (i : DmaSem sig) (h : 2 ≤ i.val) : csem ⟨i.val - 1, by have : i.val < 132 := i.isLt; omega⟩ = .dma i := by
  unfold csem
  rw [dif_neg (by show ¬ i.val - 1 = 0; omega)]
  congr 1; exact Fin.ext (by show i.val - 1 + 1 = i.val; omega)

def Env (K : Dev nD × Fin 131 → ℕ) : sProp 𝕄 :=
  iprop((bigSep Finset.univ fun ck : Dev nD × Fin 131 => cellInv ER (Rd m) (K ck) (kcell ck))
    ∗ (bigSep Finset.univ fun ck : Dev nD × Fin 131 => reached ER (kcell ck) 0) ∗ levAts L lv)

instance Env_persistent (K : Dev nD × Fin 131 → ℕ) : BI.Persistent (Env m K) := by unfold Env; infer_instance

theorem env_may (K : Dev nD × Fin 131 → ℕ) (c : Dev nD) (s : SemLoc sig) {O : CellTallies nD τ sig Unit} (h : Above (lvS s) O) :
    Env m K ⊢ (MayWait (c : Thread nD τ) s () O : sProp 𝕄) := by
  unfold Env
  exact (sep_elim_right.trans sep_elim_right).trans (may_wait c s h)
theorem env_at (K : Dev nD × Fin 131 → ℕ) (ck : Dev nD × Fin 131) :
    Env m K ⊢ iprop((∃ κ, cellInv ER (Rd m) κ (kcell ck)) ∗ reached ER (kcell ck) 0) := by
  have h₁ : (bigSep Finset.univ fun ck : Dev nD × Fin 131 => (cellInv ER (Rd m) (K ck) (kcell ck) : sProp 𝕄)) ⊢ cellInv ER (Rd m) (K ck) (kcell ck) :=
    bigSep_elim (Finset.mem_univ ck)
  have h₂ : (bigSep Finset.univ fun ck : Dev nD × Fin 131 => (reached ER (kcell ck) 0 : sProp 𝕄)) ⊢ reached ER (kcell ck) 0 :=
    bigSep_elim (Finset.mem_univ ck)
  unfold Env
  iintro ⟨#HI, #HR, -⟩
  isplitr
  · iexists K ck
    iapply h₁; iexact HI
  · iapply h₂; iexact HR
theorem env_bar (K : Dev nD × Fin 131 → ℕ) (c : Dev nD) : Env m K ⊢ iprop((∃ κ, cellInv ER (Rd m) κ (barC c)) ∗ reached ER (barC c) 0) :=
  env_at m K (c, 0)
theorem env_dma (K : Dev nD × Fin 131 → ℕ) (c : Dev nD) (i : DmaSem sig) (h : 2 ≤ i.val) :
    Env m K ⊢ iprop((∃ κ, cellInv ER (Rd m) κ (dmaC c i)) ∗ reached ER (dmaC c i) 0) := by
  have e : kcell (c, ⟨i.val - 1, by have : i.val < 132 := i.isLt; omega⟩) = dmaC c i := by unfold kcell; rw [csem_dma i h]
  rw [← e]
  exact env_at m K _

theorem snd_ge (p : Dev nD) : 2 ≤ (sndS p).val := by show 2 ≤ 4 + p.val; omega
theorem rcv_ge (p : Dev nD) : 2 ≤ (rcvS p).val := by show 2 ≤ 36 + p.val; omega
theorem asn_ge (p : Dev nD) : 2 ≤ (asnS p).val := by show 2 ≤ 68 + p.val; omega
theorem arc_ge (p : Dev nD) : 2 ≤ (arcS p).val := by show 2 ≤ 100 + p.val; omega
theorem wd_ge (b : Fin 2) : 2 ≤ (wdS b).val := by show 2 ≤ 2 + b.val; omega

end Cert.Exchange
end
-- ==== Proof.Slots.lean ====
/- A buffer as its slots: each slot is the elements whose leading coordinate falls in one block, so the slots are
   disjoint and cover the buffer; owning the buffer is owning the slots. -/
module

public import proofs.«01_k».proof.Proof.Env

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Which elements a slot holds -/

theorem mem_rX (p : Dev nD) (i : S4096x128.Idx) : i ∈ (rX p).set ↔ dv ((i 0).val / 128) = p := by
  rw [Rect.mem_set_unit, Fin.forall_fin_two]
  have h0 : (i 0).val < 4096 := (i 0).isLt
  have h1 : (i 1).val < 128 := (i 1).isLt
  have hp : p.val < 32 := p.isLt
  constructor
  · rintro ⟨⟨a, b⟩, -⟩
    change 128 * p.val ≤ (i 0).val at a
    change (i 0).val < 128 * p.val + 128 at b
    exact Fin.ext (by show (i 0).val / 128 % 32 = p.val; omega)
  · rintro h
    have h := congrArg Fin.val h
    change (i 0).val / 128 % 32 = p.val at h
    refine ⟨⟨?_, ?_⟩, Nat.zero_le _, ?_⟩
    · show 128 * p.val ≤ (i 0).val; omega
    · show (i 0).val < 128 * p.val + 128; omega
    · show (i 1).val < 0 + 128; omega
theorem mem_rW (j : Fin 8) (i : S4096x2048.Idx) : i ∈ (rW j).set ↔ cj ((i 0).val / 512) = j := by
  rw [Rect.mem_set_unit, Fin.forall_fin_two]
  have h0 : (i 0).val < 4096 := (i 0).isLt
  have h1 : (i 1).val < 2048 := (i 1).isLt
  constructor
  · rintro ⟨⟨a, b⟩, -⟩
    change 512 * j.val ≤ (i 0).val at a
    change (i 0).val < 512 * j.val + 512 at b
    exact Fin.ext (by show (i 0).val / 512 % 8 = j.val; omega)
  · rintro h
    have h := congrArg Fin.val h
    change (i 0).val / 512 % 8 = j.val at h
    refine ⟨⟨?_, ?_⟩, Nat.zero_le _, ?_⟩
    · show 512 * j.val ≤ (i 0).val; omega
    · show (i 0).val < 512 * j.val + 512; omega
    · show (i 1).val < 0 + 2048; omega
theorem fin_one_cut (n k : ℕ) (h : k ≤ n ∧ n < k + 1) : n = k := by omega
theorem mem_rS (p : Dev nD) (i : S32x128x128.Idx) : i ∈ (rS p).set ↔ i 0 = p := by
  rw [Rect.mem_set_unit]
  constructor
  · intro h
    exact Fin.ext (fin_one_cut _ _ (h 0))
  · rintro rfl a
    fin_cases a
    · exact ⟨le_rfl, Nat.lt_succ_self _⟩
    · exact ⟨Nat.zero_le _, (Nat.zero_add 128).symm ▸ (i 1).isLt⟩
    · exact ⟨Nat.zero_le _, (Nat.zero_add 128).symm ▸ (i 2).isLt⟩
theorem mem_rA (p : Dev nD) (i : S32x8x128.Idx) : i ∈ (rA p).set ↔ i 0 = p := by
  rw [Rect.mem_set_unit]
  constructor
  · intro h
    exact Fin.ext (fin_one_cut _ _ (h 0))
  · rintro rfl a
    fin_cases a
    · exact ⟨le_rfl, Nat.lt_succ_self _⟩
    · exact ⟨Nat.zero_le _, (Nat.zero_add 8).symm ▸ (i 1).isLt⟩
    · exact ⟨Nat.zero_le _, (Nat.zero_add 128).symm ▸ (i 2).isLt⟩
theorem mem_rB (b : Fin 2) (i : S2x512x2048.Idx) : i ∈ (rB b).set ↔ i 0 = b := by
  rw [Rect.mem_set_unit]
  constructor
  · intro h
    exact Fin.ext (fin_one_cut _ _ (h 0))
  · rintro rfl a
    fin_cases a
    · exact ⟨le_rfl, Nat.lt_succ_self _⟩
    · exact ⟨Nat.zero_le _, (Nat.zero_add 512).symm ▸ (i 1).isLt⟩
    · exact ⟨Nat.zero_le _, (Nat.zero_add 2048).symm ▸ (i 2).isLt⟩

/-! ## Splitting and joining -/

section Family
variable {ι : Type} [Fintype ι] [DecidableEq ι] {ℓ : Loc nD τ sig} (S : ι → Finset (Idx ℓ)) (blk : Idx ℓ → ι)

omit [FloatOps F] in
theorem family_eq (h : ∀ p i, i ∈ S p ↔ blk i = p) (q : PosShare TreeShare) (f : Buf (Elt F) ℓ) :
    ((ℓ ↦{q} f : sProp 𝕄)) = bigSep Finset.univ fun p => (ℓ ↦[S p]{q} f) := by
  have hd : ∀ t ∈ (Finset.univ : Finset ι), ∀ t' ∈ (Finset.univ : Finset ι), t ≠ t' → Disjoint (S t) (S t') := fun t _ t' _ hne =>
    Finset.disjoint_left.mpr fun i hi hi' => hne (((h t i).mp hi).symm.trans ((h t' i).mp hi'))
  have hu : (Finset.univ : Finset ι).biUnion S = Finset.univ := Finset.eq_univ_of_forall fun i =>
    Finset.mem_biUnion.mpr ⟨blk i, Finset.mem_univ _, (h _ i).mpr rfl⟩
  rw [← pointsTo_biUnion Finset.univ S hd, hu]

omit [FloatOps F] in
theorem family_split (h : ∀ p i, i ∈ S p ↔ blk i = p) :
    (iprop(∃ f, (ℓ ↦{fullShare} f)) : sProp 𝕄) ⊢ bigSep Finset.univ fun p => iprop(∃ f, (ℓ ↦[S p]{fullShare} f)) := by
  have hm (f : Buf (Elt F) ℓ) : (bigSep Finset.univ fun p => (ℓ ↦[S p]{fullShare} f) : sProp 𝕄) ⊢ bigSep Finset.univ fun p => iprop(∃ f, (ℓ ↦[S p]{fullShare} f)) :=
    bigSep_mono fun p _ => (show (ℓ ↦[S p]{fullShare} f : sProp 𝕄) ⊢ iprop(∃ f, (ℓ ↦[S p]{fullShare} f)) by iintro H; iexists f; iexact H)
  iintro ⟨%f, H⟩
  ihave H := (Entails.of_eq (family_eq S blk h fullShare f)) $$ H
  iapply (hm f); iexact H

omit [FloatOps F] in
theorem family_join (h : ∀ p i, i ∈ S p ↔ blk i = p) (f : ι → Buf (Elt F) ℓ) :
    (bigSep Finset.univ fun p => (ℓ ↦[S p]{fullShare} f p) : sProp 𝕄) ⊢ iprop(∃ f, (ℓ ↦{fullShare} f)) := by
  have e : (bigSep Finset.univ fun p => (ℓ ↦[S p]{fullShare} f p) : sProp 𝕄) = ℓ ↦{fullShare} (fun i => f (blk i) i) := by
    rw [family_eq S blk h]
    exact bigSep_congr fun p _ => pointsTo_congr fun i hi => by rw [(h p i).mp hi]
  rw [e]
  iintro H; iexists _; iexact H
end Family

end Cert.Exchange
end
-- ==== Proof.Steps.lean ====
/- One rule per kind of step of the body, for device `c`: what it takes of what the device holds and what it leaves.
   Each is stated at the program's own operation, so that the body is these rules in order. -/
module

public import proofs.«01_k».proof.Proof.Slots

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

section Steps
variable (K : Dev nD × Fin 131 → ℕ) (c : Dev nD)

/-- Running `p` on device `c`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type}

/-! ## Lifting a rule over what it leaves alone -/

/-- A rule that touches what is owed and the current component. -/
theorem lift_s {Q : α → sProp 𝕄} {O O' : CellTallies nD τ sig Unit} {W S S' R : sProp 𝕄} {p p' : Prog (TpuEff nD τ sig (Elt F) Λ₀ .tc) α}
    (h : iprop(Env m K ∗ owesX c O ∗ S) ⊢ iprop((iprop(owesX c O' ∗ S') -∗ WP c p' Q) -∗ WP c p Q))
    (hk : iprop(Env m K ∗ owesX c O' ∗ W ∗ S' ∗ R) ⊢ WP c p' Q) :
    iprop(Env m K ∗ owesX c O ∗ W ∗ S ∗ R) ⊢ WP c p Q := by
  iintro ⟨#HE, HO, HW, HS, HR⟩
  iapply h $$ [HO HS]
  · isplitr; · iexact HE
    isplitl [HO]; · iexact HO
    iexact HS
  iintro ⟨HO, HS⟩
  iapply hk
  isplitr; · iexact HE
  isplitl [HO]; · iexact HO
  isplitl [HW]; · iexact HW
  isplitl [HS]; · iexact HS
  iexact HR

/-- A rule that touches what is owed and the component of the replicated operand. -/
theorem lift_w {Q : α → sProp 𝕄} {O O' : CellTallies nD τ sig Unit} {W W' R : sProp 𝕄} {p p' : Prog (TpuEff nD τ sig (Elt F) Λ₀ .tc) α}
    (h : iprop(Env m K ∗ owesX c O ∗ W) ⊢ iprop((iprop(owesX c O' ∗ W') -∗ WP c p' Q) -∗ WP c p Q))
    (hk : iprop(Env m K ∗ owesX c O' ∗ W' ∗ R) ⊢ WP c p' Q) :
    iprop(Env m K ∗ owesX c O ∗ W ∗ R) ⊢ WP c p Q := by
  iintro ⟨#HE, HO, HW, HR⟩
  iapply h $$ [HO HW]
  · isplitr; · iexact HE
    isplitl [HO]; · iexact HO
    iexact HW
  iintro ⟨HO, HW⟩
  iapply hk
  isplitr; · iexact HE
  isplitl [HO]; · iexact HO
  isplitl [HW]; · iexact HW
  iexact HR

/-- Rearranging what is held besides. -/
theorem regroup_s {Q : α → sProp 𝕄} {O O' : CellTallies nD τ sig Unit} {W S S' : sProp 𝕄} {p : Prog (TpuEff nD τ sig (Elt F) Λ₀ .tc) α}
    (hO : O = O') (h : S ⊢ S') (hk : iprop(Env m K ∗ owesX c O' ∗ W ∗ S') ⊢ WP c p Q) :
    iprop(Env m K ∗ owesX c O ∗ W ∗ S) ⊢ WP c p Q := by
  subst hO
  exact (sep_mono_right (sep_mono_right (sep_mono_right h))).trans hk

/-! ## A wait on a cell with one duty -/

theorem cell_wait {Q : α → sProp 𝕄} (i : DmaSem sig) (hi : 2 ≤ i.val) {r n : ℕ} (hd : (Rd m).duties (dmaC c i) r = {0}) (ha : amountS (.dma i) = n)
    {P : sProp 𝕄} (hp : (Rd m).payload (dmaC c i) r 0 = P) {O : CellTallies nD τ sig Unit} (hO : Above (lvS (.dma i)) O)
    {sp sp' : Space} {s s' : Shape} {e e' : EltTy} {src : Memref sig .tc sp' s' e'} {dst : Memref sig .tc sp s e}
    {hs : src.view.WordExact} {ht : dst.view.WordExact} (hN : dst.view.dmaCredit = n)
    {k : PUnit → Prog (TpuEff nD τ sig (Elt F) Λ₀ .tc) α} :
    iprop(Env m K ∗ owesX c O ∗ cred (tallyAt (dmaC c i) () n) ∗ atPos ER (dmaC c i) r ∅ 0)
      ⊢ iprop((iprop(owesX c O ∗ P ∗ atPos ER (dmaC c i) (r + 1) ∅ 0 ∗ reached ER (dmaC c i) (r + 1)) -∗ WP c (k ⟨⟩) Q)
        -∗ WP c (.op (.waitDma2 i src dst hs ht) k) Q) := by
  subst hN
  unfold owesX
  iintro ⟨#HE, ⟨%W, HO⟩, Hc, Hat⟩ Hk
  ihave Hi := (env_dma m K c i hi) $$ HE
  icases Hi with ⟨⟨%κ, #HI⟩, -⟩
  ihave HL := (env_may m K c (.dma i) hO) $$ HE
  iapply (Rounds.wp_wait_rest_token 𝒱₀ ER (Rd m) (c : Thread nD τ) none (κ := κ)
      (wpE_waitDma2_eq 𝒱₀ (c : Thread nD τ) none Set.univ) (Set.mem_univ _) () (O := O) (W := W) (R := r) (m := 0) (T := ∅)
      (by rw [Nat.zero_add]; exact (expect_one m hd ha).symm)) $$ [HO Hc Hat HL]
  · isplitr; · iexact HI
    isplitl [Hc]; · iexact Hc
    isplitl [HO]; · iexact HO
    isplitl [HL]; · iexact HL
    iexact Hat
  iintro ⟨HO, Hat, Hr, Hp⟩
  ihave Hp := (Entails.of_eq (rest_one m hd hp)) $$ Hp
  iapply Hk
  isplitl [HO]; · iexists _; iexact HO
  isplitl [Hp]; · iexact Hp
  isplitl [Hat]; · iexact Hat
  iexact Hr

/-! ## A family of cells of the device, waited for in order -/

def waitI (sm : ℕ → DmaSem sig) (n : ℕ) (e : ℕ) : sProp 𝕄 :=
  iprop(cred (tallyAt (dmaC c (sm e)) () n) ∗ atPos ER (dmaC c (sm e)) 0 ∅ 0)
def doneI (sm : ℕ → DmaSem sig) (P : ℕ → sProp 𝕄) (e : ℕ) : sProp 𝕄 :=
  iprop(P e ∗ atPos ER (dmaC c (sm e)) 1 ∅ 0)
/-- The cells from `d` on still to be waited for, those from `lo` below `d` done. -/
def Fam (sm : ℕ → DmaSem sig) (n : ℕ) (P : ℕ → sProp 𝕄) (lo d : ℕ) : sProp 𝕄 :=
  iprop(bigSep (Finset.Ico d 32) (waitI c sm n) ∗ bigSep (Finset.Ico lo d) (doneI c sm P))

theorem fam_wait {Q : α → sProp 𝕄} {sm : ℕ → DmaSem sig} {n : ℕ} {P : ℕ → sProp 𝕄} {lo d : ℕ} {O : CellTallies nD τ sig Unit}
    (hd : d < 32) (hlo : lo ≤ d) (hi : 2 ≤ (sm d).val) (hdt : (Rd m).duties (dmaC c (sm d)) 0 = {0}) (ha : amountS (.dma (sm d)) = n)
    (hp : (Rd m).payload (dmaC c (sm d)) 0 0 = P d) (hO : Above (lvS (.dma (sm d))) O)
    {i : DmaSem sig} (hsm : i = sm d)
    {sp sp' : Space} {s s' : Shape} {e e' : EltTy} {src : Memref sig .tc sp' s' e'} {dst : Memref sig .tc sp s e}
    {hs : src.view.WordExact} {ht : dst.view.WordExact} (hN : dst.view.dmaCredit = n)
    {k : PUnit → Prog (TpuEff nD τ sig (Elt F) Λ₀ .tc) α} {W R : sProp 𝕄}
    (hk : iprop(Env m K ∗ owesX c O ∗ W ∗ Fam c sm n P lo (d + 1) ∗ R) ⊢ WP c (k ⟨⟩) Q) :
    iprop(Env m K ∗ owesX c O ∗ W ∗ Fam c sm n P lo d ∗ R) ⊢ WP c (.op (.waitDma2 i src dst hs ht) k) Q := by
  subst hsm
  refine lift_s m K c ?_ hk
  unfold Fam
  rw [ico_bot hd, ico_top hlo]
  iintro ⟨#HE, HO, ⟨Hw, Htodo⟩, Hdone⟩ Hk
  ihave Hw := (Entails.of_eq (show waitI (F := F) c sm n d = iprop(cred (tallyAt (dmaC c (sm d)) () n) ∗ atPos ER (dmaC c (sm d)) 0 ∅ 0) from rfl)) $$ Hw
  icases Hw with ⟨Hc, Hat⟩
  iapply (cell_wait m K c (sm d) hi hdt ha hp hO hN) $$ [HO Hc Hat]
  · isplitr; · iexact HE
    isplitl [HO]; · iexact HO
    isplitl [Hc]; · iexact Hc
    iexact Hat
  iintro ⟨HO, HP, Hat, -⟩
  iapply Hk
  isplitl [HO]; · iexact HO
  isplitl [Htodo]; · iexact Htodo
  isplitl [HP Hat]
  · unfold doneI
    isplitl [HP]; · iexact HP
    iexact Hat
  iexact Hdone

/-! ## The replicated operand's chunks -/

def wTodo (j : ℕ) : sProp 𝕄 := iprop(wRowP m c j ∗ dutyTok ER (dmaC c (wdS (hb j))) (j / 2) 0)
def wFly (j : ℕ) : sProp 𝕄 := iprop(cred (tallyAt (dmaC c (wdS (hb j))) () NW) ∗ atPos ER (dmaC c (wdS (hb j))) (j / 2) ∅ 0)
/-- The half chunk `i` is to go to, holding chunk `i - 2` if there is one. -/
def wHeld (i : ℕ) : sProp 𝕄 :=
  iprop((∃ f, ⌜2 ≤ i → f = wbG m c (i - 2)⌝ ∗ ((wSlot (hb i)).view.loc (c : Thread nD τ) ↦[(wSlot (hb i)).view.set]{fullShare} f))
    ∗ atPos ER (dmaC c (wdS (hb i))) (i / 2) ∅ 0 ∗ reached ER (dmaC c (wdS (hb i))) (i / 2))
/-- Chunks below `a` started, those below `b` landed. -/
def WS (a b : ℕ) : sProp 𝕄 :=
  iprop(bigSep (Finset.Ico a 8) (wTodo m c) ∗ bigSep (Finset.Ico b a) (wFly c) ∗ bigSep (Finset.Ico a (b + 2)) (wHeld m c)
    ∗ bigSep (Finset.Ico 0 b) (wRowP m c))

theorem w_start {Q : α → sProp 𝕄} (a b : ℕ) {O : CellTallies nD τ sig Unit} (ha : a < 8) (hab : a < b + 2) (hba : b ≤ a)
    {offr : Fin 2 → ℕ} (hor : offr = ![512 * (cj a).val, 0]) {offb : Fin 3 → ℕ} (hob : offb = ![(hb a).val, 0, 0]) {offs : Fin 1 → ℕ} (hos : offs = ![(hb a).val])
    {ir : ∀ x, offr x + S512x2048.size x ≤ S4096x2048.size x} {ib : ∀ x, offb x + S1x512x2048.size x ≤ S2x512x2048.size x} {is : ∀ x, offs x + S1.size x ≤ S2.size x}
    {ur ub} {h₁ h₂ h₃}
    {k : PUnit → Prog (TpuEff nD τ sig (Elt F) Λ₀ .tc) α} {R : sProp 𝕄}
    (hk : iprop(Env m K ∗ owesX c O ∗ WS m c (a + 1) b ∗ R) ⊢ WP c (k ⟨⟩) Q) :
    iprop(Env m K ∗ owesX c O ∗ WS m c a b ∗ R) ⊢ WP c (.op (.enqueueDma
      (wM.slice (Rect.unit (s := S4096x2048) offr S512x2048.size ir) ur)
      (.here ((wbM.slice (Rect.unit (s := S2x512x2048) offb S1x512x2048.size ib) ub).squeeze S512x2048 squeezes_S1x512x2048_S512x2048))
      (.dma ((cc0_scratch4.slice (Rect.unit (s := S2) offs S1.size is)).squeeze S_ squeezes_S1_S_).sem) h₁ h₂ h₃) k) Q := by
  subst hor hob
  revert h₃
  rw [wd_sem (hb a) offs hos is]
  intro h₃
  refine lift_w m K c ?_ hk
  unfold WS
  rw [ico_bot ha, ico_top hba, ico_bot hab]
  iintro ⟨#HE, HO, ⟨Ht, Htodo⟩, Hfly, ⟨Hh, Hheld⟩, Hrows⟩ Hk
  ihave Ht := (Entails.of_eq (show wTodo m c a = iprop(wRowP m c a ∗ dutyTok ER (dmaC c (wdS (hb a))) (a / 2) 0) from rfl)) $$ Ht
  unfold wHeld wRowP
  icases Ht with ⟨Hrow, Htok⟩
  icases Hh with ⟨⟨%f, -, Hslot⟩, Hat, Hr⟩
  ihave Hi := (env_dma m K c (wdS (hb a)) (wd_ge _)) $$ HE
  icases Hi with ⟨⟨%κ, #HI⟩, -⟩
  iapply (Rounds.wp_copy_pointsTo 𝒱₀ ER (Rd m) (c : Thread nD τ) none (src := wRow (cj a)) (dst := wSlot (hb a)) (sem := .dma (wdS (hb a)))
      (κ := κ) (r := a / 2) (d := (0 : Dev nD)) (fs := wA m c) (fd := f)
      (by rw [duties_wd m c (hb a) (a / 2) (by omega)]; exact Finset.mem_singleton_self _) () NW rfl (amount_wd (hb a))
      (by rw [pays_wd]; unfold wbP wRowP wbG; rw [written_eq])) $$ [Hrow Hslot Htok Hr]
  · isplitr; · iexact HI
    isplitl [Hrow]; · iexact Hrow
    isplitl [Hslot]; · iexact Hslot
    isplitl [Htok]; · iexact Htok
    iexact Hr
  iintro Hc
  iapply Hk
  isplitl [HO]; · iexact HO
  isplitl [Htodo]; · iexact Htodo
  isplitl [Hc Hat Hfly]
  · isplitl [Hc Hat]
    · unfold wFly
      isplitl [Hc]; · iexact Hc
      iexact Hat
    iexact Hfly
  isplitl [Hheld]; · iexact Hheld
  iexact Hrows

theorem w_wait {Q : α → sProp 𝕄} (a b : ℕ) {O : CellTallies nD τ sig Unit} (hba : b < a) (hb8 : b < 8) (ha : a ≤ b + 2) (hO : Above 0 O)
    {offs : Fin 1 → ℕ} (hos : offs = ![(hb b).val]) {is : ∀ x, offs x + S1.size x ≤ S2.size x}
    {sp sp' : Space} {s s' : Shape} {e e' : EltTy} {src : Memref sig .tc sp' s' e'} {dst : Memref sig .tc sp s e}
    {hs : src.view.WordExact} {ht : dst.view.WordExact} (hN : dst.view.dmaCredit = NW)
    {k : PUnit → Prog (TpuEff nD τ sig (Elt F) Λ₀ .tc) α} {R : sProp 𝕄}
    (hk : iprop(Env m K ∗ owesX c O ∗ WS m c a (b + 1) ∗ R) ⊢ WP c (k ⟨⟩) Q) :
    iprop(Env m K ∗ owesX c O ∗ WS m c a b ∗ R) ⊢ WP c (.op (.waitDma2
      ((cc0_scratch4.slice (Rect.unit (s := S2) offs S1.size is)).squeeze S_ squeezes_S1_S_).sem src dst hs ht) k) Q := by
  rw [wd_sem (hb b) offs hos is]
  refine lift_w m K c ?_ hk
  unfold WS
  rw [ico_bot hba, ico_top (show a ≤ b + 2 from ha), ico_top (Nat.zero_le b)]
  iintro ⟨#HE, HO, Htodo, ⟨Hf, Hfly⟩, Hheld, Hrows⟩ Hk
  ihave Hf := (Entails.of_eq (show wFly (F := F) c b = iprop(cred (tallyAt (dmaC c (wdS (hb b))) () NW) ∗ atPos ER (dmaC c (wdS (hb b))) (b / 2) ∅ 0) from rfl)) $$ Hf
  icases Hf with ⟨Hc, Hat⟩
  iapply (cell_wait m K c (wdS (hb b)) (wd_ge _) (duties_wd m c (hb b) (b / 2) (by omega)) (amount_wd (hb b)) (pays_wd m c b 0)
    (by rw [lv_wd]; exact hO) hN) $$ [HO Hc Hat]
  · isplitr; · iexact HE
    isplitl [HO]; · iexact HO
    isplitl [Hc]; · iexact Hc
    iexact Hat
  iintro ⟨HO, ⟨Hw, Hrow⟩, Hat, Hr⟩
  iapply Hk
  isplitl [HO]; · iexact HO
  isplitl [Htodo]; · iexact Htodo
  isplitl [Hfly]; · iexact Hfly
  isplitl [Hw Hat Hr Hheld]
  · isplitl [Hw Hat Hr]
    · have e₁ : hb (b + 2) = hb b := Fin.ext (by show (b + 2) % 2 = b % 2; omega)
      have e₂ : (b + 2) / 2 = b / 2 + 1 := by omega
      unfold wHeld wbP
      rw [e₁, e₂]
      isplitl [Hw]
      · iexists _
        isplitr; · ipureintro; exact fun _ => rfl
        iexact Hw
      isplitl [Hat]; · iexact Hat
      iexact Hr
    iexact Hheld
  isplitl [Hrow]; · iexact Hrow
  iexact Hrows

theorem w_load {Q : α → sProp 𝕄} (a j : ℕ) {O : CellTallies nD τ sig Unit} (ha : a ≤ j + 2)
    {off : Fin 3 → ℕ} (ho : off = ![(hb j).val, 0, 0]) {hi : ∀ x, off x + S1x512x2048.size x ≤ S2x512x2048.size x} {hl}
    {k : Vec F S1x512x2048 .f32 → Prog (TpuEff nD τ sig (Elt F) Λ₀ .tc) α} {R : sProp 𝕄}
    (hk : iprop(Env m K ∗ owesX c O ∗ WS m c a (j + 1) ∗ R) ⊢ WP c (k (wLd m c j)) Q) :
    iprop(Env m K ∗ owesX c O ∗ WS m c a (j + 1) ∗ R)
      ⊢ WP c (.op (.load wbM (Rect.unit (s := S2x512x2048) off S1x512x2048.size hi).toLoadRect hl) k) Q := by
  subst ho
  refine lift_w m K c ?_ hk
  unfold WS
  rw [ico_top (show a ≤ j + 2 from ha)]
  unfold wHeld
  have e₁ : hb (j + 2) = hb j := Fin.ext (by show (j + 2) % 2 = j % 2; omega)
  rw [e₁]
  iintro ⟨#HE, HO, Htodo, Hfly, ⟨⟨⟨%f, %hf, Hslot⟩, Hat⟩, Hheld⟩, Hrows⟩ Hk
  have hf : f = wbG m c j := hf (by omega)
  subst hf
  iapply (wp_load 𝒱₀ (c : Thread nD τ) none Set.univ (m := wbM) (r := (rB (hb j)).toLoadRect) (S := (wSlot (hb j)).view.set) (q := fullShare) (f := wbG m c j)
    (by rw [set_wSlot]; exact ((View.set_slice _ _).symm.trans (View.set_slice_whole cc0_scratch2 (rB (hb j)))).le)) $$ [Hslot]
  · iexact Hslot
  iintro Hslot
  iapply Hk
  isplitl [HO]; · iexact HO
  isplitl [Htodo]; · iexact Htodo
  isplitl [Hfly]; · iexact Hfly
  isplitl [Hslot Hat Hheld]
  · isplitl [Hslot Hat]
    · isplitl [Hslot]
      · iexists _
        isplitr; · ipureintro; exact fun _ => rfl
        iexact Hslot
      iexact Hat
    iexact Hheld
  iexact Hrows

end Steps

end Cert.Exchange
end
-- ==== Proof.Moves.lean ====
/- The rules for the steps that touch the landing buffers: the whole-buffer loads and stores, the barrier, the sends
   of row blocks and of tiles, and the loads from filled slots. -/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Moves
variable (K : Dev nD × Fin 131 → ℕ) (c : Dev nD) {α : Type}

/-- A whole buffer of the device. -/
abbrev own (b : Ref sig .tc) (f : b.ty.Contents (Elt F)) : sProp 𝕄 := iprop(((c : Thread nD τ).loc b) ↦{fullShare} f)
abbrev ownAny (b : Ref sig .tc) : sProp 𝕄 := iprop(∃ f, own c b f)

/-! ## Whole buffers -/

theorem whole_load {Q : α → sProp 𝕄} (b : Ref sig .tc) {cs : CoreSpace} {s : Shape} {e : EltTy} {mr : Memref sig .tc cs s e} {r : LoadRect s} {hl : mr.view.LoadsAt r}
    (hb : mr.view.loc (c : Thread nD τ) = (c : Thread nD τ).loc b) {q : PosShare TreeShare} {f : Buf (Elt F) (mr.view.loc (c : Thread nD τ))}
    {v : r.shape.Idx → Elt F e} (hv : mr.view.readAt (Elt F) r f = v)
    {k : (r.shape.Idx → Elt F e) → Prog (TpuEff nD τ sig (Elt F) Λ₀ .tc) α} {O : CellTallies nD τ sig Unit} {W R : sProp 𝕄}
    (hk : iprop(Env m K ∗ owesX c O ∗ W ∗ (mr.view.loc (c : Thread nD τ) ↦{q} f) ∗ R) ⊢ WP c (k v) Q) :
    iprop(Env m K ∗ owesX c O ∗ W ∗ (mr.view.loc (c : Thread nD τ) ↦{q} f) ∗ R) ⊢ WP c (.op (.load mr r hl) k) Q := by
  subst hv
  refine lift_s m K c ?_ hk
  iintro ⟨-, HO, Hf⟩ Hk
  iapply (wp_load 𝒱₀ (c : Thread nD τ) none Set.univ (m := mr) (r := r) (S := Finset.univ) (q := q) (f := f) (Finset.subset_univ _)) $$ [Hf]
  · iexact Hf
  iintro Hf
  iapply Hk
  isplitl [HO]; · iexact HO
  iexact Hf

theorem load_x {Q : α → sProp 𝕄} {f : (cc0_stg0_0 : Ref sig .tc).ty.Contents (Elt F)} {hl}
    {k : Vec F S4096x128 .f32 → Prog (TpuEff nD τ sig (Elt F) Λ₀ .tc) α} {O : CellTallies nD τ sig Unit} {W R : sProp 𝕄}
    (hk : iprop(Env m K ∗ owesX c O ∗ W ∗ own c cc0_stg0_0 f ∗ R) ⊢ WP c (k f) Q) :
    iprop(Env m K ∗ owesX c O ∗ W ∗ own c cc0_stg0_0 f ∗ R)
      ⊢ WP c (.op (.load xM (Rect.unit (s := S4096x128) ![0, 0] S4096x128.size inb_S4096x128_S4096x128_0_0).toLoadRect hl) k) Q :=
  whole_load m K c cc0_stg0_0 rfl (Memref.readAt_unit_zero (Elt F) cc0_stg0_0 (by decide) inb_S4096x128_S4096x128_0_0 f) hk

/-- Reading a buffer's old contents and overwriting it whole: what was read does not matter. -/
theorem over_xb {Q : α → sProp 𝕄} {w : FVec F S4096x128 .bf16} {hl hx hm}
    {k : PUnit → Prog (TpuEff nD τ sig (Elt F) Λ₀ .tc) α} {O : CellTallies nD τ sig Unit} {W R : sProp 𝕄}
    (hk : iprop(Env m K ∗ owesX c O ∗ W ∗ own c cc0_scratch0 w ∗ R) ⊢ WP c (k ⟨⟩) Q) :
    iprop(Env m K ∗ owesX c O ∗ W ∗ ownAny c cc0_scratch0 ∗ R)
      ⊢ WP c (.op (.load xbM (Rect.unit (s := S4096x128) ![0, 0] S4096x128.size inb_S4096x128_S4096x128_0_0).toLoadRect hl) fun _ =>
          .op (.store xbM (Rect.unit (s := S4096x128) ![0, 0] S4096x128.size inb_S4096x128_S4096x128_0_0) w Finset.univ hx hm) k) Q := by
  refine lift_s m K c ?_ hk
  iintro ⟨-, HO, ⟨%f, Hf⟩⟩ Hk
  iapply (wp_load 𝒱₀ (c : Thread nD τ) none Set.univ (m := xbM) (S := Finset.univ) (q := fullShare) (f := f) (Finset.subset_univ _)) $$ [Hf]
  · iexact Hf
  iintro Hf
  iapply (wp_store 𝒱₀ (c : Thread nD τ) none Set.univ (m := xbM) (r := Rect.unit (s := S4096x128) ![0, 0] S4096x128.size inb_S4096x128_S4096x128_0_0)
    (w := w) (S := Finset.univ) (f := f) (Finset.subset_univ _)) $$ [Hf]
  · iexact Hf
  rw [show (xbM.access (Rect.unit (s := S4096x128) ![0, 0] S4096x128.size inb_S4096x128_S4096x128_0_0)).write (Elt F) f w Finset.univ = w from
    Memref.write_access_unit_zero_univ (Elt F) cc0_scratch0 (by decide) inb_S4096x128_S4096x128_0_0 f w]
  iintro Hf
  iapply Hk
  isplitl [HO]; · iexact HO
  iexact Hf

theorem over_out {Q : α → sProp 𝕄} {w : FVec F S128x2048 .f32} {hl hx hm}
    {k : PUnit → Prog (TpuEff nD τ sig (Elt F) Λ₀ .tc) α} {O : CellTallies nD τ sig Unit} {W R : sProp 𝕄}
    (hk : iprop(Env m K ∗ owesX c O ∗ W ∗ own c cc0_stg1_0 w ∗ R) ⊢ WP c (k ⟨⟩) Q) :
    iprop(Env m K ∗ owesX c O ∗ W ∗ ownAny c cc0_stg1_0 ∗ R)
      ⊢ WP c (.op (.load oM (Rect.unit (s := S128x2048) ![0, 0] S128x2048.size inb_S128x2048_S128x2048_0_0).toLoadRect hl) fun _ =>
          .op (.store oM (Rect.unit (s := S128x2048) ![0, 0] S128x2048.size inb_S128x2048_S128x2048_0_0) w Finset.univ hx hm) k) Q := by
  refine lift_s m K c ?_ hk
  iintro ⟨-, HO, ⟨%f, Hf⟩⟩ Hk
  iapply (wp_load 𝒱₀ (c : Thread nD τ) none Set.univ (m := oM) (S := Finset.univ) (q := fullShare) (f := f) (Finset.subset_univ _)) $$ [Hf]
  · iexact Hf
  iintro Hf
  iapply (wp_store 𝒱₀ (c : Thread nD τ) none Set.univ (m := oM) (r := Rect.unit (s := S128x2048) ![0, 0] S128x2048.size inb_S128x2048_S128x2048_0_0)
    (w := w) (S := Finset.univ) (f := f) (Finset.subset_univ _)) $$ [Hf]
  · iexact Hf
  rw [show (oM.access (Rect.unit (s := S128x2048) ![0, 0] S128x2048.size inb_S128x2048_S128x2048_0_0)).write (Elt F) f w Finset.univ = w from
    Memref.write_access_unit_zero_univ (Elt F) cc0_stg1_0 (by decide) inb_S128x2048_S128x2048_0_0 f w]
  iintro Hf
  iapply Hk
  isplitl [HO]; · iexact HO
  iexact Hf

theorem load_table {Q : α → sProp 𝕄} {q : PosShare TreeShare} {f : (cc0_scratch3 : Ref sig .tc).ty.Contents (Elt F)} {hl}
    {k : Vec F S32x8x128 .f32 → Prog (TpuEff nD τ sig (Elt F) Λ₀ .tc) α} {O : CellTallies nD τ sig Unit} {W R : sProp 𝕄}
    (hk : iprop(Env m K ∗ owesX c O ∗ W ∗ (((c : Thread nD τ).loc cc0_scratch3) ↦{q} f) ∗ R) ⊢ WP c (k f) Q) :
    iprop(Env m K ∗ owesX c O ∗ W ∗ (((c : Thread nD τ).loc cc0_scratch3) ↦{q} f) ∗ R)
      ⊢ WP c (.op (.load amM (Rect.unit (s := S32x8x128) ![0, 0, 0] S32x8x128.size inb_S32x8x128_S32x8x128_0_0_0).toLoadRect hl) k) Q :=
  whole_load m K c cc0_scratch3 rfl (Memref.readAt_unit_zero (Elt F) cc0_scratch3 (by decide) inb_S32x8x128_S32x8x128_0_0_0 f) hk

/-! ## The barrier -/

/-- What the signal to the device at offset `e` hands over. -/
def sigI (e : ℕ) : sProp 𝕄 := iprop(dutyTok ER (barC (rot c e)) 0 c ∗ barPay (rot c e) c)
def SigS (d : ℕ) : sProp 𝕄 := bigSep (Finset.Ico d 32) (sigI c)

theorem s_sig {Q : α → sProp 𝕄} {d : ℕ} (h1 : 1 ≤ d) (h32 : d < 32) {p : Dev nD} (hp : p = rot c d) {n : ℤ} (hn : n = (1 : ℕ))
    {A : CellTallies nD τ sig Unit} {k : PUnit → Prog (TpuEff nD τ sig (Elt F) Λ₀ .tc) α} {W R : sProp 𝕄}
    (hk : iprop(Env m K ∗ owesX c (A + oBar c (d + 1)) ∗ W ∗ SigS c (d + 1) ∗ R) ⊢ WP c (k ⟨⟩) Q) :
    iprop(Env m K ∗ owesX c (A + oBar c d) ∗ W ∗ SigS c d ∗ R) ⊢ WP c (.op (.semSignal (p, .tc) barS n) k) Q := by
  subst hp hn
  refine lift_s m K c ?_ hk
  unfold SigS owesX
  rw [ico_bot h32]
  iintro ⟨#HE, ⟨%W', HO⟩, Hs, Hrest⟩ Hk
  ihave Hs := (Entails.of_eq (show sigI (F := F) c d = iprop(dutyTok ER (barC (rot c d)) 0 c ∗ barPay (rot c d) c) from rfl)) $$ Hs
  icases Hs with ⟨Htok, Hpay⟩
  ihave Hi := (env_bar m K (rot c d)) $$ HE
  icases Hi with ⟨⟨%κ, #HI⟩, #Hr⟩
  iapply (Rounds.wp_signal 𝒱₀ ER (Rd m) (c : Thread nD τ) none (dst := (rot c d : Thread nD τ)) (sem := barS) (r := 0) (κ := κ) (k' := 1)
      (O₀ := A + oBar c d) (W := W') (d := c) (by rw [duties_bar]; exact Finset.mem_erase.mpr ⟨(rot_ne c h1 h32).symm, Finset.mem_univ _⟩) rfl () (A + oBar c (d + 1))
      (by rw [oBar_step c h32, add_assoc])) $$ [HO Htok Hpay]
  · isplitr; · iexact HI
    isplitl [HO]; · iexact HO
    isplitl [Htok]; · iexact Htok
    isplitl [Hpay]
    · iapply (Entails.of_eq (show barPay (F := F) (rot c d) c = (Rd m).payload (barC (rot c d)) 0 c from rfl))
      iexact Hpay
    iexact Hr
  iintro HO
  iapply Hk
  isplitl [HO]; · iexists W'; iexact HO
  iexact Hrest

def barWait : sProp 𝕄 := iprop(cred (tallyAt (barC c) () 31) ∗ atPos ER (barC c) 0 ∅ 0)
def barDone : sProp 𝕄 := iprop((bigSep (Finset.Ico 1 32) fun e => barPay c (rot c e)) ∗ atPos ER (barC c) 1 ∅ 0)

theorem s_barwait {Q : α → sProp 𝕄} {O : CellTallies nD τ sig Unit} (hO : Above 1 O) {n : ℤ} (hn : n = (31 : ℕ))
    {k : PUnit → Prog (TpuEff nD τ sig (Elt F) Λ₀ .tc) α} {W R : sProp 𝕄}
    (hk : iprop(Env m K ∗ owesX c O ∗ W ∗ barDone c ∗ R) ⊢ WP c (k ⟨⟩) Q) :
    iprop(Env m K ∗ owesX c O ∗ W ∗ barWait c ∗ R) ⊢ WP c (.op (.semWait barS n) k) Q := by
  subst hn
  refine lift_s m K c ?_ hk
  unfold barWait barDone owesX
  iintro ⟨#HE, ⟨%W', HO⟩, Hc, Hat⟩ Hk
  ihave Hi := (env_bar m K c) $$ HE
  icases Hi with ⟨⟨%κ, #HI⟩, -⟩
  ihave HL := (env_may m K c (.reg barS) hO) $$ HE
  iapply (Rounds.wp_wait_rest_token 𝒱₀ ER (Rd m) (c : Thread nD τ) none (κ := κ)
      (wpE_semWait_eq 𝒱₀ (c : Thread nD τ) none Set.univ) (Set.mem_univ _) () (O := O) (W := W') (R := 0) (m := 0) (T := ∅)
      (by rw [expect_bar])) $$ [HO Hc Hat HL]
  · isplitr; · iexact HI
    isplitl [Hc]; · iexact Hc
    isplitl [HO]; · iexact HO
    isplitl [HL]; · iexact HL
    iexact Hat
  iintro ⟨HO, Hat, -, Hp⟩
  ihave Hp := (Entails.of_eq (show bigSep ((Rd m).duties (barC c) 0 \ ∅) (fun d => (Rd m).payload (barC c) 0 d) = (bigSep (Finset.Ico 1 32) fun e => barPay c (rot c e)) by
    rw [Finset.sdiff_empty, duties_bar, ← (enum_rot c).sep_erase (rot_zero c)]; rfl)) $$ Hp
  iapply Hk
  isplitl [HO]; · iexists _; iexact HO
  isplitl [Hp]; · iexact Hp
  iexact Hat

/-! ## The row blocks -/

/-- The tokens of the send to the device at offset `e`, and with them what it moves. -/
def sendTok (e : ℕ) : sProp 𝕄 := iprop(dutyTok ER (dmaC c (sndS (rot c e))) 0 0 ∗ dutyTok ER (dmaC (rot c e) (rcvS c)) 0 0)
def sendI (e : ℕ) : sProp 𝕄 := iprop(xRowP m c (rot c e) ∗ stAny (rot c e) c ∗ sendTok c e)
def sentI (e : ℕ) : sProp 𝕄 := cred (tallyAt (dmaC c (sndS (rot c e))) () NX)
def SendS (d : ℕ) : sProp 𝕄 := iprop(bigSep (Finset.Ico d 32) (sendI m c) ∗ bigSep (Finset.Ico 0 d) (sentI c))

theorem s_send {Q : α → sProp 𝕄} {d : ℕ} (h32 : d < 32) {p : Dev nD} (hp : p = rot c d)
    {A : CellTallies nD τ sig Unit}
    {offx : Fin 2 → ℕ} (hox : offx = ![128 * (rot c d).val, 0]) {offt : Fin 3 → ℕ} (hot : offt = ![c.val, 0, 0])
    {offs : Fin 1 → ℕ} (hos : offs = ![(rot c d).val]) {offr : Fin 1 → ℕ} (hor : offr = ![c.val])
    {ix : ∀ x, offx x + S128x128.size x ≤ S4096x128.size x} {it : ∀ x, offt x + S1x128x128.size x ≤ S32x128x128.size x}
    {is : ∀ x, offs x + S1.size x ≤ S32.size x} {ir : ∀ x, offr x + S1.size x ≤ S32.size x} {ux ut} {h₀ h₁ h₂ h₃}
    {k : PUnit → Prog (TpuEff nD τ sig (Elt F) Λ₀ .tc) α} {W R : sProp 𝕄}
    (hk : iprop(Env m K ∗ owesX c (A + oRcv c (d + 1)) ∗ W ∗ SendS m c (d + 1) ∗ R) ⊢ WP c (k ⟨⟩) Q) :
    iprop(Env m K ∗ owesX c (A + oRcv c d) ∗ W ∗ SendS m c d ∗ R) ⊢ WP c (.op (.enqueueDma
      (xbM.slice (Rect.unit (s := S4096x128) offx S128x128.size ix) ux)
      (.remote (Dev.tc p) ((stM.slice (Rect.unit (s := S32x128x128) offt S1x128x128.size it) ut).squeeze S128x128 squeezes_S1x128x128_S128x128)
        (.dma ((cc0_scratch5.slice (Rect.unit (s := S32) offs S1.size is)).squeeze S_ squeezes_S1_S_).sem) h₀)
      (.dma ((cc0_scratch6.slice (Rect.unit (s := S32) offr S1.size ir)).squeeze S_ squeezes_S1_S_).sem) h₁ h₂ h₃) k) Q := by
  subst hp hox hot
  revert h₃
  rw [snd_sem (rot c d) offs hos is, rcv_sem c offr hor ir]
  intro h₃
  refine lift_s m K c ?_ hk
  unfold SendS owesX
  rw [ico_bot h32, ico_top (Nat.zero_le d)]
  iintro ⟨#HE, ⟨%W', HO⟩, ⟨Hs, Hrest⟩, Hsent⟩ Hk
  ihave Hs := (Entails.of_eq (show sendI m c d = iprop(xRowP m c (rot c d) ∗ stAny (rot c d) c ∗ dutyTok ER (dmaC c (sndS (rot c d))) 0 0 ∗ dutyTok ER (dmaC (rot c d) (rcvS c)) 0 0) from rfl)) $$ Hs
  unfold xRowP stAny
  icases Hs with ⟨Hx, ⟨%fd, Hd⟩, Ht₁, Ht₂⟩
  ihave Hi := (env_dma m K c (sndS (rot c d)) (snd_ge _)) $$ HE
  icases Hi with ⟨⟨%κ₁, #HI₁⟩, #Hr₁⟩
  ihave Hi := (env_dma m K (rot c d) (rcvS c) (rcv_ge _)) $$ HE
  icases Hi with ⟨⟨%κ₂, #HI₂⟩, #Hr₂⟩
  iapply (Rounds.wp_send_pointsTo 𝒱₀ ER (Rd m) (c : Thread nD τ) none (c' := (rot c d : Thread nD τ)) (src := xRow (rot c d)) (dst := stSlot c)
      (sS := .dma (sndS (rot c d))) (sem := .dma (rcvS c)) (κ₁ := κ₁) (κ₂ := κ₂)
      (r₁ := 0) (r₂ := 0) (d₁ := (0 : Dev nD)) (d₂ := (0 : Dev nD)) (fs := xb m c) (fd := fd)
      (by rw [duties_snd]; exact Finset.mem_singleton_self _) (by rw [duties_rcv]; exact Finset.mem_singleton_self _)
      (O₀ := A + oRcv c d) () () NX rfl (amount_snd _) (amount_rcv _) (A + oRcv c (d + 1)) (by rw [oRcv_step c h32, add_assoc]) (W := W')
      (by rw [pays_snd]; exact BI.Entails.refl _)
      (by rw [pays_rcv]; unfold stP stG; rw [written_eq])) $$ [Hx Hd HO Ht₁ Ht₂]
  · isplitr; · iexact HI₁
    isplitr; · iexact HI₂
    isplitl [Hx]; · iexact Hx
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W'; iexact HO
  isplitl [Hrest]; · iexact Hrest
  isplitl [Hc]; · unfold sentI; iexact Hc
  iexact Hsent

/-- A load from a filled staging slot. -/
theorem s_load {Q : α → sProp 𝕄} {d q : ℕ} (hq : q < d) {O : CellTallies nD τ sig Unit}
    {off : Fin 3 → ℕ} (ho : off = ![(dv q).val, 0, 0]) {hi : ∀ x, off x + S1x128x128.size x ≤ S32x128x128.size x} {hl}
    {k : Vec F S1x128x128 .bf16 → Prog (TpuEff nD τ sig (Elt F) Λ₀ .tc) α} {W R : sProp 𝕄}
    (hk : iprop(Env m K ∗ owesX c O ∗ W ∗ Fam c (fun e => rcvS (dv e)) NX (fun e => stP m c (dv e)) 0 d ∗ R) ⊢ WP c (k (stLd m c (dv q))) Q) :
    iprop(Env m K ∗ owesX c O ∗ W ∗ Fam c (fun e => rcvS (dv e)) NX (fun e => stP m c (dv e)) 0 d ∗ R)
      ⊢ WP c (.op (.load stM (Rect.unit (s := S32x128x128) off S1x128x128.size hi).toLoadRect hl) k) Q := by
  subst ho
  refine lift_s m K c ?_ hk
  unfold Fam
  have hs : bigSep (Finset.Ico 0 d) (doneI c (fun e => rcvS (dv e)) fun e => stP m c (dv e))
      = iprop(doneI c (fun e => rcvS (dv e)) (fun e => stP m c (dv e)) q ∗ bigSep ((Finset.Ico 0 d).erase q) (doneI c (fun e => rcvS (dv e)) fun e => stP m c (dv e))) :=
    bigSep_erase (Finset.mem_Ico.mpr ⟨Nat.zero_le q, hq⟩)
  rw [hs]
  iintro ⟨-, HO, Htodo, Hq, Hrest⟩ Hk
  ihave Hq := (Entails.of_eq (show doneI (F := F) c (fun e => rcvS (dv e)) (fun e => stP m c (dv e)) q = iprop(((stSlot (dv q)).view.loc (c : Thread nD τ) ↦[(stSlot (dv q)).view.set]{fullShare} stG m c (dv q)) ∗ atPos ER (dmaC c (rcvS (dv q))) 1 ∅ 0) from rfl)) $$ Hq
  icases Hq with ⟨Hs, Hat⟩
  iapply (wp_load 𝒱₀ (c : Thread nD τ) none Set.univ (m := stM) (r := (rS (dv q)).toLoadRect) (S := (stSlot (dv q)).view.set) (q := fullShare) (f := stG m c (dv q))
    (by rw [set_stSlot]; exact ((View.set_slice _ _).symm.trans (View.set_slice_whole cc0_scratch1 (rS (dv q)))).le)) $$ [Hs]
  · iexact Hs
  iintro Hs
  iapply Hk
  isplitl [HO]; · iexact HO
  isplitl [Htodo]; · iexact Htodo
  isplitl [Hs Hat]
  · unfold doneI stP
    isplitl [Hs]; · iexact Hs
    iexact Hat
  iexact Hrest

/-! ## The tiles -/

theorem emb_amSlot_zero (p : Dev nD) (i : S32x8x128.Idx) (hi : i ∈ (amSlot p).view.set) : amG m i = lmx m p (fun a => ⟨0, by revert a; decide⟩) := by
  rw [set_amSlot] at hi
  have h := (mem_rA p i).mp hi
  show lmx m (i 0) _ = _
  rw [h]

/-- Slot `c` of the table stored: the tile is constant, so the slot holds what the table says. -/
theorem s_tile {Q : α → sProp 𝕄} {O : CellTallies nD τ sig Unit}
    {w : FVec F S1x8x128 .f32} (hw : w = lmx m c)
    {off : Fin 3 → ℕ} (ho : off = ![c.val, 0, 0]) {hi : ∀ x, off x + S1x8x128.size x ≤ S32x8x128.size x} {hl hx hm}
    {k : PUnit → Prog (TpuEff nD τ sig (Elt F) Λ₀ .tc) α} {W R : sProp 𝕄}
    (hk : iprop(Env m K ∗ owesX c O ∗ W ∗ amP m c c fullShare ∗ R) ⊢ WP c (k ⟨⟩) Q) :
    iprop(Env m K ∗ owesX c O ∗ W ∗ amAny c c ∗ R)
      ⊢ WP c (.op (.load amM (Rect.unit (s := S32x8x128) off S1x8x128.size hi).toLoadRect hl) fun _ =>
          .op (.store amM (Rect.unit (s := S32x8x128) off S1x8x128.size hi) w Finset.univ hx hm) k) Q := by
  subst ho hw
  refine lift_s m K c ?_ hk
  unfold amAny amP
  iintro ⟨-, HO, ⟨%f, Hf⟩⟩ Hk
  iapply (wp_load 𝒱₀ (c : Thread nD τ) none Set.univ (m := amM) (r := (rA c).toLoadRect) (S := (amSlot c).view.set) (q := fullShare) (f := f)
    (by rw [set_amSlot]; exact ((View.set_slice _ _).symm.trans (View.set_slice_whole cc0_scratch3 (rA c))).le)) $$ [Hf]
  · iexact Hf
  iintro Hf
  iapply (wp_store 𝒱₀ (c : Thread nD τ) none Set.univ (m := amM) (r := rA c) (w := lmx m c) (S := (amSlot c).view.set) (f := f)
    (by rw [set_amSlot]; exact (View.set_slice_whole cc0_scratch3 (rA c)).le)) $$ [Hf]
  · iexact Hf
  have e : ((amM.access (rA c)).loc (c : Thread nD τ) ↦[(amSlot c).view.set]{fullShare} ((amM.access (rA c)).write (Elt F) f (lmx m c) Finset.univ) : sProp 𝕄)
      = ((amSlot c).view.loc (c : Thread nD τ) ↦[(amSlot c).view.set]{fullShare} amG m) :=
    pointsTo_congr fun i hi => by
      rw [emb_amSlot_zero m c i hi]
      have hi' : i ∈ (amM.access (rA c)).set := by rw [View.set_slice_whole]; rw [set_amSlot] at hi; exact hi
      obtain ⟨x, -, rfl⟩ := Finset.mem_map.mp hi'
      rw [View.write_emb_of_mem _ _ (Finset.mem_univ x)]
      exact (cast_eq _ _).trans (lmx_const m c x _)
  rw [e]
  iintro Hf
  iapply Hk
  isplitl [HO]; · iexact HO
  iexact Hf

def tileTok (e : ℕ) : sProp 𝕄 := iprop(dutyTok ER (dmaC c (asnS (rot c e))) 0 0 ∗ dutyTok ER (dmaC (rot c e) (arcS c)) 0 0)
def tileI (e : ℕ) : sProp 𝕄 := iprop(amP m c c (shr (rot c e)) ∗ amAny (rot c e) c ∗ tileTok c e)
def tiledI (e : ℕ) : sProp 𝕄 := cred (tallyAt (dmaC c (asnS (rot c e))) () NA)
def TileS (d : ℕ) : sProp 𝕄 := iprop(bigSep (Finset.Ico d 32) (tileI m c) ∗ bigSep (Finset.Ico 1 d) (tiledI c))

theorem s_tsend {Q : α → sProp 𝕄} {d : ℕ} (h1 : 1 ≤ d) (h32 : d < 32) {p : Dev nD} (hp : p = rot c d)
    {offx : Fin 3 → ℕ} (hox : offx = ![c.val, 0, 0]) {offt : Fin 3 → ℕ} (hot : offt = ![c.val, 0, 0])
    {offs : Fin 1 → ℕ} (hos : offs = ![(rot c d).val]) {offr : Fin 1 → ℕ} (hor : offr = ![c.val])
    {ix : ∀ x, offx x + S1x8x128.size x ≤ S32x8x128.size x} {it : ∀ x, offt x + S1x8x128.size x ≤ S32x8x128.size x}
    {is : ∀ x, offs x + S1.size x ≤ S32.size x} {ir : ∀ x, offr x + S1.size x ≤ S32.size x} {ux ut} {h₀ h₁ h₂ h₃}
    {k : PUnit → Prog (TpuEff nD τ sig (Elt F) Λ₀ .tc) α} {W R : sProp 𝕄}
    (hk : iprop(Env m K ∗ owesX c (oArc c (d + 1)) ∗ W ∗ TileS m c (d + 1) ∗ R) ⊢ WP c (k ⟨⟩) Q) :
    iprop(Env m K ∗ owesX c (oArc c d) ∗ W ∗ TileS m c d ∗ R) ⊢ WP c (.op (.enqueueDma
      ((amM.slice (Rect.unit (s := S32x8x128) offx S1x8x128.size ix) ux).squeeze S8x128 squeezes_S1x8x128_S8x128)
      (.remote (Dev.tc p) ((amM.slice (Rect.unit (s := S32x8x128) offt S1x8x128.size it) ut).squeeze S8x128 squeezes_S1x8x128_S8x128)
        (.dma ((cc0_scratch7.slice (Rect.unit (s := S32) offs S1.size is)).squeeze S_ squeezes_S1_S_).sem) h₀)
      (.dma ((cc0_scratch8.slice (Rect.unit (s := S32) offr S1.size ir)).squeeze S_ squeezes_S1_S_).sem) h₁ h₂ h₃) k) Q := by
  subst hp hox hot
  revert h₃
  rw [asn_sem (rot c d) offs hos is, arc_sem c offr hor ir]
  intro h₃
  refine lift_s m K c ?_ hk
  unfold TileS owesX
  rw [ico_bot h32, ico_top h1]
  iintro ⟨#HE, ⟨%W', HO⟩, ⟨Hs, Hrest⟩, Hsent⟩ Hk
  ihave Hs := (Entails.of_eq (show tileI m c d = iprop(amP m c c (shr (rot c d)) ∗ amAny (rot c d) c ∗ dutyTok ER (dmaC c (asnS (rot c d))) 0 0 ∗ dutyTok ER (dmaC (rot c d) (arcS c)) 0 0) from rfl)) $$ Hs
  unfold amP amAny
  icases Hs with ⟨Hx, ⟨%fd, Hd⟩, Ht₁, Ht₂⟩
  ihave Hi := (env_dma m K c (asnS (rot c d)) (asn_ge _)) $$ HE
  icases Hi with ⟨⟨%κ₁, #HI₁⟩, #Hr₁⟩
  ihave Hi := (env_dma m K (rot c d) (arcS c) (arc_ge _)) $$ HE
  icases Hi with ⟨⟨%κ₂, #HI₂⟩, #Hr₂⟩
  iapply (Rounds.wp_send_pointsTo 𝒱₀ ER (Rd m) (c : Thread nD τ) none (c' := (rot c d : Thread nD τ)) (src := amSlot c) (dst := amSlot c)
      (sS := .dma (asnS (rot c d))) (sem := .dma (arcS c)) (κ₁ := κ₁) (κ₂ := κ₂)
      (r₁ := 0) (r₂ := 0) (d₁ := (0 : Dev nD)) (d₂ := (0 : Dev nD)) (fs := amG m) (fd := fd)
      (by rw [duties_asn m c _ (rot_ne c h1 h32)]; exact Finset.mem_singleton_self _)
      (by rw [duties_arc m _ _ (rot_ne c h1 h32).symm]; exact Finset.mem_singleton_self _)
      (O₀ := oArc c d) () () NA rfl (amount_asn _) (amount_arc _) (oArc c (d + 1)) (oArc_step c h32) (W := W')
      (by rw [pays_asn]; exact BI.Entails.refl _)
      (by rw [pays_arc]; unfold amP; rw [written_as (t := (rot c d : Thread nD τ)) (amSlot c).view fullShare fd (amG m) _ rfl])) $$ [Hx Hd HO Ht₁ Ht₂]
  · isplitr; · iexact HI₁
    isplitr; · iexact HI₂
    isplitl [Hx]; · iexact Hx
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W'; iexact HO
  isplitl [Hrest]; · iexact Hrest
  isplitl [Hc]; · unfold tiledI; iexact Hc
  iexact Hsent

end Moves

end Cert.Exchange
end
-- ==== Proof.Flow.lean ====
/- What a device holds between the phases of its body: how the buffers are cut into slots and joined again, and how the
   tokens, the slots and the credits are gathered for the next phase. -/
module

public import proofs.«01_k».proof.Proof.Moves

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem both {ι : Type} (s : Finset ι) (Φ Ψ : ι → sProp 𝕄) :
    bigSep s (fun e => iprop(Φ e ∗ Ψ e)) = iprop(bigSep s Φ ∗ bigSep s Ψ) := bigSep_sep' ..

omit [FloatOps F] in
theorem assoc (A B C : sProp 𝕄) : iprop((A ∗ B) ∗ C) = iprop(A ∗ (B ∗ C)) := Idealize.SL.BI.sep_assoc.antisymm Idealize.SL.BI.sep_assoc'

section Flow
variable (K : Dev nD × Fin 131 → ℕ) (c : Dev nD) {α : Type}

/-! ## Buffers as families of slots -/

theorem xb_rows : own c cc0_scratch0 (xb m c) = bigSep Finset.univ fun p => xRowP m c p :=
  family_eq (ℓ := (c : Thread nD τ).loc cc0_scratch0) (fun p => (xRow p).view.set) (fun i : S4096x128.Idx => dv ((i 0).val / 128)) (fun p i => by rw [set_xRow]; exact mem_rX p i) fullShare (xb m c)
theorem table_slots (q : PosShare TreeShare) :
    (((c : Thread nD τ).loc cc0_scratch3 ↦{q} amG m : sProp 𝕄)) = bigSep Finset.univ fun p => amP m c p q :=
  family_eq (ℓ := (c : Thread nD τ).loc cc0_scratch3) (fun p => (amSlot p).view.set) (fun i : S32x8x128.Idx => (i 0 : Dev nD)) (fun p i => by rw [set_amSlot]; exact mem_rA p i) q (amG m)
/-- A slot of the table, among the devices it is shared out to. -/
theorem slot_shares (q : Dev nD) : amP m c q fullShare = iprop(amP m c q (shr c) ∗ bigSep (Finset.univ.erase c) fun p => amP m c q (shr p)) := by
  have e : amP m c q fullShare = bigSep Finset.univ fun p => amP m c q (shr p) :=
    Transfers.pointsTo_deal Finset.univ ⟨c, Finset.mem_univ c⟩ fullShare
  rw [e]
  exact bigSep_erase (Finset.mem_univ c)

/-! ## The components -/

def SendK : sProp 𝕄 := iprop(bigSep (Finset.Ico 0 32) (sendTok c) ∗ stAny c c)
def FamR (d : ℕ) : sProp 𝕄 := Fam c (fun e => rcvS (dv e)) NX (fun e => stP m c (dv e)) 0 d
def TileK : sProp 𝕄 := bigSep (Finset.Ico 1 32) (tileTok c)
def FamA (d : ℕ) : sProp 𝕄 := Fam c (fun e => arcS (back c e)) NA (fun e => amP m c (back c e) fullShare) 1 d
def SndK : sProp 𝕄 := bigSep (Finset.Ico 0 32) fun e => atPos ER (dmaC c (sndS (rot c e))) 0 ∅ 0
def FamS (d : ℕ) : sProp 𝕄 := Fam c (fun e => sndS (rot c e)) NX (fun e => xRowP m c (rot c e)) 0 d
def AsnK : sProp 𝕄 := bigSep (Finset.Ico 1 32) fun e => atPos ER (dmaC c (asnS (rot c e))) 0 ∅ 0
def FamN (d : ℕ) : sProp 𝕄 := Fam c (fun e => asnS (rot c e)) NA (fun e => amP m c c (shr (rot c e))) 1 d
def SelfK : sProp 𝕄 := iprop(atPos ER (dmaC c (asnS c)) 0 ∅ 0 ∗ atPos ER (dmaC c (arcS c)) 0 ∅ 0)
/-- The other devices' slots for this one's tile. -/
def AmT : sProp 𝕄 := bigSep (Finset.Ico 1 32) fun e => amAny (rot c e) c
/-- What is left of the received tiles once the table is read at this device's share, and their cells. -/
def ArcRest : sProp 𝕄 :=
  bigSep (Finset.Ico 1 32) fun e => iprop((bigSep (Finset.univ.erase c) fun p => amP m c (back c e) (shr p)) ∗ atPos ER (dmaC c (arcS (back c e))) 1 ∅ 0)
abbrev Table : sProp 𝕄 := iprop(((c : Thread nD τ).loc cc0_scratch3) ↦{shr c} amG m)

/-! ## Phase to phase -/

/-- A phase done, the next component taken up. -/
theorem next {Q : α → sProp 𝕄} {O : CellTallies nD τ sig Unit} {W S D T R : sProp 𝕄} {p : Prog (TpuEff nD τ sig (Elt F) Λ₀ .tc) α}
    (hk : iprop(Env m K ∗ owesX c O ∗ W ∗ T ∗ ((D ∗ S) ∗ R)) ⊢ WP c p Q) :
    iprop(Env m K ∗ owesX c O ∗ W ∗ S ∗ (D ∗ (T ∗ R))) ⊢ WP c p Q := by
  refine regroup_s m K c rfl ?_ hk
  iintro ⟨HS, HD, HT, HR⟩
  isplitl [HT]; · iexact HT
  isplitl [HD HS]
  · isplitl [HD]; · iexact HD
    iexact HS
  iexact HR

/-- The barrier passed: every device's staging slot for this one is in hand. -/
theorem to_send {X R : sProp 𝕄} :
    iprop(barDone c ∗ ((((emp ∗ X) ∗ own c cc0_scratch0 (xb m c)) ∗ SigS c 32) ∗ (SendK c ∗ R)))
      ⊢ iprop(SendS m c 0 ∗ ((X ∗ AmT c ∗ atPos ER (barC c) 1 ∅ 0) ∗ R)) := by
  have e₁ : (bigSep (Finset.Ico 1 32) fun e => barPay (F := F) c (rot c e)) = iprop((bigSep (Finset.Ico 1 32) fun e => stAny (rot c e) c) ∗ AmT c) :=
    both (Finset.Ico 1 32) _ _
  have e₂ : bigSep (Finset.Ico 0 32) (sendI m c)
      = iprop((bigSep (Finset.Ico 0 32) fun e => xRowP m c (rot c e)) ∗ (bigSep (Finset.Ico 0 32) fun e => stAny (rot c e) c) ∗ bigSep (Finset.Ico 0 32) (sendTok c)) :=
    (both (Finset.Ico 0 32) _ _).trans (congrArg (fun Z => iprop((bigSep (Finset.Ico 0 32) fun e => xRowP m c (rot c e)) ∗ Z)) (both (Finset.Ico 0 32) _ _))
  have e₃ : (bigSep (Finset.Ico 0 32) fun e => stAny (F := F) (rot c e) c) = iprop(stAny c c ∗ bigSep (Finset.Ico 1 32) fun e => stAny (rot c e) c) := by
    rw [ico_bot (by decide : 0 < 32), rot_zero]
  unfold barDone SendK SendS
  rw [e₁, e₂, e₃, xb_rows, (enum_rot c).sep, ico_nil 0]
  iintro ⟨⟨⟨Hst, Ham⟩, Hat⟩, ⟨⟨⟨-, HX⟩, Hxb⟩, -⟩, ⟨Htok, Hown⟩, HR⟩
  isplitl [Hst Hxb Htok Hown]
  · isplitl [Hst Hxb Htok Hown]
    · isplitl [Hxb]; · iexact Hxb
      isplitl [Hst Hown]
      · isplitl [Hown]; · iexact Hown
        iexact Hst
      iexact Htok
    iempintro
  isplitl [HX Ham Hat]
  · isplitl [HX]; · iexact HX
    isplitl [Ham]; · iexact Ham
    iexact Hat
  iexact HR

/-- The own slot of the table written: it is shared out among the sends. -/
theorem to_tile {X A S G R : sProp 𝕄} :
    iprop(amP m c c fullShare ∗ ((((X ∗ AmT c ∗ A) ∗ S) ∗ G) ∗ (TileK c ∗ R)))
      ⊢ iprop(TileS m c 1 ∗ (((X ∗ A ∗ S ∗ G) ∗ amP m c c (shr c)) ∗ R)) := by
  have e₂ : bigSep (Finset.Ico 1 32) (tileI m c)
      = iprop((bigSep (Finset.Ico 1 32) fun e => amP m c c (shr (rot c e))) ∗ AmT c ∗ TileK c) :=
    (both (Finset.Ico 1 32) _ _).trans (congrArg (fun Z => iprop((bigSep (Finset.Ico 1 32) fun e => amP m c c (shr (rot c e))) ∗ Z)) (both (Finset.Ico 1 32) _ _))
  unfold TileS
  rw [e₂, slot_shares, (enum_rot c).sep_erase (rot_zero c), ico_nil 1]
  iintro ⟨⟨Hown, Hshr⟩, ⟨⟨⟨HX, Ham, HA⟩, HS⟩, HG⟩, Htok, HR⟩
  isplitl [Hshr Ham Htok]
  · isplitl [Hshr Ham Htok]
    · isplitl [Hshr]; · iexact Hshr
      isplitl [Ham]; · iexact Ham
      iexact Htok
    iempintro
  isplitl [HX HA HS HG Hown]
  · isplitl [HX HA HS HG]
    · isplitl [HX]; · iexact HX
      isplitl [HA]; · iexact HA
      isplitl [HS]; · iexact HS
      iexact HG
    iexact Hown
  iexact HR

/-- Every tile received: the whole table, at this device's share. -/
theorem to_table {D T R : sProp 𝕄} :
    iprop(FamA m c 32 ∗ (((D ∗ amP m c c (shr c)) ∗ T) ∗ R)) ⊢ iprop(Table m c ∗ (((D ∗ ArcRest m c) ∗ T) ∗ R)) := by
  have e₁ : bigSep (Finset.Ico 1 32) (doneI c (fun e => arcS (back c e)) fun e => amP m c (back c e) fullShare)
      = iprop((bigSep (Finset.Ico 1 32) fun e => amP m c (back c e) (shr c)) ∗ ArcRest m c) := by
    rw [ArcRest, ← both]
    refine bigSep_congr fun e _ => ?_
    show iprop(amP m c (back c e) fullShare ∗ atPos ER (dmaC c (arcS (back c e))) 1 ∅ 0) = _
    rw [slot_shares]
    exact assoc _ _ _
  have e₂ : Table m c = iprop(amP m c c (shr c) ∗ bigSep (Finset.Ico 1 32) fun e => amP m c (back c e) (shr c)) := by
    rw [Table, table_slots, (enum_back c).sep, ico_bot (by decide : 0 < 32), back_zero]
  unfold FamA Fam
  rw [e₁, e₂]
  iintro ⟨⟨-, Hs, Harc⟩, ⟨⟨HD, Hown⟩, HT⟩, HR⟩
  isplitl [Hs Hown]
  · isplitl [Hown]; · iexact Hown
    iexact Hs
  isplitl [HD Harc HT]
  · isplitl [HD Harc]
    · isplitl [HD]; · iexact HD
      iexact Harc
    iexact HT
  iexact HR

/-- The result stored: what is left is to see the sends off. -/
theorem to_snd {X A G E T B Z R : sProp 𝕄} :
    iprop(Z ∗ ((((((X ∗ A ∗ SendS m c 32 ∗ G) ∗ E) ∗ T) ∗ B)) ∗ (SndK c ∗ R)))
      ⊢ iprop(FamS m c 0 ∗ (((X ∗ A ∗ G ∗ E ∗ B ∗ Z) ∗ T) ∗ R)) := by
  have e : bigSep (Finset.Ico 0 32) (waitI (F := F) c (fun e => sndS (rot c e)) NX) = iprop(bigSep (Finset.Ico 0 32) (sentI c) ∗ SndK c) :=
    both (Finset.Ico 0 32) _ _
  unfold FamS Fam SendS
  rw [e, ico_nil 0]
  iintro ⟨HZ, ⟨⟨⟨⟨HX, HA, ⟨-, Hs⟩, HG⟩, HE⟩, HT⟩, HB⟩, HK, HR⟩
  isplitl [Hs HK]
  · isplitl [Hs HK]
    · isplitl [Hs]; · iexact Hs
      iexact HK
    iempintro
  isplitl [HX HA HG HE HB HZ HT]
  · isplitl [HX HA HG HE HB HZ]
    · isplitl [HX]; · iexact HX
      isplitl [HA]; · iexact HA
      isplitl [HG]; · iexact HG
      isplitl [HE]; · iexact HE
      isplitl [HB]; · iexact HB
      iexact HZ
    iexact HT
  iexact HR

theorem to_asn {D S R : sProp 𝕄} :
    iprop(S ∗ ((D ∗ TileS m c 32) ∗ (AsnK c ∗ R))) ⊢ iprop(FamN m c 1 ∗ ((D ∗ S) ∗ R)) := by
  have e : bigSep (Finset.Ico 1 32) (waitI (F := F) c (fun e => asnS (rot c e)) NA) = iprop(bigSep (Finset.Ico 1 32) (tiledI c) ∗ AsnK c) :=
    both (Finset.Ico 1 32) _ _
  unfold FamN Fam TileS
  rw [e, ico_nil 1]
  iintro ⟨HS, ⟨HD, ⟨-, Ht⟩⟩, HK, HR⟩
  isplitl [Ht HK]
  · isplitl [Ht HK]
    · isplitl [Ht]; · iexact Ht
      iexact HK
    iempintro
  isplitl [HD HS]
  · isplitl [HD]; · iexact HD
    iexact HS
  iexact HR

/-! ## The waits of the four families -/

theorem w_rcv {Q : α → sProp 𝕄} {d : ℕ} (hd : d < 32) {off : Fin 1 → ℕ} (ho : off = ![(dv d).val]) {hi : ∀ x, off x + S1.size x ≤ S32.size x}
    {sp sp' : Space} {s s' : Shape} {e e' : EltTy} {src : Memref sig .tc sp' s' e'} {dst : Memref sig .tc sp s e}
    {hs : src.view.WordExact} {ht : dst.view.WordExact} (hN : dst.view.dmaCredit = NX)
    {k : PUnit → Prog (TpuEff nD τ sig (Elt F) Λ₀ .tc) α} {W R : sProp 𝕄}
    (hk : iprop(Env m K ∗ owesX c (oArc c 1) ∗ W ∗ FamR m c (d + 1) ∗ R) ⊢ WP c (k ⟨⟩) Q) :
    iprop(Env m K ∗ owesX c (oArc c 1) ∗ W ∗ FamR m c d ∗ R) ⊢ WP c (.op (.waitDma2
      ((cc0_scratch6.slice (Rect.unit (s := S32) off S1.size hi)).squeeze S_ squeezes_S1_S_).sem src dst hs ht) k) Q := by
  rw [rcv_sem (dv d) off ho hi]
  exact fam_wait m K c hd (Nat.zero_le d) (rcv_ge _) (duties_rcv m c _) (amount_rcv _) (pays_rcv m c (dv d) 0 0)
    (by rw [lv_rcv]; exact above_arc c 1) rfl hN hk

theorem l_rcv {Q : α → sProp 𝕄} {d : ℕ} (q : ℕ) (hq : q < d) {O : CellTallies nD τ sig Unit}
    {off : Fin 3 → ℕ} (ho : off = ![(dv q).val, 0, 0]) {hi : ∀ x, off x + S1x128x128.size x ≤ S32x128x128.size x} {hl}
    {k : Vec F S1x128x128 .bf16 → Prog (TpuEff nD τ sig (Elt F) Λ₀ .tc) α} {W R : sProp 𝕄}
    (hk : iprop(Env m K ∗ owesX c O ∗ W ∗ FamR m c d ∗ R) ⊢ WP c (k (stLd m c (dv q))) Q) :
    iprop(Env m K ∗ owesX c O ∗ W ∗ FamR m c d ∗ R)
      ⊢ WP c (.op (.load stM (Rect.unit (s := S32x128x128) off S1x128x128.size hi).toLoadRect hl) k) Q :=
  s_load m K c hq ho hk

theorem w_arc {Q : α → sProp 𝕄} {d : ℕ} (h1 : 1 ≤ d) (hd : d < 32) {off : Fin 1 → ℕ} (ho : off = ![(back c d).val]) {hi : ∀ x, off x + S1.size x ≤ S32.size x}
    {sp sp' : Space} {s s' : Shape} {e e' : EltTy} {src : Memref sig .tc sp' s' e'} {dst : Memref sig .tc sp s e}
    {hs : src.view.WordExact} {ht : dst.view.WordExact} (hN : dst.view.dmaCredit = NA)
    {k : PUnit → Prog (TpuEff nD τ sig (Elt F) Λ₀ .tc) α} {W R : sProp 𝕄}
    (hk : iprop(Env m K ∗ owesX c 0 ∗ W ∗ FamA m c (d + 1) ∗ R) ⊢ WP c (k ⟨⟩) Q) :
    iprop(Env m K ∗ owesX c 0 ∗ W ∗ FamA m c d ∗ R) ⊢ WP c (.op (.waitDma2
      ((cc0_scratch8.slice (Rect.unit (s := S32) off S1.size hi)).squeeze S_ squeezes_S1_S_).sem src dst hs ht) k) Q := by
  rw [arc_sem (back c d) off ho hi]
  exact fam_wait m K c hd h1 (arc_ge _) (duties_arc m c _ (back_ne c h1 hd)) (amount_arc _) (pays_arc m c (back c d) 0 0)
    (above_zero _) rfl hN hk

theorem w_snd {Q : α → sProp 𝕄} {d : ℕ} (hd : d < 32) {off : Fin 1 → ℕ} (ho : off = ![(rot c d).val]) {hi : ∀ x, off x + S1.size x ≤ S32.size x}
    {sp sp' : Space} {s s' : Shape} {e e' : EltTy} {src : Memref sig .tc sp' s' e'} {dst : Memref sig .tc sp s e}
    {hs : src.view.WordExact} {ht : dst.view.WordExact} (hN : dst.view.dmaCredit = NX)
    {k : PUnit → Prog (TpuEff nD τ sig (Elt F) Λ₀ .tc) α} {W R : sProp 𝕄}
    (hk : iprop(Env m K ∗ owesX c 0 ∗ W ∗ FamS m c (d + 1) ∗ R) ⊢ WP c (k ⟨⟩) Q) :
    iprop(Env m K ∗ owesX c 0 ∗ W ∗ FamS m c d ∗ R) ⊢ WP c (.op (.waitDma2
      ((cc0_scratch5.slice (Rect.unit (s := S32) off S1.size hi)).squeeze S_ squeezes_S1_S_).sem src dst hs ht) k) Q := by
  rw [snd_sem (rot c d) off ho hi]
  exact fam_wait m K c hd (Nat.zero_le d) (snd_ge _) (duties_snd m c _) (amount_snd _) (pays_snd m c (rot c d) 0 0)
    (above_zero _) rfl hN hk

theorem w_asn {Q : α → sProp 𝕄} {d : ℕ} (h1 : 1 ≤ d) (hd : d < 32) {off : Fin 1 → ℕ} (ho : off = ![(rot c d).val]) {hi : ∀ x, off x + S1.size x ≤ S32.size x}
    {sp sp' : Space} {s s' : Shape} {e e' : EltTy} {src : Memref sig .tc sp' s' e'} {dst : Memref sig .tc sp s e}
    {hs : src.view.WordExact} {ht : dst.view.WordExact} (hN : dst.view.dmaCredit = NA)
    {k : PUnit → Prog (TpuEff nD τ sig (Elt F) Λ₀ .tc) α} {W R : sProp 𝕄}
    (hk : iprop(Env m K ∗ owesX c 0 ∗ W ∗ FamN m c (d + 1) ∗ R) ⊢ WP c (k ⟨⟩) Q) :
    iprop(Env m K ∗ owesX c 0 ∗ W ∗ FamN m c d ∗ R) ⊢ WP c (.op (.waitDma2
      ((cc0_scratch7.slice (Rect.unit (s := S32) off S1.size hi)).squeeze S_ squeezes_S1_S_).sem src dst hs ht) k) Q := by
  rw [asn_sem (rot c d) off ho hi]
  exact fam_wait m K c hd h1 (asn_ge _) (duties_asn m c _ (rot_ne c h1 hd)) (amount_asn _) (pays_asn m c (rot c d) 0 0)
    (above_zero _) rfl hN hk

/-- Asking for the device's own number. -/
theorem s_dev {Q : α → sProp 𝕄} {P : sProp 𝕄} {k : Dev nD → Prog (TpuEff nD τ sig (Elt F) Λ₀ .tc) α} (hk : P ⊢ WP c (k c) Q) :
    P ⊢ WP c (.op .deviceId k) Q := by
  rw [WP, wp_deviceId]; exact hk

end Flow

end Cert.Exchange
end
-- ==== Proof.Body.lean ====
/- The body on device `c`, from what it is given to what it leaves: the steps' rules in the program's order. -/
module

public import proofs.«01_k».proof.Proof.Flow

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable (K : Dev nD × Fin 131 → ℕ) (c : Dev nD)

/-- What the body starts from, besides its staged block. -/
def Begin : sProp 𝕄 :=
  iprop(ownAny c cc0_scratch0 ∗ (SigS c 1 ∗ (barWait c ∗ (SendK c ∗ (FamR m c 0 ∗ (amAny c c ∗ (TileK c ∗ (FamA m c 1
    ∗ (ownAny c cc0_stg1_0 ∗ (SndK c ∗ (AsnK c ∗ SelfK c)))))))))))

/-- What it ends with. -/
def Finish : sProp 𝕄 :=
  iprop(FamN m c 32 ∗ (((own c cc0_stg0_0 (xs m c) ∗ atPos ER (barC c) 1 ∅ 0 ∗ FamR m c 32 ∗ ArcRest m c ∗ Table m c ∗ own c cc0_stg1_0 (outAt m c))
    ∗ FamS m c 32) ∗ SelfK c))

theorem chunk_waits {a b : ℕ} : Above 0 (oArc c a + oRcv c b) := ((above_arc c a).mono (by decide)).add ((above_rcv c b).mono (by decide))

/-- The load of the slot filled `k` waits back. -/
theorem l_back {Q : PUnit → sProp 𝕄} {d : ℕ} (k : ℕ) (hk' : d - k < d) {O : CellTallies nD τ sig Unit}
    {off : Fin 3 → ℕ} (ho : off = ![(dv (d - k)).val, 0, 0]) {hi : ∀ x, off x + S1x128x128.size x ≤ S32x128x128.size x} {hl}
    {p : Vec F S1x128x128 .bf16 → Prog (TpuEff nD τ sig (Elt F) Λ₀ .tc) PUnit} {W R : sProp 𝕄}
    (hk : iprop(Env m K ∗ owesX c O ∗ W ∗ FamR m c d ∗ R) ⊢ WP c (p (stLd m c (dv (d - k)))) Q) :
    iprop(Env m K ∗ owesX c O ∗ W ∗ FamR m c d ∗ R)
      ⊢ WP c (.op (.load stM (Rect.unit (s := S32x128x128) off S1x128x128.size hi).toLoadRect hl) p) Q :=
  l_rcv m K c (d - k) hk' ho hk

set_option maxRecDepth 100000 in
theorem body_run {Q : PUnit → sProp 𝕄} (hQ : iprop(Env m K ∗ owesX c 0 ∗ WS m c 8 8 ∗ Finish m c) ⊢ iprop(|={Set.univ}=> Q ⟨⟩)) :
    iprop(Env m K ∗ owesX c (O₀ c) ∗ WS m c 0 0 ∗ own c cc0_stg0_0 (xs m c) ∗ (emp ∗ Begin m c))
      ⊢ WP c (cc0_body (F := F) xM (Memref.isWhole_whole _) wM (Memref.isWhole_whole _) oM (Memref.isWhole_whole _) xbM (Memref.isWhole_whole _)
          stM (Memref.isWhole_whole _) wbM (Memref.isWhole_whole _) amM (Memref.isWhole_whole _)
          cc0_scratch4 cc0_scratch5 cc0_scratch6 cc0_scratch7 cc0_scratch8) Q := by
  unfold Begin O₀
  refine s_dev c ?_
  refine w_start m K c 0 0 (by decide) (by decide) (by decide) rfl rfl rfl ?_
  refine w_start m K c 1 0 (by decide) (by decide) (by decide) rfl rfl rfl ?_
  refine load_x m K c ?_
  refine next m K c ?_
  refine over_xb m K c (w := xb m c) ?_
  refine next m K c ?_
  iterate 31
    refine s_sig m K c (by decide) (by decide) ?_ rfl ?_
    · clear hQ; revert c; decide +kernel
  refine next m K c ?_
  refine regroup_s m K c (by rw [oBar_end, add_zero]) (BI.Entails.refl _) ?_
  refine s_barwait m K c (((above_arc c 1).mono (by decide)).add (above_rcv c 0)) rfl ?_
  refine regroup_s m K c rfl (to_send m c) ?_
  iterate 32
    refine s_send m K c (by decide) ?_ ?_ ?_ ?_ ?_ ?_
    · clear hQ; revert c; decide +kernel
    · exact off4_eq c _ (by decide)
    · exact k0_off3_eq c
    · exact off1_eq c _ (by decide)
    · exact k0_off2_eq c
  refine next m K c ?_
  refine regroup_s m K c (by rw [oRcv_end, add_zero]) (BI.Entails.refl _) ?_
  iterate 6
    refine w_wait m K c _ _ (by decide) (by decide) (by decide) ((above_arc c 1).mono (by decide)) rfl ?_ ?_
    · rfl
    iterate 4
      refine w_rcv m K c (by decide) rfl ?_ ?_
      · rfl
    refine l_back m K c 4 (by decide) rfl ?_
    refine l_back m K c 3 (by decide) rfl ?_
    refine l_back m K c 2 (by decide) rfl ?_
    refine l_back m K c 1 (by decide) rfl ?_
    refine w_load m K c _ _ (by decide) rfl ?_
    refine w_start m K c _ _ (by decide) (by decide) (by decide) rfl rfl rfl ?_
  iterate 2
    refine w_wait m K c _ _ (by decide) (by decide) (by decide) ((above_arc c 1).mono (by decide)) rfl ?_ ?_
    · rfl
    iterate 4
      refine w_rcv m K c (by decide) rfl ?_ ?_
      · rfl
    refine l_back m K c 4 (by decide) rfl ?_
    refine l_back m K c 3 (by decide) rfl ?_
    refine l_back m K c 2 (by decide) rfl ?_
    refine l_back m K c 1 (by decide) rfl ?_
    refine w_load m K c _ _ (by decide) rfl ?_
  refine next m K c ?_
  refine s_tile m K c ?_ (k0_off5_eq c) ?_
  · rfl
  refine regroup_s m K c rfl (to_tile m c) ?_
  iterate 31
    refine s_tsend m K c (by decide) (by decide) ?_ ?_ ?_ ?_ ?_ ?_
    · clear hQ; revert c; decide +kernel
    · exact k0_off6_eq c
    · exact k0_off6_eq c
    · exact off1_eq c _ (by decide)
    · exact k0_off2_eq c
  refine next m K c ?_
  refine regroup_s m K c (oArc_end c) (BI.Entails.refl _) ?_
  iterate 31
    refine w_arc m K c (by decide) (by decide) ?_ ?_ ?_
    · exact off7_eq c _ (by decide)
    · rfl
  refine regroup_s m K c rfl (to_table m c) ?_
  refine load_table m K c ?_
  refine next m K c ?_
  refine over_out m K c (w := outAt m c) ?_
  refine regroup_s m K c rfl (to_snd m c) ?_
  iterate 32
    refine w_snd m K c (by decide) ?_ ?_ ?_
    · exact off1_eq c _ (by decide)
    · rfl
  refine regroup_s m K c rfl (to_asn m c) ?_
  iterate 31
    refine w_asn m K c (by decide) (by decide) ?_ ?_ ?_
    · exact off1_eq c _ (by decide)
    · rfl
  rw [WP]
  exact hQ

end Body

end Cert.Exchange
end
-- ==== Proof.Cells.lean ====
/- The cells of a launch: a device's cells listed family by family, the tokens minted for them and dealt to the devices
   that spend them, the invariants allocated, and the credit each device is launched with. -/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A device's cells, family by family -/

/-- A transfer cell by its place among the kernel's own. -/
def oix (k : Fin 130) : DmaSem sig := ⟨2 + k.val, by have := k.isLt; show _ < 132; omega⟩
abbrev osem (k : Fin 130) : SemLoc sig := .dma (oix k)

/-- The places `o`, `o + 1`, …, `n` of them. -/
def seg (o n : ℕ) (h : o + n ≤ 130) : Fin n ↪ Fin 130 :=
  ⟨fun p => ⟨o + p.val, by have := p.isLt; omega⟩, fun p q e => Fin.ext (by have := congrArg Fin.val e; simp only at this; omega)⟩
theorem mem_seg (o n : ℕ) (h : o + n ≤ 130) (k : Fin 130) : k ∈ Finset.univ.map (seg o n h) ↔ o ≤ k.val ∧ k.val < o + n := by
  simp only [Finset.mem_map, Finset.mem_univ, _root_.true_and]
  constructor
  · rintro ⟨p, rfl⟩
    have := p.isLt
    exact ⟨Nat.le_add_right _ _, by show o + p.val < o + n; omega⟩
  · rintro ⟨h1, h2⟩
    exact ⟨⟨k.val - o, by omega⟩, Fin.ext (by show o + (k.val - o) = k.val; omega)⟩
theorem seg_apart (o n h o' n' h') (hd : o + n ≤ o' ∨ o' + n' ≤ o) : Disjoint (Finset.univ.map (seg o n h)) (Finset.univ.map (seg o' n' h')) :=
  Finset.disjoint_left.mpr fun k hk hk' => by
    have a := (mem_seg o n h k).mp hk
    have b := (mem_seg o' n' h' k).mp hk'
    omega

omit [FloatOps F] in
theorem fams (Ψ : DmaSem sig → sProp 𝕄) :
    (bigSep Finset.univ fun k : Fin 130 => Ψ (oix k))
      = iprop((bigSep Finset.univ fun b : Fin 2 => Ψ (wdS b)) ∗ (bigSep Finset.univ fun p : Dev nD => Ψ (sndS p)) ∗ (bigSep Finset.univ fun p : Dev nD => Ψ (rcvS p))
        ∗ (bigSep Finset.univ fun p : Dev nD => Ψ (asnS p)) ∗ bigSep Finset.univ fun p : Dev nD => Ψ (arcS p)) := by
  have hu : (Finset.univ : Finset (Fin 130)) = Finset.univ.map (seg 0 2 (by decide)) ∪ (Finset.univ.map (seg 2 32 (by decide))
      ∪ (Finset.univ.map (seg 34 32 (by decide)) ∪ (Finset.univ.map (seg 66 32 (by decide)) ∪ Finset.univ.map (seg 98 32 (by decide))))) := by
    ext k
    have := k.isLt
    simp only [Finset.mem_union, mem_seg, Finset.mem_univ, _root_.true_iff]
    omega
  rw [hu, bigSep_union, bigSep_union, bigSep_union, bigSep_union, bigSep_map, bigSep_map, bigSep_map, bigSep_map, bigSep_map]
  · have e (o o' n : ℕ) (h : o + n ≤ 130) (h' : 2 + o = o') (f : Fin n → DmaSem sig) (hf : ∀ p, (f p).val = o' + p.val) :
        (bigSep Finset.univ fun p : Fin n => Ψ (oix (seg o n h p))) = bigSep Finset.univ fun p => Ψ (f p) :=
      bigSep_congr fun p _ => congrArg Ψ (Fin.ext (by rw [hf]; show 2 + (o + p.val) = o' + p.val; omega))
    rw [e 0 2 2 _ rfl wdS fun p => rfl, e 2 4 32 _ rfl sndS fun p => rfl, e 34 36 32 _ rfl rcvS fun p => rfl, e 66 68 32 _ rfl asnS fun p => rfl,
      e 98 100 32 _ rfl arcS fun p => rfl]
    rfl
  · exact seg_apart _ _ _ _ _ _ (by decide)
  · exact Finset.disjoint_union_right.mpr ⟨seg_apart _ _ _ _ _ _ (by decide), seg_apart _ _ _ _ _ _ (by decide)⟩
  · exact Finset.disjoint_union_right.mpr ⟨seg_apart _ _ _ _ _ _ (by decide), Finset.disjoint_union_right.mpr ⟨seg_apart _ _ _ _ _ _ (by decide), seg_apart _ _ _ _ _ _ (by decide)⟩⟩
  · exact Finset.disjoint_union_right.mpr ⟨seg_apart _ _ _ _ _ _ (by decide), Finset.disjoint_union_right.mpr ⟨seg_apart _ _ _ _ _ _ (by decide),
      Finset.disjoint_union_right.mpr ⟨seg_apart _ _ _ _ _ _ (by decide), seg_apart _ _ _ _ _ _ (by decide)⟩⟩⟩

omit [FloatOps F] in
theorem cells_all (Ψ : SemLoc sig → sProp 𝕄) :
    (bigSep Finset.univ fun k : Fin 131 => Ψ (csem k)) = iprop(Ψ (.reg barS) ∗ bigSep Finset.univ fun k : Fin 130 => Ψ (osem k)) := by
  have hu : (Finset.univ : Finset (Fin 131)) = insert 0 (Finset.univ.map (Fin.succEmb 130)) := by
    ext k
    refine Fin.cases ?_ (fun k => ?_) k <;> simp
  have h0 : (0 : Fin 131) ∉ Finset.univ.map (Fin.succEmb 130) := by simp
  rw [hu, bigSep_insert h0, bigSep_map]
  have e : (bigSep Finset.univ fun k : Fin 130 => Ψ (csem (Fin.succEmb 130 k))) = bigSep Finset.univ fun k : Fin 130 => Ψ (osem k) :=
    bigSep_congr fun k _ => congrArg Ψ (by
      unfold csem
      rw [dif_neg (by show ¬ k.val + 1 = 0; omega)]
      exact congrArg SemLoc.dma (Fin.ext (by show k.val + 1 + 1 = 2 + k.val; omega)))
  rw [e]
  rfl

/-! ## Tokens -/

theorem csem_injective : Function.Injective csem := by
  intro a b h
  unfold csem at h
  split at h <;> split at h
  · exact Fin.ext (by omega)
  · cases h
  · cases h
  · have := congrArg Fin.val (SemLoc.dma.inj h)
    exact Fin.ext (by simp only at this; omega)
theorem kcell_injective : Function.Injective (kcell : Dev nD × Fin 131 → GSem nD τ sig) := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

/-- A barrier cell's tokens, one for each device. -/
abbrev tokB (x : Dev nD × Dev nD) : GSem nD τ sig × ℕ × Dev nD := (barC x.1, 0, x.2)
/-- A transfer cell's tokens, one in each of four rounds. -/
abbrev tokD (x : Dev nD × Fin 130 × Fin 4) : GSem nD τ sig × ℕ × Dev nD := (dmaC x.1 (oix x.2.1), x.2.2.val, 0)
theorem tokB_injective : Function.Injective tokB := by
  rintro ⟨c, p⟩ ⟨c', p'⟩ h
  have h1 : c = c' := congrArg (fun g : GSem nD τ sig × ℕ × Dev nD => g.1.1.1) h
  have h2 : p = p' := congrArg (fun g : GSem nD τ sig × ℕ × Dev nD => g.2.2) h
  rw [h1, h2]
theorem tokD_injective : Function.Injective tokD := by
  rintro ⟨c, k, r⟩ ⟨c', k', r'⟩ h
  have h1 : c = c' := congrArg (fun g : GSem nD τ sig × ℕ × Dev nD => g.1.1.1) h
  have h2 : osem k = osem k' := congrArg (fun g : GSem nD τ sig × ℕ × Dev nD => g.1.2) h
  have h3 : r.val = r'.val := congrArg (fun g : GSem nD τ sig × ℕ × Dev nD => g.2.1) h
  have h4 : 2 + k.val = 2 + k'.val := congrArg Fin.val (SemLoc.dma.inj h2)
  rw [h1, show k = k' from Fin.ext (by omega), Fin.ext h3]
def tokens : Finset (GSem nD τ sig × ℕ × Dev nD) := Finset.univ.map ⟨tokB, tokB_injective⟩ ∪ Finset.univ.map ⟨tokD, tokD_injective⟩
theorem tokens_apart : Disjoint (Finset.univ.map ⟨tokB, tokB_injective⟩) (Finset.univ.map ⟨tokD, tokD_injective⟩) :=
  Finset.disjoint_left.mpr fun x hx hx' => by
    obtain ⟨a, -, rfl⟩ := Finset.mem_map.mp hx
    obtain ⟨b, -, h⟩ := Finset.mem_map.mp hx'
    exact absurd (congrArg (fun g : GSem nD τ sig × ℕ × Dev nD => g.1.2) h) (fun h' => by cases h')

def u₀ : UU :=
  (initOf (Pipeline.cells cfgs cellOf_inj) (Pipeline.launchToks cfgs cellOf_inj), initOf cells tokens)

def toks (c : Dev nD) : sProp 𝕄 :=
  iprop((bigSep Finset.univ fun p : Dev nD => dutyTok ER (barC c) 0 p)
    ∗ bigSep Finset.univ fun k : Fin 130 => bigSep Finset.univ fun r : Fin 4 => dutyTok ER (dmaC c (oix k)) r.val 0)

/-- The tokens device `c` spends. -/
def payToks (c : Dev nD) : sProp 𝕄 :=
  iprop((bigSep Finset.univ fun p : Dev nD => dutyTok ER (barC p) 0 c)
    ∗ (bigSep Finset.univ fun b : Fin 2 => bigSep Finset.univ fun r : Fin 4 => dutyTok ER (dmaC c (wdS b)) r.val 0)
    ∗ (bigSep Finset.univ fun p : Dev nD => dutyTok ER (dmaC c (sndS p)) 0 0) ∗ (bigSep Finset.univ fun p : Dev nD => dutyTok ER (dmaC p (rcvS c)) 0 0)
    ∗ (bigSep Finset.univ fun p : Dev nD => dutyTok ER (dmaC c (asnS p)) 0 0) ∗ bigSep Finset.univ fun p : Dev nD => dutyTok ER (dmaC p (arcS c)) 0 0)

omit [FloatOps F] in
theorem toks_fams (c : Dev nD) : (toks c : sProp 𝕄)
    ⊢ iprop((bigSep Finset.univ fun p : Dev nD => dutyTok ER (barC c) 0 p)
    ∗ (bigSep Finset.univ fun b : Fin 2 => bigSep Finset.univ fun r : Fin 4 => dutyTok ER (dmaC c (wdS b)) r.val 0)
    ∗ (bigSep Finset.univ fun p : Dev nD => dutyTok ER (dmaC c (sndS p)) 0 0) ∗ (bigSep Finset.univ fun p : Dev nD => dutyTok ER (dmaC c (rcvS p)) 0 0)
    ∗ (bigSep Finset.univ fun p : Dev nD => dutyTok ER (dmaC c (asnS p)) 0 0) ∗ bigSep Finset.univ fun p : Dev nD => dutyTok ER (dmaC c (arcS p)) 0 0) := by
  have one (f : Dev nD → DmaSem sig) : (bigSep Finset.univ fun p : Dev nD => bigSep Finset.univ fun r : Fin 4 => (dutyTok ER (dmaC c (f p)) r.val 0 : sProp 𝕄))
      ⊢ bigSep Finset.univ fun p : Dev nD => dutyTok ER (dmaC c (f p)) 0 0 :=
    bigSep_mono fun p _ => bigSep_elim (Φ := fun r : Fin 4 => (dutyTok ER (dmaC c (f p)) r.val 0 : sProp 𝕄)) (Finset.mem_univ (0 : Fin 4))
  unfold toks
  rw [fams fun i => bigSep Finset.univ fun r : Fin 4 => dutyTok ER (dmaC c i) r.val 0]
  have h1 := one sndS
  have h2 := one rcvS
  have h3 := one asnS
  have h4 := one arcS
  iintro ⟨HB, HW, HS, HR, HN, HA⟩
  isplitl [HB]; · iexact HB
  isplitl [HW]; · iexact HW
  isplitl [HS]; · iapply h1; iexact HS
  isplitl [HR]; · iapply h2; iexact HR
  isplitl [HN]; · iapply h3; iexact HN
  iapply h4; iexact HA

omit [FloatOps F] in
theorem toks_around : (bigSep Finset.univ fun c : Dev nD => (toks c : sProp 𝕄)) ⊢ bigSep Finset.univ fun c : Dev nD => payToks c := by
  refine (bigSep_mono fun c _ => toks_fams c).trans ?_
  unfold payToks
  rw [both, both, both, both, both, both, both, both, both, both,
    bigSep_univ_comm (fun c p : Dev nD => (dutyTok ER (barC c) 0 p : sProp 𝕄)),
    bigSep_univ_comm (fun c p : Dev nD => (dutyTok ER (dmaC c (rcvS p)) 0 0 : sProp 𝕄)),
    bigSep_univ_comm (fun c p : Dev nD => (dutyTok ER (dmaC c (arcS p)) 0 0 : sProp 𝕄))]
  exact BI.Entails.refl _

/-! ## The ghost state dealt and the invariants allocated -/

def G (c : Dev nD) : sProp 𝕄 :=
  iprop((bigSep Finset.univ fun k : Fin 131 => roundState ER (Rd m) (kcell (c, k)) 0)
    ∗ (bigSep Finset.univ fun k : Fin 131 => atPos ER (kcell (c, k)) 0 ∅ 0) ∗ (bigSep Finset.univ fun k : Fin 131 => reached ER (kcell (c, k)) 0) ∗ toks c)

/-- The records every device keeps. -/
def Recs (K : Dev nD × Fin 131 → ℕ) : sProp 𝕄 :=
  iprop((bigSep Finset.univ fun ck : Dev nD × Fin 131 => cellInv ER (Rd m) (K ck) (kcell ck)) ∗ bigSep Finset.univ fun ck : Dev nD × Fin 131 => reached ER (kcell ck) 0)
instance Recs_persistent (K : Dev nD × Fin 131 → ℕ) : BI.Persistent (Recs m K) := by unfold Recs; infer_instance

/-- Where device `c` stands on its cells, and the tokens it spends. -/
def Lin (c : Dev nD) : sProp 𝕄 := iprop((bigSep Finset.univ fun k : Fin 131 => atPos ER (kcell (c, k)) 0 ∅ 0) ∗ payToks c)
def G' (c : Dev nD) : sProp 𝕄 := iprop(∃ K, Recs m K ∗ Lin c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : Fin 131 => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens toks; rw [bigSep_union tokens_apart, bigSep_map, bigSep_map, bigSep_univ_prod, bigSep_univ_prod, both]
    congr 1
    exact bigSep_congr fun c _ => by rw [bigSep_univ_prod]; rfl
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [both, both, both]
  isplitl [Hst']; · iexact Hst'
  isplitl [Hat']; · iexact Hat'
  isplitl [Hr']; · iexact Hr'
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 130 => semVal ((c : Thread nD τ), osem k) 0 := rfl
omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 131 => atPos ER (kcell (c, k)) 0 ∅ 0) ∗ (bigSep Finset.univ fun k : Fin 131 => reached ER (kcell (c, k)) 0) ∗ toks c) := by
  have h : iprop((bigSep Finset.univ fun k : Fin 131 => semVal (kcell (c, k)) 0) ∗ bigSep Finset.univ fun k : Fin 131 => roundState ER (Rd m) (kcell (c, k)) 0)
      ⊢ (|={Set.univ}=> bigSep Finset.univ fun k => iprop(∃ κ : ℕ, cellInv ER (Rd m) κ (kcell (c, k))) : sProp 𝕄) := by
    rw [← both]
    exact (bigSep_mono fun k _ => (Rounds.body_intro ER (Rd m) (kcell (c, k))).trans inv_alloc).trans (bigSep_fupd _ _)
  rw [cells_all fun s => (semVal ((c : Thread nD τ), s) 0 : sProp 𝕄)] at h
  unfold G
  rw [ownSems0_eq, unscopedSems0_eq]
  iintro ⟨Hos, Hus, Hst, Hat, Hr, Htok⟩
  imod h $$ [Hos Hus Hst] with Hinv
  · isplitr [Hst]
    · isplitl [Hus]; · iexact Hus
      iexact Hos
    · iexact Hst
  imodintro
  isplitl [Hinv]; · iexact Hinv
  isplitl [Hat]; · iexact Hat
  isplitl [Hr]; · iexact Hr
  iexact Htok

omit [FloatOps F] in
/-- A persistent assertion is at hand at every member. -/
theorem each_with {ι : Type} [DecidableEq ι] {s : Finset ι} {R : sProp 𝕄} [BI.Persistent R] {Φ Ψ : ι → sProp 𝕄}
    (h : ∀ i ∈ s, iprop(R ∗ Φ i) ⊢ Ψ i) : iprop(R ∗ bigSep s Φ) ⊢ bigSep s Ψ :=
  (sep_mono_left (BI.bigSep_of_persistent s R)).trans (by rw [← both]; exact bigSep_mono h)

theorem regroup_all :
    (bigSep Finset.univ fun c : Dev nD => iprop((bigSep Finset.univ fun k => iprop(∃ κ : ℕ, cellInv ER (Rd m) κ (kcell (c, k))))
          ∗ (bigSep Finset.univ fun k : Fin 131 => atPos ER (kcell (c, k)) 0 ∅ 0) ∗ (bigSep Finset.univ fun k : Fin 131 => reached ER (kcell (c, k)) 0) ∗ toks c) : sProp 𝕄)
      ⊢ bigSep Finset.univ (G' m) := by
  have hg (K : Dev nD × Fin 131 → ℕ) : iprop(Recs m K ∗ bigSep Finset.univ fun c => Lin (F := F) c) ⊢ bigSep Finset.univ (G' m) :=
    each_with fun c _ => (show iprop(Recs m K ∗ Lin (F := F) c) ⊢ G' m c by
      unfold G'
      iintro H
      iexists K
      iexact H)
  rw [both, both, both, ← bigSep_univ_prod (fun ck : Dev nD × Fin 131 => iprop(∃ κ : ℕ, cellInv ER (Rd m) κ (kcell ck))),
    ← bigSep_univ_prod (fun ck : Dev nD × Fin 131 => (reached ER (kcell ck) 0 : sProp 𝕄))]
  iintro ⟨HI, Hat, HR, Htok⟩
  ihave HK := (BI.bigSep_exists_pi Finset.univ (fun (ck : Dev nD × Fin 131) (κ : ℕ) => (cellInv ER (Rd m) κ (kcell ck) : sProp 𝕄))) $$ HI
  icases HK with ⟨%K, HI⟩
  ihave Htk := (toks_around (F := F)) $$ Htok
  iapply (hg K)
  isplitl [HI HR]
  · unfold Recs
    isplitl [HI]; · iexact HI
    iexact HR
  · unfold Lin
    rw [both]
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup_all m))

/-! ## The launch credit -/

theorem at_sum (s : Finset ℕ) (f : ℕ → CellTallies nD τ sig Unit) (g : GSem nD τ sig) (u : Unit) : (∑ e ∈ s, f e) g u = ∑ e ∈ s, f e g u := by
  induction s using Finset.induction_on with
  | empty => rfl
  | insert a s ha ih => rw [Finset.sum_insert ha, Finset.sum_insert ha, Pi.add_apply, Finsupp.add_apply, ih]

theorem reach_all (d : Dev nD) : (Finset.Ico 0 32).image (rot d) = Finset.univ := (enum_rot d).image
theorem reach_others (d : Dev nD) : (Finset.Ico 1 32).image (rot d) = Finset.univ.erase d := by revert d; decide +kernel

/-- What `d` owes device `c` of one kind. -/
theorem owed_at (d c : Dev nD) (s s' : SemLoc sig) (n a : ℕ) (T : Finset (Dev nD)) (hT : (Finset.Ico a 32).image (rot d) = T) :
    (∑ e ∈ Finset.Ico a 32, (tallyAt ((rot d e : Thread nD τ), s) () n : CellTallies nD τ sig Unit)) ((c : Thread nD τ), s') () = if c ∈ T ∧ s' = s then n else 0 := by
  rw [at_sum]
  have hs := Finset.sum_image (s := Finset.Ico a 32) (g := rot d) (f := fun p : Dev nD => (tallyAt ((p : Thread nD τ), s) () n : CellTallies nD τ sig Unit) ((c : Thread nD τ), s') ())
    (fun i hi j hj h => enum_rot d i j (Finset.mem_Ico.mp hi).2 (Finset.mem_Ico.mp hj).2 h)
  rw [← hs, hT]
  have e (p : Dev nD) : (tallyAt ((p : Thread nD τ), s) () n : CellTallies nD τ sig Unit) ((c : Thread nD τ), s') () = if c = p then (if s' = s then n else 0) else 0 := by
    rw [tallyAt_apply]
    by_cases h : c = p
    · subst h
      rw [if_pos rfl]
      by_cases h' : s' = s
      · rw [if_pos h', if_pos ⟨by rw [h'], rfl⟩]
      · rw [if_neg h', if_neg fun x => h' (congrArg Prod.snd x.1)]
    · rw [if_neg h, if_neg fun x => h (congrArg (fun g : GSem nD τ sig => g.1.1) x.1)]
  rw [Finset.sum_congr rfl fun p _ => e p, Finset.sum_ite_eq]
  by_cases h : c ∈ T
  · rw [if_pos h]
    by_cases h' : s' = s
    · rw [if_pos h', if_pos ⟨h, h'⟩]
    · rw [if_neg h', if_neg fun x => h' x.2]
  · rw [if_neg h, if_neg fun x => h x.1]

theorem owed (d c : Dev nD) (s : SemLoc sig) : O₀ d ((c : Thread nD τ), s) ()
    = (if c ∈ Finset.univ.erase d ∧ s = .dma (arcS d) then NA else 0) + (if c ∈ Finset.univ ∧ s = .dma (rcvS d) then NX else 0)
      + (if c ∈ Finset.univ.erase d ∧ s = .reg barS then 1 else 0) := by
  unfold O₀ oArc oRcv oBar
  rw [Pi.add_apply, Finsupp.add_apply, Pi.add_apply, Finsupp.add_apply, owed_at d c _ s NA 1 _ (reach_others d), owed_at d c _ s NX 0 _ (reach_all d),
    owed_at d c _ s 1 1 _ (reach_others d)]

theorem rcv_inj {p q : Dev nD} (h : SemLoc.dma (rcvS p) = (SemLoc.dma (rcvS q) : SemLoc sig)) : p = q := by
  have : 36 + p.val = 36 + q.val := congrArg Fin.val (SemLoc.dma.inj h)
  exact Fin.ext (by omega)
theorem arc_inj {p q : Dev nD} (h : SemLoc.dma (arcS p) = (SemLoc.dma (arcS q) : SemLoc sig)) : p = q := by
  have : 100 + p.val = 100 + q.val := congrArg Fin.val (SemLoc.dma.inj h)
  exact Fin.ext (by omega)
theorem rcv_ne_arc (p q : Dev nD) : SemLoc.dma (rcvS p) ≠ (SemLoc.dma (arcS q) : SemLoc sig) := fun h => by
  have : 36 + p.val = 100 + q.val := congrArg Fin.val (SemLoc.dma.inj h)
  have hp : p.val < 32 := p.isLt
  omega

omit [FloatOps F] in
theorem launch_at (c : Dev nD) (s : SemLoc sig) (n : ℕ) (h : ∑ d : Dev nD, O₀ d ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

theorem others_count (c : Dev nD) : (∑ d : Dev nD, if c ∈ Finset.univ.erase d then 1 else 0) = 31 := by revert c; decide +kernel

theorem reg_ne_dma (i : DmaSem sig) : (SemLoc.reg barS : SemLoc sig) ≠ SemLoc.dma i := fun h => by cases h
theorem dma_ne_reg (i : DmaSem sig) : SemLoc.dma i ≠ (SemLoc.reg barS : SemLoc sig) := fun h => by cases h

theorem launch_bar (c : Dev nD) : ∑ d : Dev nD, O₀ d (barC c) () = 31 := by
  rw [← others_count c]
  refine Finset.sum_congr rfl fun d _ => ?_
  rw [owed, if_neg fun x => reg_ne_dma _ x.2, if_neg fun x => reg_ne_dma _ x.2, Nat.zero_add]
  by_cases h : c ∈ Finset.univ.erase d
  · rw [if_pos h, if_pos ⟨h, rfl⟩]
  · rw [if_neg h, if_neg fun x => h x.1]
theorem launch_rcv (c p : Dev nD) : ∑ d : Dev nD, O₀ d (dmaC c (rcvS p)) () = NX := by
  rw [Finset.sum_eq_single p]
  · rw [owed, if_neg fun x => rcv_ne_arc _ _ x.2, if_pos ⟨Finset.mem_univ _, rfl⟩, if_neg fun x => dma_ne_reg _ x.2, Nat.zero_add, Nat.add_zero]
  · intro d _ hd
    rw [owed, if_neg fun x => rcv_ne_arc _ _ x.2, if_neg fun x => hd (rcv_inj x.2).symm, if_neg fun x => dma_ne_reg _ x.2]; rfl
  · exact fun h => absurd (Finset.mem_univ p) h
theorem launch_arc (c p : Dev nD) (h : p ≠ c) : ∑ d : Dev nD, O₀ d (dmaC c (arcS p)) () = NA := by
  rw [Finset.sum_eq_single p]
  · rw [owed, if_pos ⟨Finset.mem_erase.mpr ⟨h.symm, Finset.mem_univ _⟩, rfl⟩, if_neg fun x => rcv_ne_arc _ _ x.2.symm, if_neg fun x => dma_ne_reg _ x.2]; rfl
  · intro d _ hd
    rw [owed, if_neg fun x => hd (arc_inj x.2).symm, if_neg fun x => rcv_ne_arc _ _ x.2.symm, if_neg fun x => dma_ne_reg _ x.2]; rfl
  · exact fun h => absurd (Finset.mem_univ p) h

omit [FloatOps F] in
theorem creds (c : Dev nD) : (Pipeline.launchCred O₀ c : sProp 𝕄)
    ⊢ iprop(cred (tallyAt (barC c) () 31) ∗ (bigSep Finset.univ fun p : Dev nD => cred (tallyAt (dmaC c (rcvS p)) () NX))
      ∗ bigSep (Finset.univ.erase c) fun p : Dev nD => cred (tallyAt (dmaC c (arcS p)) () NA)) := by
  unfold Pipeline.launchCred
  let rE : Dev nD ↪ SemLoc sig := ⟨fun p => .dma (rcvS p), fun _ _ => rcv_inj⟩
  let aE : Dev nD ↪ SemLoc sig := ⟨fun p => .dma (arcS p), fun _ _ => arc_inj⟩
  have hd : Disjoint (Finset.univ.map rE) ((Finset.univ.erase c).map aE) := Finset.disjoint_left.mpr fun x hx hx' => by
    obtain ⟨a, -, rfl⟩ := Finset.mem_map.mp hx
    obtain ⟨b, -, h⟩ := Finset.mem_map.mp hx'
    exact rcv_ne_arc a b h.symm
  have hb : SemLoc.reg barS ∉ Finset.univ.map rE ∪ (Finset.univ.erase c).map aE := fun h => by
    rcases Finset.mem_union.mp h with h | h <;> obtain ⟨a, -, h⟩ := Finset.mem_map.mp h <;> cases h
  refine (bigSep_subset (Finset.subset_univ (insert (SemLoc.reg barS) (Finset.univ.map rE ∪ (Finset.univ.erase c).map aE)))
    (Φ := fun sm : SemLoc sig => (cred (tallyOn ((c : Thread nD τ), sm) (launchCredit (Pipeline.owing O₀) 0 ((c : Thread nD τ), sm))) : sProp 𝕄))).trans ?_
  rw [bigSep_insert hb, bigSep_union hd, bigSep_map, bigSep_map]
  have e₁ := launch_at c (.reg barS) 31 (launch_bar c)
  have e₂ : (bigSep Finset.univ fun p : Dev nD => (cred (tallyOn ((c : Thread nD τ), rE p) (launchCredit (Pipeline.owing O₀) 0 ((c : Thread nD τ), rE p))) : sProp 𝕄))
      = bigSep Finset.univ fun p : Dev nD => cred (tallyAt (dmaC c (rcvS p)) () NX) :=
    bigSep_congr fun p _ => congrArg cred (launch_at c (.dma (rcvS p)) NX (launch_rcv c p))
  have e₃ : (bigSep (Finset.univ.erase c) fun p : Dev nD => (cred (tallyOn ((c : Thread nD τ), aE p) (launchCredit (Pipeline.owing O₀) 0 ((c : Thread nD τ), aE p))) : sProp 𝕄))
      = bigSep (Finset.univ.erase c) fun p : Dev nD => cred (tallyAt (dmaC c (arcS p)) () NA) :=
    bigSep_congr fun p hp => congrArg cred (launch_at c (.dma (arcS p)) NA (launch_arc c p (Finset.ne_of_mem_erase hp)))
  rw [e₁, e₂, e₃]
  exact BI.Entails.refl _

end Cert.Exchange
end
-- ==== Proof.Ends.lean ====
/- The two ends of the body: what a device is launched with made into what the body starts from, and what the body
   leaves made into whole buffers and closed cells. -/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Listing a finite type by an interval -/

omit [FloatOps F] in
theorem listed {ι : Type} [Fintype ι] [DecidableEq ι] (s : Finset ℕ) (f : ℕ → ι) (hf : ∀ i ∈ s, ∀ j ∈ s, f i = f j → i = j) (hi : s.image f = Finset.univ)
    (Φ : ι → sProp 𝕄) : bigSep Finset.univ Φ = bigSep s fun j => Φ (f j) := by
  rw [← hi]
  exact Finset.fold_image hf

omit [FloatOps F] in
theorem by_chunk (Φ : Fin 8 → sProp 𝕄) : bigSep Finset.univ Φ = bigSep (Finset.Ico 0 8) fun j => Φ (cj j) :=
  listed _ cj (by decide +kernel) (by decide +kernel) Φ
omit [FloatOps F] in
theorem by_half (a : ℕ) (ha : a = 0 ∨ a = 8) (Φ : Fin 2 → sProp 𝕄) : bigSep Finset.univ Φ = bigSep (Finset.Ico a (a + 2)) fun j => Φ (hb j) := by
  rcases ha with rfl | rfl <;> exact listed _ hb (by decide +kernel) (by decide +kernel) Φ
omit [FloatOps F] in
theorem by_round (Φ : Fin 2 → ℕ → sProp 𝕄) :
    (bigSep Finset.univ fun b : Fin 2 => bigSep Finset.univ fun r : Fin 4 => Φ b r.val) = bigSep (Finset.Ico 0 8) fun j => Φ (hb j) (j / 2) := by
  rw [← bigSep_univ_prod (fun x : Fin 2 × Fin 4 => Φ x.1 x.2.val),
    listed (Finset.Ico 0 8) (fun j => (hb j, (⟨j / 2 % 4, Nat.mod_lt _ (by decide)⟩ : Fin 4))) (by decide +kernel) (by decide +kernel)]
  exact bigSep_congr fun j hj => by
    have := (Finset.mem_Ico.mp hj).2
    show Φ (hb j) (j / 2 % 4) = Φ (hb j) (j / 2)
    rw [Nat.mod_eq_of_lt (by omega)]

section Ends
variable (K : Dev nD × Fin 131 → ℕ) (c : Dev nD)

/-! ## Buffers as slots -/

omit [FloatOps F] in
theorem split_st : ownAny (F := F) c cc0_scratch1 ⊢ bigSep Finset.univ fun p => stAny c p :=
  family_split (ℓ := (c : Thread nD τ).loc cc0_scratch1) (fun p => (stSlot p).view.set) (fun i : S32x128x128.Idx => (i 0 : Dev nD)) (fun p i => by rw [set_stSlot]; exact mem_rS p i)
omit [FloatOps F] in
theorem split_am : ownAny (F := F) c cc0_scratch3 ⊢ bigSep Finset.univ fun p => amAny c p :=
  family_split (ℓ := (c : Thread nD τ).loc cc0_scratch3) (fun p => (amSlot p).view.set) (fun i : S32x8x128.Idx => (i 0 : Dev nD)) (fun p i => by rw [set_amSlot]; exact mem_rA p i)
/-- A half of the double buffer, at any contents. -/
def wbAny (b : Fin 2) : sProp 𝕄 := iprop(∃ f, ((wSlot b).view.loc (c : Thread nD τ) ↦[(wSlot b).view.set]{fullShare} f))
omit [FloatOps F] in
theorem split_wb : ownAny (F := F) c cc0_scratch2 ⊢ bigSep Finset.univ fun b => wbAny c b :=
  family_split (ℓ := (c : Thread nD τ).loc cc0_scratch2) (fun b => (wSlot b).view.set) (fun i : S2x512x2048.Idx => (i 0 : Fin 2)) (fun p i => by rw [set_wSlot]; exact mem_rB p i)
omit [FloatOps F] in
theorem join_wb : (bigSep Finset.univ fun b => wbAny (F := F) c b) ⊢ ownAny c cc0_scratch2 := by
  rw [bigSep_univ_two]
  unfold wbAny
  iintro ⟨⟨%f, H0⟩, ⟨%g, H1⟩⟩
  have h := family_join (F := F) (ℓ := (c : Thread nD τ).loc cc0_scratch2) (fun b => (wSlot b).view.set) (fun i : S2x512x2048.Idx => (i 0 : Fin 2)) (fun p i => by rw [set_wSlot]; exact mem_rB p i)
    (fun b => if b = 0 then f else g)
  rw [bigSep_univ_two] at h
  iapply h
  isplitl [H0]; · iexact H0
  iexact H1
theorem join_st : (bigSep Finset.univ fun p => stP m c p) ⊢ ownAny c cc0_scratch1 :=
  family_join (ℓ := (c : Thread nD τ).loc cc0_scratch1) (fun p => (stSlot p).view.set) (fun i : S32x128x128.Idx => (i 0 : Dev nD)) (fun p i => by rw [set_stSlot]; exact mem_rS p i)
    (fun p => stG m c p)
omit [FloatOps F] in
theorem w_rows : own c main_arg1 (wA m c) = bigSep (Finset.Ico 0 8) (wRowP m c) :=
  (family_eq (ℓ := (c : Thread nD τ).loc main_arg1) (fun j => (wRow j).view.set) (fun i : S4096x2048.Idx => cj ((i 0).val / 512)) (fun p i => by rw [set_wRow]; exact mem_rW p i) fullShare (wA m c)).trans
    (by_chunk (fun j => (wRow j).view.loc (c : Thread nD τ) ↦[(wRow j).view.set]{fullShare} wA m c))

omit [FloatOps F] in
/-- The members at the other devices. -/
theorem others {f : ℕ → Dev nD} (h : Enum f) (h0 : f 0 = c) (Φ : Dev nD → sProp 𝕄) :
    bigSep Finset.univ Φ = iprop(Φ c ∗ bigSep (Finset.Ico 1 32) fun e => Φ (f e)) := by
  rw [← h.sep_erase h0]
  exact bigSep_univ_at Φ c

/-! ## The start -/

/-- The credit a device is launched with. -/
def Creds : sProp 𝕄 :=
  iprop(cred (tallyAt (barC c) () 31) ∗ (bigSep Finset.univ fun p : Dev nD => cred (tallyAt (dmaC c (rcvS p)) () NX))
    ∗ bigSep (Finset.univ.erase c) fun p : Dev nD => cred (tallyAt (dmaC c (arcS p)) () NA))
def Scr : sProp 𝕄 := iprop(ownAny c cc0_scratch0 ∗ ownAny c cc0_scratch1 ∗ ownAny c cc0_scratch2 ∗ ownAny c cc0_scratch3)

omit [FloatOps F] in
/-- The positions on a device's cells, family by family. -/
theorem stands : (bigSep Finset.univ fun k : Fin 131 => (atPos ER (kcell (c, k)) 0 ∅ 0 : sProp 𝕄))
    = iprop(atPos ER (barC c) 0 ∅ 0 ∗ (bigSep (Finset.Ico 0 2) fun i => atPos ER (dmaC c (wdS (hb i))) 0 ∅ 0) ∗ SndK c
      ∗ (bigSep Finset.univ fun p : Dev nD => atPos ER (dmaC c (rcvS p)) 0 ∅ 0)
      ∗ (atPos ER (dmaC c (asnS c)) 0 ∅ 0 ∗ AsnK c) ∗ (atPos ER (dmaC c (arcS c)) 0 ∅ 0 ∗ bigSep (Finset.Ico 1 32) fun e => atPos ER (dmaC c (arcS (back c e))) 0 ∅ 0)) := by
  have e₁ := cells_all fun s => (atPos ER ((c : Thread nD τ), s) 0 ∅ 0 : sProp 𝕄)
  have e₂ := fams fun i => (atPos ER (dmaC c i) 0 ∅ 0 : sProp 𝕄)
  have e₃ := by_half 0 (Or.inl rfl) fun b => (atPos ER (dmaC c (wdS b)) 0 ∅ 0 : sProp 𝕄)
  have e₄ := (enum_rot c).sep fun p => (atPos ER (dmaC c (sndS p)) 0 ∅ 0 : sProp 𝕄)
  have e₅ := others c (enum_rot c) (rot_zero c) fun p => (atPos ER (dmaC c (asnS p)) 0 ∅ 0 : sProp 𝕄)
  have e₆ := others c (enum_back c) (back_zero c) fun p => (atPos ER (dmaC c (arcS p)) 0 ∅ 0 : sProp 𝕄)
  rw [e₁, e₂, e₃, e₄, e₅, e₆]
  rfl

theorem halves_held : iprop(Env m K ∗ (bigSep Finset.univ fun b => wbAny (F := F) c b) ∗ bigSep (Finset.Ico 0 2) fun i => atPos ER (dmaC c (wdS (hb i))) 0 ∅ 0)
    ⊢ bigSep (Finset.Ico 0 2) (wHeld m c) := by
  rw [by_half 0 (Or.inl rfl), ← both]
  refine each_with fun i hi => ?_
  have h2 := (Finset.mem_Ico.mp hi).2
  have h0 : i / 2 = 0 := by omega
  have hr := env_dma m K c (wdS (hb i)) (wd_ge _)
  unfold wHeld wbAny
  rw [h0]
  iintro ⟨HE, ⟨%f, Hf⟩, Ha⟩
  ihave H := hr $$ HE
  icases H with ⟨-, Hr⟩
  isplitl [Hf]
  · iexists f
    isplitr
    · ipureintro; exact fun h => absurd h (by omega)
    · iexact Hf
  isplitl [Ha]; · iexact Ha
  iexact Hr

theorem chunks_todo : iprop(own c main_arg1 (wA m c) ∗ bigSep Finset.univ fun b : Fin 2 => bigSep Finset.univ fun r : Fin 4 => dutyTok ER (dmaC c (wdS b)) r.val 0)
    ⊢ bigSep (Finset.Ico 0 8) (wTodo m c) := by
  rw [w_rows, by_round (fun b r => (dutyTok ER (dmaC c (wdS b)) r 0 : sProp 𝕄)), ← both]
  exact BI.Entails.refl _

theorem sig_start : iprop((bigSep Finset.univ fun p : Dev nD => dutyTok ER (barC p) 0 c) ∗ ownAny c cc0_scratch1 ∗ ownAny c cc0_scratch3)
    ⊢ iprop(SigS c 1 ∗ stAny (F := F) c c ∗ amAny c c) := by
  have e : SigS (F := F) c 1 = iprop((bigSep (Finset.Ico 1 32) fun e => dutyTok ER (barC (rot c e)) 0 c)
      ∗ (bigSep (Finset.Ico 1 32) fun e => stAny c (rot c e)) ∗ bigSep (Finset.Ico 1 32) fun e => amAny c (rot c e)) := by
    rw [← both, ← both]; rfl
  have h₁ := split_st (F := F) c
  have h₃ := split_am (F := F) c
  rw [others c (enum_rot c) (rot_zero c)] at h₁ h₃
  rw [e, others c (enum_rot c) (rot_zero c) fun p => (dutyTok ER (barC p) 0 c : sProp 𝕄)]
  iintro ⟨⟨-, Ht⟩, Hs, Ha⟩
  ihave Hs := h₁ $$ Hs
  ihave Ha := h₃ $$ Ha
  icases Hs with ⟨Hs, Hs'⟩
  icases Ha with ⟨Ha, Ha'⟩
  isplitl [Ht Hs' Ha']
  · isplitl [Ht]; · iexact Ht
    isplitl [Hs']; · iexact Hs'
    iexact Ha'
  isplitl [Hs]; · iexact Hs
  iexact Ha

theorem send_start : iprop((bigSep Finset.univ fun p : Dev nD => dutyTok ER (dmaC c (sndS p)) 0 0) ∗ (bigSep Finset.univ fun p : Dev nD => dutyTok ER (dmaC p (rcvS c)) 0 0) ∗ stAny (F := F) c c)
    ⊢ SendK c := by
  have e : SendK (F := F) c = iprop(((bigSep (Finset.Ico 0 32) fun e => dutyTok ER (dmaC c (sndS (rot c e))) 0 0) ∗ bigSep (Finset.Ico 0 32) fun e => dutyTok ER (dmaC (rot c e) (rcvS c)) 0 0) ∗ stAny c c) := by
    rw [← both]; rfl
  rw [e, (enum_rot c).sep fun p => (dutyTok ER (dmaC c (sndS p)) 0 0 : sProp 𝕄), (enum_rot c).sep fun p => (dutyTok ER (dmaC p (rcvS c)) 0 0 : sProp 𝕄), assoc]

theorem tile_start : iprop((bigSep Finset.univ fun p : Dev nD => dutyTok ER (dmaC c (asnS p)) 0 0) ∗ bigSep Finset.univ fun p : Dev nD => dutyTok ER (dmaC p (arcS c)) 0 0)
    ⊢ (TileK c : sProp 𝕄) := by
  have e : TileK (F := F) c = iprop((bigSep (Finset.Ico 1 32) fun e => dutyTok ER (dmaC c (asnS (rot c e))) 0 0) ∗ bigSep (Finset.Ico 1 32) fun e => dutyTok ER (dmaC (rot c e) (arcS c)) 0 0) := by
    rw [← both]; rfl
  rw [e, others c (enum_rot c) (rot_zero c) fun p => (dutyTok ER (dmaC c (asnS p)) 0 0 : sProp 𝕄), others c (enum_rot c) (rot_zero c) fun p => (dutyTok ER (dmaC p (arcS c)) 0 0 : sProp 𝕄)]
  iintro ⟨⟨-, H1⟩, -, H2⟩
  isplitl [H1]; · iexact H1
  iexact H2

theorem rcv_start : iprop((bigSep Finset.univ fun p : Dev nD => cred (tallyAt (dmaC c (rcvS p)) () NX)) ∗ bigSep Finset.univ fun p : Dev nD => atPos ER (dmaC c (rcvS p)) 0 ∅ 0)
    ⊢ FamR m c 0 := by
  have e : FamR m c 0 = iprop(((bigSep (Finset.Ico 0 32) fun e => cred (tallyAt (dmaC c (rcvS (dv e))) () NX)) ∗ bigSep (Finset.Ico 0 32) fun e => atPos ER (dmaC c (rcvS (dv e))) 0 ∅ 0) ∗ emp) := by
    rw [← both, ← ico_nil 0 (doneI c (fun e => rcvS (dv e)) fun e => stP m c (dv e))]; rfl
  rw [e, enum_dv.sep fun p => (cred (tallyAt (dmaC c (rcvS p)) () NX) : sProp 𝕄), enum_dv.sep fun p => (atPos ER (dmaC c (rcvS p)) 0 ∅ 0 : sProp 𝕄)]
  iintro H
  isplitl
  · iexact H
  · iempintro

theorem arc_start : iprop((bigSep (Finset.univ.erase c) fun p : Dev nD => cred (tallyAt (dmaC c (arcS p)) () NA)) ∗ bigSep (Finset.Ico 1 32) fun e => atPos ER (dmaC c (arcS (back c e))) 0 ∅ 0)
    ⊢ FamA m c 1 := by
  have e : FamA m c 1 = iprop(((bigSep (Finset.Ico 1 32) fun e => cred (tallyAt (dmaC c (arcS (back c e))) () NA)) ∗ bigSep (Finset.Ico 1 32) fun e => atPos ER (dmaC c (arcS (back c e))) 0 ∅ 0) ∗ emp) := by
    rw [← both, ← ico_nil 1 (doneI c (fun e => arcS (back c e)) fun e => amP m c (back c e) fullShare)]; rfl
  rw [e, (enum_back c).sep_erase (back_zero c) fun p => (cred (tallyAt (dmaC c (arcS p)) () NA) : sProp 𝕄)]
  iintro H
  isplitl
  · iexact H
  · iempintro

theorem entry : iprop(Env m K ∗ Lin c ∗ Creds c ∗ own c main_arg1 (wA m c) ∗ Scr c ∗ ownAny c cc0_stg1_0)
    ⊢ iprop(Env m K ∗ WS m c 0 0 ∗ Begin m c) := by
  have hw := split_wb (F := F) c
  have hh := halves_held m K c
  have ht := chunks_todo m c
  have hs := sig_start (F := F) c
  have hn := send_start (F := F) c
  have hl := tile_start (F := F) c
  have hr := rcv_start m c
  have ha := arc_start m c
  unfold Lin Creds Scr payToks
  rw [stands]
  iintro ⟨#HE, ⟨⟨Ab, Aw, As, Ar, ⟨An, An'⟩, ⟨Aa, Aa'⟩⟩, ⟨Tb, Tw, Ts, Tr, Tn, Ta⟩⟩, ⟨Cb, Cr, Ca⟩, Hw, ⟨S0, S1, S2, S3⟩, Ho⟩
  ihave S2 := hw $$ S2
  ihave Hh := hh $$ [Aw S2]
  · isplitr; · iexact HE
    isplitl [S2]; · iexact S2
    iexact Aw
  ihave Ht := ht $$ [Hw Tw]
  · isplitl [Hw]; · iexact Hw
    iexact Tw
  ihave Hs := hs $$ [Tb S1 S3]
  · isplitl [Tb]; · iexact Tb
    isplitl [S1]; · iexact S1
    iexact S3
  icases Hs with ⟨Hs, Hst, Ham⟩
  ihave Hn := hn $$ [Ts Tr Hst]
  · isplitl [Ts]; · iexact Ts
    isplitl [Tr]; · iexact Tr
    iexact Hst
  ihave Hl := hl $$ [Tn Ta]
  · isplitl [Tn]; · iexact Tn
    iexact Ta
  ihave Hr := hr $$ [Cr Ar]
  · isplitl [Cr]; · iexact Cr
    iexact Ar
  ihave Ha := ha $$ [Ca Aa']
  · isplitl [Ca]; · iexact Ca
    iexact Aa'
  isplitr; · iexact HE
  isplitl [Hh Ht]
  · unfold WS
    rw [ico_nil, ico_nil]
    isplitl [Ht]; · iexact Ht
    isplitr; · iempintro
    isplitl [Hh]; · iexact Hh
    iempintro
  unfold Begin barWait SelfK
  isplitl [S0]; · iexact S0
  isplitl [Hs]; · iexact Hs
  isplitl [Cb Ab]
  · isplitl [Cb]; · iexact Cb
    iexact Ab
  isplitl [Hn]; · iexact Hn
  isplitl [Hr]; · iexact Hr
  isplitl [Ham]; · iexact Ham
  isplitl [Hl]; · iexact Hl
  isplitl [Ha]; · iexact Ha
  isplitl [Ho]; · iexact Ho
  isplitl [As]; · iexact As
  isplitl [An']; · iexact An'
  isplitl [An]; · iexact An
  iexact Aa

end Ends

end Cert.Exchange
end
-- ==== Proof.Close.lean ====
/- The end of the body: every cell closed at its last round, and every buffer whole again. -/
module

public import proofs.«01_k».proof.Proof.Ends

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Close
variable (K : Dev nD × Fin 131 → ℕ) (c : Dev nD)

/-! ## Closing the cells -/

theorem close_one (i : DmaSem sig) (hi : 2 ≤ i.val) (R : ℕ) (hR : ∀ r, R ≤ r → (Rd m).duties (dmaC c i) r = ∅) :
    iprop(Env m K ∗ atPos ER (dmaC c i) R ∅ 0) ⊢ (|={Set.univ}=> semVal (dmaC c i) 0 : sProp 𝕄) := by
  have he := env_dma m K c i hi
  iintro ⟨HE, Ha⟩
  ihave H := he $$ HE
  icases H with ⟨⟨%κ, Hc⟩, -⟩
  have hc := Rounds.cell_close (κ := κ) (g := dmaC c i) (Es := Set.univ) ER (Rd m) (Set.mem_univ _) (fun h => h) (R := R) hR
  iapply hc
  isplitl [Hc]; · iexact Hc
  iexact Ha
theorem close_bar : iprop(Env m K ∗ atPos ER (barC c) 1 ∅ 0) ⊢ (|={Set.univ}=> semVal (barC c) 0 : sProp 𝕄) := by
  have he := env_bar m K c
  iintro ⟨HE, Ha⟩
  ihave H := he $$ HE
  icases H with ⟨⟨%κ, Hc⟩, -⟩
  have hc := Rounds.cell_close (κ := κ) (g := barC c) (Es := Set.univ) ER (Rd m) (Set.mem_univ _) (fun h => h) (R := 1)
    (fun r hr => duties_later m (barC c) (fun b h => by cases h) r hr)
  iapply hc
  isplitl [Hc]; · iexact Hc
  iexact Ha

/-- A family of cells at once. -/
theorem close_many (s : Finset ℕ) (f : ℕ → DmaSem sig) (R : ℕ → ℕ) (hf : ∀ e ∈ s, 2 ≤ (f e).val) (hR : ∀ e ∈ s, ∀ r, R e ≤ r → (Rd m).duties (dmaC c (f e)) r = ∅) :
    iprop(Env m K ∗ bigSep s fun e => atPos ER (dmaC c (f e)) (R e) ∅ 0) ⊢ (|={Set.univ}=> bigSep s fun e => semVal (dmaC c (f e)) 0 : sProp 𝕄) :=
  (each_with fun e he => close_one m K c (f e) (hf e he) (R e) (hR e he)).trans (bigSep_fupd _ _)

theorem snd_ne_wd (p : Dev nD) (b : Fin 2) : (SemLoc.dma (sndS p) : SemLoc sig) ≠ .dma (wdS b) := fun h => by
  have : 4 + p.val = 2 + b.val := congrArg Fin.val (SemLoc.dma.inj h)
  omega
theorem rcv_ne_wd (p : Dev nD) (b : Fin 2) : (SemLoc.dma (rcvS p) : SemLoc sig) ≠ .dma (wdS b) := fun h => by
  have : 36 + p.val = 2 + b.val := congrArg Fin.val (SemLoc.dma.inj h)
  omega
theorem asn_ne_wd (p : Dev nD) (b : Fin 2) : (SemLoc.dma (asnS p) : SemLoc sig) ≠ .dma (wdS b) := fun h => by
  have : 68 + p.val = 2 + b.val := congrArg Fin.val (SemLoc.dma.inj h)
  omega
theorem arc_ne_wd (p : Dev nD) (b : Fin 2) : (SemLoc.dma (arcS p) : SemLoc sig) ≠ .dma (wdS b) := fun h => by
  have : 100 + p.val = 2 + b.val := congrArg Fin.val (SemLoc.dma.inj h)
  omega

/-- The kernel's own cells, all closed. -/
def Zeros : sProp 𝕄 := bigSep Finset.univ fun k : Fin 130 => semVal ((c : Thread nD τ), osem k) 0

omit [FloatOps F] in
theorem zeros_eq : Zeros (F := F) c
    = iprop((bigSep (Finset.Ico 8 10) fun i => semVal (dmaC c (wdS (hb i))) 0) ∗ (bigSep (Finset.Ico 0 32) fun e => semVal (dmaC c (sndS (rot c e))) 0)
      ∗ (bigSep (Finset.Ico 0 32) fun e => semVal (dmaC c (rcvS (dv e))) 0)
      ∗ (semVal (dmaC c (asnS c)) 0 ∗ bigSep (Finset.Ico 1 32) fun e => semVal (dmaC c (asnS (rot c e))) 0)
      ∗ (semVal (dmaC c (arcS c)) 0 ∗ bigSep (Finset.Ico 1 32) fun e => semVal (dmaC c (arcS (back c e))) 0)) := by
  have e₂ := fams fun i => (semVal (dmaC c i) 0 : sProp 𝕄)
  have e₃ := by_half 8 (Or.inr rfl) fun b => (semVal (dmaC c (wdS b)) 0 : sProp 𝕄)
  have e₄ := (enum_rot c).sep fun p => (semVal (dmaC c (sndS p)) 0 : sProp 𝕄)
  have e₄' := enum_dv.sep fun p => (semVal (dmaC c (rcvS p)) 0 : sProp 𝕄)
  have e₅ := others c (enum_rot c) (rot_zero c) fun p => (semVal (dmaC c (asnS p)) 0 : sProp 𝕄)
  have e₆ := others c (enum_back c) (back_zero c) fun p => (semVal (dmaC c (arcS p)) 0 : sProp 𝕄)
  rw [← e₃, ← e₄, ← e₄', ← e₅, ← e₆]
  exact e₂

/-- Where device `c` stands at the end. -/
def Last : sProp 𝕄 :=
  iprop((bigSep (Finset.Ico 8 10) fun i => atPos ER (dmaC c (wdS (hb i))) (i / 2) ∅ 0) ∗ (bigSep (Finset.Ico 0 32) fun e => atPos ER (dmaC c (sndS (rot c e))) 1 ∅ 0)
      ∗ (bigSep (Finset.Ico 0 32) fun e => atPos ER (dmaC c (rcvS (dv e))) 1 ∅ 0)
      ∗ (atPos ER (dmaC c (asnS c)) 0 ∅ 0 ∗ bigSep (Finset.Ico 1 32) fun e => atPos ER (dmaC c (asnS (rot c e))) 1 ∅ 0)
      ∗ (atPos ER (dmaC c (arcS c)) 0 ∅ 0 ∗ bigSep (Finset.Ico 1 32) fun e => atPos ER (dmaC c (arcS (back c e))) 1 ∅ 0))

theorem close_all : iprop(Env m K ∗ Last (F := F) c) ⊢ (|={Set.univ}=> Zeros c : sProp 𝕄) := by
  have h₁ := close_many m K c (Finset.Ico 8 10) (fun i => wdS (hb i)) (fun i => i / 2) (fun _ _ => wd_ge _)
    (fun i hi r hr => duties_wd_later m c _ r (by have := (Finset.mem_Ico.mp hi).1; omega))
  have h₂ := close_many m K c (Finset.Ico 0 32) (fun e => sndS (rot c e)) (fun _ => 1) (fun _ _ => snd_ge _)
    (fun e _ r hr => duties_later m _ (fun b => snd_ne_wd _ b) r hr)
  have h₃ := close_many m K c (Finset.Ico 0 32) (fun e => rcvS (dv e)) (fun _ => 1) (fun _ _ => rcv_ge _)
    (fun e _ r hr => duties_later m _ (fun b => rcv_ne_wd _ b) r hr)
  have h₄ := close_many m K c (Finset.Ico 1 32) (fun e => asnS (rot c e)) (fun _ => 1) (fun _ _ => asn_ge _)
    (fun e _ r hr => duties_later m _ (fun b => asn_ne_wd _ b) r hr)
  have h₅ := close_many m K c (Finset.Ico 1 32) (fun e => arcS (back c e)) (fun _ => 1) (fun _ _ => arc_ge _)
    (fun e _ r hr => duties_later m _ (fun b => arc_ne_wd _ b) r hr)
  have h₆ := close_one m K c (asnS c) (asn_ge _) 0 (fun r _ => duties_asn_self m c r)
  have h₇ := close_one m K c (arcS c) (arc_ge _) 0 (fun r _ => duties_arc_self m c r)
  rw [zeros_eq]
  unfold Last
  iintro ⟨#HE, H1, H2, H3, ⟨H6, H4⟩, ⟨H7, H5⟩⟩
  imod h₁ $$ [H1] with H1
  · isplitr; · iexact HE
    iexact H1
  imod h₂ $$ [H2] with H2
  · isplitr; · iexact HE
    iexact H2
  imod h₃ $$ [H3] with H3
  · isplitr; · iexact HE
    iexact H3
  imod h₄ $$ [H4] with H4
  · isplitr; · iexact HE
    iexact H4
  imod h₅ $$ [H5] with H5
  · isplitr; · iexact HE
    iexact H5
  imod h₆ $$ [H6] with H6
  · isplitr; · iexact HE
    iexact H6
  imod h₇ $$ [H7] with H7
  · isplitr; · iexact HE
    iexact H7
  imodintro
  isplitl [H1]; · iexact H1
  isplitl [H2]; · iexact H2
  isplitl [H3]; · iexact H3
  isplitl [H6 H4]
  · isplitl [H6]; · iexact H6
    iexact H4
  isplitl [H7]; · iexact H7
  iexact H5

/-! ## Joining the buffers -/

omit [FloatOps F] in
theorem fam_done (sm : ℕ → DmaSem sig) (n : ℕ) (P : ℕ → sProp 𝕄) (lo : ℕ) :
    Fam c sm n P lo 32 ⊢ iprop(bigSep (Finset.Ico lo 32) P ∗ bigSep (Finset.Ico lo 32) fun e => atPos ER (dmaC c (sm e)) 1 ∅ 0) := by
  unfold Fam
  rw [← both]
  iintro ⟨-, H⟩
  iexact H

/-- The table whole again: this device's share of all of it, the other shares of the tiles received, those of its own tile. -/
theorem join_am : iprop(Table m c ∗ (bigSep (Finset.Ico 1 32) fun e => bigSep (Finset.univ.erase c) fun p => amP m c (back c e) (shr p))
      ∗ bigSep (Finset.Ico 1 32) fun e => amP m c c (shr (rot c e)))
    ⊢ ownAny c cc0_scratch3 := by
  have e₁ : ((c : Thread nD τ).loc cc0_scratch3 ↦{fullShare} amG m : sProp 𝕄)
      = iprop((amP m c c (shr c) ∗ bigSep (Finset.univ.erase c) fun p => amP m c c (shr p))
        ∗ ((bigSep (Finset.Ico 1 32) fun e => amP m c (back c e) (shr c)) ∗ bigSep (Finset.Ico 1 32) fun e => bigSep (Finset.univ.erase c) fun p => amP m c (back c e) (shr p))) := by
    rw [table_slots m c fullShare, others c (enum_back c) (back_zero c), ← both, slot_shares m c c,
      bigSep_congr (s := Finset.Ico 1 32) fun e _ => slot_shares m c (back c e)]
  have e₂ : Table m c = iprop(amP m c c (shr c) ∗ bigSep (Finset.Ico 1 32) fun e => amP m c (back c e) (shr c)) :=
    (table_slots m c (shr c)).trans (others c (enum_back c) (back_zero c) fun q => amP m c q (shr c))
  have e₃ : (bigSep (Finset.univ.erase c) fun p => amP m c c (shr p)) = bigSep (Finset.Ico 1 32) fun e => amP m c c (shr (rot c e)) :=
    (enum_rot c).sep_erase (rot_zero c) fun p => amP m c c (shr p)
  rw [e₂]
  iintro ⟨⟨H1, H2⟩, H3, H4⟩
  iexists amG m
  iapply (Entails.of_eq e₁.symm)
  rw [e₃]
  isplitl [H1 H4]
  · isplitl [H1]; · iexact H1
    iexact H4
  isplitl [H2]; · iexact H2
  iexact H3

theorem halves_end : bigSep (Finset.Ico 8 10) (wHeld m c) ⊢ iprop(ownAny c cc0_scratch2 ∗ bigSep (Finset.Ico 8 10) fun i => atPos ER (dmaC c (wdS (hb i))) (i / 2) ∅ 0) := by
  have hj := join_wb (F := F) c
  rw [by_half 8 (Or.inr rfl)] at hj
  have h : bigSep (Finset.Ico 8 10) (wHeld m c) ⊢ bigSep (Finset.Ico 8 10) fun i => iprop(wbAny c (hb i) ∗ atPos ER (dmaC c (wdS (hb i))) (i / 2) ∅ 0) :=
    bigSep_mono fun i _ => (show wHeld m c i ⊢ iprop(wbAny c (hb i) ∗ atPos ER (dmaC c (wdS (hb i))) (i / 2) ∅ 0) by
      unfold wHeld wbAny
      iintro ⟨⟨%f, -, Hf⟩, Ha, -⟩
      isplitl [Hf]
      · iexists f; iexact Hf
      · iexact Ha)
  refine h.trans ?_
  rw [both]
  exact sep_mono_left hj

/-- What device `c` holds after the body, its staging buffers apart. -/
def Φ₁ : sProp 𝕄 := iprop(Scr c ∗ semVal (barC c) 0 ∗ Zeros c ∗ own c main_arg1 (wA m c))

theorem finish : iprop(Env m K ∗ WS m c 8 8 ∗ Finish m c)
    ⊢ (|={Set.univ}=> iprop(Φ₁ m c ∗ own c cc0_stg0_0 (xs m c) ∗ own c cc0_stg1_0 (outAt m c)) : sProp 𝕄) := by
  have hN := fam_done (F := F) c (fun e => asnS (rot c e)) NA (fun e => amP m c c (shr (rot c e))) 1
  have hR := fam_done (F := F) c (fun e => rcvS (dv e)) NX (fun e => stP m c (dv e)) 0
  have hS := fam_done (F := F) c (fun e => sndS (rot c e)) NX (fun e => xRowP m c (rot c e)) 0
  have eA : ArcRest m c = iprop((bigSep (Finset.Ico 1 32) fun e => bigSep (Finset.univ.erase c) fun p => amP m c (back c e) (shr p))
      ∗ bigSep (Finset.Ico 1 32) fun e => atPos ER (dmaC c (arcS (back c e))) 1 ∅ 0) := both _ _ _
  have hh := halves_end m c
  have ht := join_am m c
  have hst := join_st m c
  rw [enum_dv.sep fun p => stP m c p] at hst
  have hx : own c cc0_scratch0 (xb m c) = bigSep (Finset.Ico 0 32) fun e => xRowP m c (rot c e) := (xb_rows m c).trans ((enum_rot c).sep fun p => xRowP m c p)
  have hw := w_rows m c
  have hb := close_bar m K c
  have hc := close_all m K c
  unfold Finish FamN FamR FamS SelfK WS
  rw [eA]
  iintro ⟨#HE, ⟨-, -, Hh, Hw⟩, HN, ⟨⟨Hx, Hb, HR, ⟨HA, HA'⟩, HT, Ho⟩, HS⟩, ⟨Hn, Ha⟩⟩
  ihave HN := hN $$ HN
  ihave HR := hR $$ HR
  ihave HS := hS $$ HS
  ihave Hh := hh $$ Hh
  icases HN with ⟨HN, HN'⟩
  icases HR with ⟨HR, HR'⟩
  icases HS with ⟨HS, HS'⟩
  icases Hh with ⟨Hh, Hh'⟩
  imod hb $$ [Hb] with Hb
  · isplitr; · iexact HE
    iexact Hb
  imod hc $$ [Hh' HS' HR' Hn HN' Ha HA'] with Hz
  · isplitr; · iexact HE
    unfold Last
    isplitl [Hh']; · iexact Hh'
    isplitl [HS']; · iexact HS'
    isplitl [HR']; · iexact HR'
    isplitl [Hn HN']
    · isplitl [Hn]; · iexact Hn
      iexact HN'
    isplitl [Ha]; · iexact Ha
    iexact HA'
  imodintro
  isplitr [Hx Ho]
  · unfold Φ₁ Scr
    isplitr [Hb Hz Hw]
    · isplitl [HS]
      · iexists xb m c
        iapply (Entails.of_eq hx.symm); iexact HS
      isplitl [HR]; · iapply hst; iexact HR
      isplitl [Hh]; · iexact Hh
      iapply ht
      isplitl [HT]; · iexact HT
      isplitl [HA]; · iexact HA
      iexact HN
    isplitl [Hb]; · iexact Hb
    isplitl [Hz]; · iexact Hz
    iapply (Entails.of_eq hw.symm); iexact Hw
  isplitl [Hx]; · iexact Hx
  iexact Ho

end Close

end Cert.Exchange
end
-- ==== Proof.Launch.lean ====
/- The launch: the body as the pipeline's one point, the set-up of the devices, and the run of the whole program. -/
module

public import proofs.«01_k».proof.Proof.Close
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The start: these memories, no semaphore counted. -/
def s₀ : MemSt nD τ sig (Elt F) := ⟨m, fun _ => 0, ρ⟩

/-- What a device is launched with, its scratch buffers apart. -/
def Start (c : Dev nD) : sProp 𝕄 := iprop((∃ K, Env m K ∗ Lin c) ∗ Creds c ∗ own c main_arg1 (wA m c))
def Φ₀ (c : Dev nD) : sProp 𝕄 := iprop(Start m c ∗ Scr c)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetched (t : Fin cfg0.N) : (cfg0.win (0 : Fin 2)).fetch t = true := by rw [fin_N0 t]; rfl

/-- A buffer at contents given up to an equation. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def Pre (c : Dev nD) : sProp 𝕄 :=
  iprop(Φ₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))
def Post (c : Dev nD) : sProp 𝕄 :=
  iprop(Φ₁ m c ∗ (dats m 0 c).owesAt () t0_0.succ ∗ held c cc0_stg0_0 (xs m c) ∗ held c cc0_stg1_0 (outAt m c))

theorem before_x (c : Dev nD) (d) : (dats m 0 c).before (0 : Fin 2) t0_0 d = xs m c := by
  unfold Dat.before; rw [if_pos (fetched t0_0)]; rfl

theorem body_post (c : Dev nD) (K : Dev nD × Fin 131 → ℕ) :
    iprop(Env m K ∗ owesX c 0 ∗ WS m c 8 8 ∗ Finish m c) ⊢ iprop(|={Set.univ}=> Post m c) := by
  have hf := finish m K c
  unfold owesX
  iintro ⟨HE, ⟨%W, HO⟩, HW, HF⟩
  imod hf $$ [HE HW HF] with H
  · isplitl [HE]; · iexact HE
    isplitl [HW]; · iexact HW
    iexact HF
  icases H with ⟨H, Hx, Ho⟩
  imodintro
  unfold Post
  isplitl [H]; · iexact H
  isplitl [HO]
  · unfold Dat.owesAt Pipeline.owesWithin
    iexists W
    isplitr
    · ipureintro; exact fun _ _ => Or.inl trivial
    · iexact HO
  isplitl [Hx]
  · iexists xs m c
    isplitr
    · ipureintro; rfl
    · iexact Hx
  · iexists outAt m c
    isplitr
    · ipureintro; rfl
    · iexact Ho

theorem body_whole (c : Dev nD) :
    Pre m c ⊢ WP c (cc0_body (F := F) xM (Memref.isWhole_whole _) wM (Memref.isWhole_whole _) oM (Memref.isWhole_whole _) xbM (Memref.isWhole_whole _) stM (Memref.isWhole_whole _)
      wbM (Memref.isWhole_whole _) amM (Memref.isWhole_whole _) cc0_scratch4 cc0_scratch5 cc0_scratch6 cc0_scratch7 cc0_scratch8) (fun _ => Post m c) := by
  have he := fun K => entry m K c
  have hr := fun K => body_run m K c (Q := fun _ => Post m c) (body_post m c K)
  unfold Pre Φ₀ Start Dat.owesAt Pipeline.owesWithin
  iintro ⟨⟨⟨⟨%K, HE, HL⟩, HC, Hw⟩, HS⟩, ⟨%W, -, HO⟩, ⟨%d, ⟨%f, %hf, Hx⟩⟩, ⟨%d', ⟨%g, -, Ho⟩⟩⟩
  subst hf
  rw [before_x]
  ihave H := (he K) $$ [HE HL HC Hw HS Ho]
  · isplitl [HE]; · iexact HE
    isplitl [HL]; · iexact HL
    isplitl [HC]; · iexact HC
    isplitl [Hw]; · iexact Hw
    isplitl [HS]; · iexact HS
    iexists g; iexact Ho
  icases H with ⟨HE, HW, HB⟩
  iapply (hr K)
  isplitl [HE]; · iexact HE
  isplitl [HO]
  · unfold owesX
    iexists W; iexact HO
  isplitl [HW]; · iexact HW
  isplitl [Hx]; · iexact Hx
  isplitr [HB]
  · iempintro
  · iexact HB

set_option maxRecDepth 200000 in
theorem body_obligation (c : Dev nD) : BodyObligation (dats (F := F) m 0 c) (defs₀ (F := F)) 𝒱₀ () Set.univ := fun t => by
  have h := body_whole m c
  rw [fin_N0 t]
  rw [bigSep_W0, bigSep_W0]
  simp only [owns_whole]
  exact h

/-! ## The launch -/

theorem ownSemFacts : Pipeline.OwnSemFacts cfg0.spec osem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Start m c ∗ emp) := by
  have hc := creds (F := F) c
  have hu : (Pipeline.unscopedRestP Pipeline.Prefetch.none cfg0.spec c (fun b => m ((c : Thread nD τ).loc b)) : sProp 𝕄) ⊢ own c main_arg1 (wA m c) := by
    rw [Pipeline.unscopedRestP_none, unscopedRest0_eq]
    exact BI.Entails.refl _
  iintro ⟨Hw, Hlev, Hcr, -, HG⟩
  ihave Hc := hc $$ Hcr
  ihave Hw := hu $$ Hw
  imodintro
  unfold Start G' Creds
  icases HG with ⟨%K, HR, HL⟩
  isplitl
  · isplitl [HR HL Hlev]
    · iexists K
      isplitl [HR Hlev]
      · unfold Env Recs
        icases HR with ⟨H1, H2⟩
        isplitl [H1]; · iexact H1
        isplitl [H2]; · iexact H2
        iexact Hlev
      · iexact HL
    isplitl [Hc]; · iexact Hc
    iexact Hw
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Scr
  iintro ⟨Hs, -, Hr⟩
  isplitl [Hs]; · iexact Hs
  iexact Hr

/-- What a device holds past the region: its barrier cell at zero, the replicated operand as it was. -/
def Past (c : Dev nD) : sProp 𝕄 := iprop(unscopedSems0 c ∗ own c main_arg1 (wA m c))

theorem phi1_exit (c : Dev nD) :
    (dats m 0 c).Φ (Fin.last cfg0.N) ⊢ iprop(Past m c ∗ Pipeline.ownSems0 osem c ∗ Pipeline.scopedRest cfg0.spec c) := by
  rw [show (dats m 0 c).Φ (Fin.last cfg0.N) = Φ₁ m c from rfl, scopedRest0_eq, ownSems0_eq]
  unfold Φ₁ Scr Zeros Past
  rw [unscopedSems0_eq]
  iintro ⟨Hr, Hb, Hz, Hw⟩
  isplitl [Hb Hw]
  · isplitl [Hb]; · iexact Hb
    iexact Hw
  isplitl [Hz]; · iexact Hz
  iexact Hr

theorem above_start (c : Dev nD) : Above 0 (O₀ c) :=
  (((above_arc c 1).mono (by decide)).add ((above_rcv c 0).mono (by decide))).add (above_bar c 1)

theorem waits (c : Dev nD) : (levAts L lv : sProp 𝕄) ⊢ Pipeline.cellsWaits cfgs (dats m) () 0 c :=
  Pipeline.cellsWaits_intro cfgs (dats m) () 0 c fun w s t => may_wait c _ (by
    have e : lvS (.dma (((cfgs 0).win w).sem s)) = 0 := by fin_cases w <;> fin_cases s <;> decide +kernel
    rw [e]
    rcases t with ⟨_ | _, ht⟩
    · exact above_start c
    · exact above_zero 0)

/-! ## The run -/

/-- Every array as it ends. -/
def finalA (c : Dev nD) (w : Fin cfg0.W) : Buf (Elt F) ((cfg0.win w).arr.view.loc (c : Thread nD τ)) := (dats m 0 c).arrAt w cfg0.N

def Ends (r : PUnit × MemSt nD τ sig (Elt F)) : Prop :=
  (∀ c : Dev nD, ∀ w : Fin cfg0.W, r.2.mem ((cfg0.win w).arr.view.loc (c : Thread nD τ)) = finalA m c w)
    ∧ (∀ c : Dev nD, r.2.mem ((c : Thread nD τ).loc main_arg1) = m ((c : Thread nD τ).loc main_arg1))
    ∧ r.2.sem = fun _ => 0

set_option maxRecDepth 200000 in
/-- From any memory with no semaphore counted, every weakly fair execution on the 32 devices ends, each device's arrays at
    the contents computed, its operands unchanged, and every semaphore at zero. -/
theorem run_main : θ_run defs (onTc (τ := τ) (main (F := F))) (s₀ m ρ) (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := Start m) (Y := Past m) (Z := fun _ => iprop(emp))
    (hX := start_intro m ρ) (hin := phi0_intro m) (hout := phi1_exit m)
    (QY := fun c s => s.mem ((c : Thread nD τ).loc main_arg1) = m ((c : Thread nD τ).loc main_arg1) ∧ s.sem (barC c) = 0)
    (hY := fun c s' => by
      unfold Past
      rw [unscopedSems0_eq]
      iintro ⟨⟨Hb, Hw⟩, -, HSI⟩
      icombine HSI Hw gives %hw
      icombine HSI Hb gives %hb
      imodintro
      isplitr
      · ipureintro
        exact ⟨Buf.eq_of_forall_mem_univ hw, by simpa using hb⟩
      · iexact HSI)
    (hQ := fun s h hs => ⟨fun c w => (h c).1 w, fun c => (h c).2.2.1, sem_eq_zero hs fun c sm hsm => by
      obtain rfl : sm = .reg barS := by revert sm; decide +kernel
      exact (h c).2.2.2⟩)

/-- The sharded operand after the run holds what it held. -/
theorem finalA_x (c : Dev nD) : finalA m c (0 : Fin 2) = m (win0_0.arr.view.loc (c : Thread nD τ)) :=
  (dats (F := F) m 0 c).arrAt_in (0 : Fin 2) rfl _

end Cert.Exchange
end
-- ==== Proof.Reads.lean ====
/- What the exchange's contents read at an index, over the extended reals: the staged operand, the staging slots, the
   double buffer's halves, the product accumulated chunk by chunk, and the result array after the run. -/
module

public import proofs.«01_k».proof.Proof.Launch
public import Idealize.ShloMosaic.Lib.Layout
public import Idealize.ShloMosaic.Lib.ViewIndex
public import Idealize.ShloMosaic.Lib.Pointwise
public import Idealize.ShloMosaic.Lib.Pipeline.ValueKit

@[expose] public section

set_option maxRecDepth 16384

noncomputable section

namespace Cert.Exchange

open Cert.KernelIdeal Cert.KernelIdeal.Gen
open Idealize.ShloMosaic
open Idealize.ShloMosaic.TcCoe
open Idealize.ShloMosaic.Pipeline (Dat)

section
variable {F : FTy → Type} [FloatOps F]
variable (m : (ℓ : Loc nD τ sig) → Buf (Elt F) ℓ)

/-- The result array after the run is what the one point leaves. -/
theorem finalA_out (c : Dev nD) : finalA m c (1 : Fin 2) = outAt m c := by
  refine (dats m 0 c).arrAt_eq_of_after_last (1 : Fin cfg0.W) t0_0 (by decide +kernel) _ fun j => ?_
  blk_simp
  rfl

/-- The staged block of the sharded operand is the operand. -/
theorem xs_eq (c : Dev nD) : xs m c = m ((c : Thread nD τ).loc main_arg0) := by
  have e0 : win0_0.index (0 : Fin 1) 0 = 0 := by decide +kernel
  have e1 : win0_0.index (0 : Fin 1) 1 = 0 := by decide +kernel
  funext y
  unfold xs
  blk_point [e0, e1]

theorem drop_slot (r l : Fin 128) :
    Shape.reshapeEquiv (squeezes_S1x128x128_S128x128).numel_eq (ix2 r l : S128x128.Idx) = (ix3 (0 : Fin 1) r l : S1x128x128.Idx) := by
  pointwise

theorem drop_half (k : Fin 512) (n : Fin 2048) :
    Shape.reshapeEquiv (squeezes_S1x512x2048_S512x2048).numel_eq (ix2 k n : S512x2048.Idx) = (ix3 (0 : Fin 1) k n : S1x512x2048.Idx) := by
  pointwise

/-- A staging slot, loaded, is the sender's row block. -/
theorem stLd_apply (c q : Dev nD) (r l : Fin 128) (R : Fin 4096) (hR : R.val = 128 * c.val + r.val) :
    stLd m c q (ix3 (0 : Fin 1) r l) = xb m q (ix2 R l) := by
  have h := View.read_write_reshape (stM.slice (rS q) (fun _ => rfl)).view (squeezes_S1x128x128_S128x128).numel_eq (m ((c : Thread nD τ).loc cc0_scratch1))
    ((xRow c).view.read (Elt F) (xb m q)) (ix2 r l)
  rw [drop_slot] at h
  refine Eq.trans h (congrArg (xb m q) (funext fun a => Fin.ext ?_))
  match a with
  | ⟨0, _⟩ => show 128 * c.val + 1 * r.val = R.val; omega
  | ⟨1, _⟩ => show 0 + 1 * l.val = l.val; omega

/-- A half of the double buffer, loaded, is the chunk's rows. -/
theorem wLd_apply (c : Dev nD) (j : ℕ) (k : Fin 512) (n : Fin 2048) (K : Fin 4096) (hK : K.val = 512 * (cj j).val + k.val) :
    wLd m c j (ix3 (0 : Fin 1) k n) = wA m c (ix2 K n) := by
  have h := View.read_write_reshape (wbM.slice (rB (hb j)) (fun _ => rfl)).view (squeezes_S1x512x2048_S512x2048).numel_eq (m ((c : Thread nD τ).loc cc0_scratch2))
    ((wRow (cj j)).view.read (Elt F) (wA m c)) (ix2 k n)
  rw [drop_half] at h
  refine Eq.trans h (congrArg (wA m c) (funext fun a => Fin.ext ?_))
  match a with
  | ⟨0, _⟩ => show 512 * (cj j).val + 1 * k.val = K.val; omega
  | ⟨1, _⟩ => show 0 + 1 * n.val = n.val; omega

end

/-! ## Over the extended reals -/

variable (m : (ℓ : Loc nD τ sig) → Buf (Elt Ideal) ℓ)

theorem xb_apply (q : Dev nD) (j : S4096x128.Idx) : xb m q j = m ((q : Thread nD τ).loc main_arg0) j := by
  rw [← xs_eq m q]
  unfold xb
  pointwise [k0_pay1]

/-- One chunk's share of an entry of the product: the four slots' columns side by side against the chunk's rows. -/
theorem pay3_apply (y : FVec Ideal S128x2048 .f32) (a0 a1 a2 a3 : Vec Ideal S1x128x128 .bf16) (w : Vec Ideal S1x512x2048 .f32) (r : Fin 128) (n : Fin 2048)
    (g : Fin 512 → EReal)
    (h0 : ∀ (x : Fin 512) (l : Fin 128), x.val = l.val → a0 (ix3 (0 : Fin 1) r l) * w (ix3 (0 : Fin 1) x n) = g x)
    (h1 : ∀ (x : Fin 512) (l : Fin 128), x.val = 128 + l.val → a1 (ix3 (0 : Fin 1) r l) * w (ix3 (0 : Fin 1) x n) = g x)
    (h2 : ∀ (x : Fin 512) (l : Fin 128), x.val = 256 + l.val → a2 (ix3 (0 : Fin 1) r l) * w (ix3 (0 : Fin 1) x n) = g x)
    (h3 : ∀ (x : Fin 512) (l : Fin 128), x.val = 384 + l.val → a3 (ix3 (0 : Fin 1) r l) * w (ix3 (0 : Fin 1) x n) = g x) :
    k0_pay3 y a0 a1 a2 a3 w (ix2 r n) = y (ix2 r n) + ∑ x : Fin 512, g x := by
  pointwise [k0_pay3]
  refine congrArg (y (ix2 r n) + ·) (Finset.sum_congr rfl fun x _ => ?_)
  split
  · exact h0 x _ rfl
  · split
    · exact h1 x _ (by show x.val = 128 + (x.val - 128); omega)
    · split
      · exact h2 x _ (by show x.val = 256 + (x.val - 128 - 128); omega)
      · exact h3 x _ (by show x.val = 384 + (x.val - 128 - 128 - 128); omega)

variable (X : (⟨2, ![4096, 4096]⟩ : Shape).Idx → EReal) (W : S4096x2048.Idx → EReal)

/-- The memories hold the devices' column blocks of `X` and copies of `W`. -/
def Given : Prop :=
  (∀ c : Dev nD, m ((c : Thread nD τ).loc main_arg0) = Layout.block ⟨2, ![4096, 128]⟩ ⟨2, ![4096, 4096]⟩ 1 32 c X)
    ∧ ∀ c : Dev nD, m ((c : Thread nD τ).loc main_arg1) = W

/-- Term `k` of entry `(R, n)` of the product of `X` and `W`. -/
def term (R : Fin 4096) (n : Fin 2048) (k : ℕ) : EReal := if h : k < 4096 then X (ix2 R ⟨k, h⟩) * W (ix2 ⟨k, h⟩ n) else 0

variable {m X W}

theorem shard_apply (hg : Given m X W) (q : Dev nD) (R : Fin 4096) (l : Fin 128) (K : Fin 4096) (hK : K.val = 128 * q.val + l.val) :
    m ((q : Thread nD τ).loc main_arg0) (ix2 R l) = X (ix2 R K) := by
  rw [hg.1 q]
  refine congrArg X (funext fun a => Fin.ext ?_)
  match a with
  | ⟨0, _⟩ => rfl
  | ⟨1, _⟩ => show q.val * 128 + l.val = K.val; omega

/-- Entry `l` of row `r` of slot `q` against row `x` of chunk `j` is the term at column `128 q + l`. -/
theorem slot_term (hg : Given m X W) (c : Dev nD) (r : Fin 128) (n : Fin 2048) (R : Fin 4096) (hR : R.val = 128 * c.val + r.val)
    (j : ℕ) (hj : j < 8) (t : ℕ) (ht : t < 4) (x : Fin 512) (l : Fin 128) (hx : x.val = 128 * t + l.val) :
    stLd m c (dv (4 * j + t)) (ix3 (0 : Fin 1) r l) * wLd m c j (ix3 (0 : Fin 1) x n) = term X W R n (512 * j + x.val) := by
  have hxl := x.isLt
  have hk : 512 * j + x.val < 4096 := by omega
  have hq : (dv (4 * j + t)).val = 4 * j + t := by show (4 * j + t) % 32 = _; omega
  have hc : (cj j).val = j := by show j % 8 = j; omega
  unfold term
  rw [dif_pos hk, stLd_apply m c _ r l R hR, xb_apply, shard_apply hg _ R l ⟨512 * j + x.val, hk⟩ (by rw [hq]; show 512 * j + x.val = _; omega),
    wLd_apply m c j x n ⟨512 * j + x.val, hk⟩ (by rw [hc])]
  unfold wA
  rw [hg.2 c]

/-- The accumulated product over the first `j` chunks is the sum of the first `512 j` terms. -/
theorem yAcc_apply (hg : Given m X W) (c : Dev nD) (r : Fin 128) (n : Fin 2048) (R : Fin 4096) (hR : R.val = 128 * c.val + r.val) :
    ∀ j : ℕ, j ≤ 8 → yAcc m c j (ix2 r n) = ∑ k ∈ Finset.range (512 * j), term X W R n k
  | 0, _ => by
    unfold yAcc
    pointwise [k0_pay2]
    simp
  | j + 1, hj => by
    unfold yAcc
    refine (pay3_apply _ _ _ _ _ _ r n (fun x => term X W R n (512 * j + x.val))
      (fun x l h => slot_term hg c r n R hR j (by omega) 0 (by omega) x l (by omega))
      (fun x l h => slot_term hg c r n R hR j (by omega) 1 (by omega) x l (by omega))
      (fun x l h => slot_term hg c r n R hR j (by omega) 2 (by omega) x l (by omega))
      (fun x l h => slot_term hg c r n R hR j (by omega) 3 (by omega) x l (by omega))).trans ?_
    rw [yAcc_apply hg c r n R hR j (by omega), Nat.mul_succ, Finset.sum_range_add, Finset.sum_range (fun x => term X W R n (512 * j + x))]

end Cert.Exchange
end
-- ==== Proof.Values.lean ====
/- The exchange's result against the reference's, over the extended reals: the largest of the devices' largest absolute
   values is the largest absolute value of the whole product, and each device's rows of the quantised product are its
   block of the reference's. -/
module

public import proofs.«01_k».proof.Proof.Reads
public import proofs.«01_k».proof.Proof.Gen.ReferenceIdeal.Run

@[expose] public section

set_option maxRecDepth 16384

noncomputable section

namespace Cert.Exchange

open Idealize.ShloMosaic
open Idealize.ShloMosaic.TcCoe

/-- The word of minus infinity, of 127 and of -127 as extended reals. -/
abbrev lowest : EReal := Ideal.ofBits .f32 0xFF800000#32
abbrev hi127 : EReal := Ideal.ofBits .f32 0x42FE0000#32
abbrev lo127 : EReal := Ideal.ofBits .f32 0xC2FE0000#32

/-- An entry quantised to 8 bits at the scale of the largest absolute value `a`, and multiplied back. -/
def quant (a y : EReal) : EReal :=
  min hi127 (max lo127 (Ideal.liftRound Ideal.roundHalfEven (Ideal.div y (Ideal.div a hi127)))) * Ideal.div a hi127

/-- An entry of the product. -/
def prod (X : (⟨2, ![4096, 4096]⟩ : Shape).Idx → EReal) (W : (⟨2, ![4096, 2048]⟩ : Shape).Idx → EReal) (R : Fin 4096) (n : Fin 2048) : EReal :=
  ∑ k : Fin 4096, X (ix2 R k) * W (ix2 k n)

theorem sum_term (X : (⟨2, ![4096, 4096]⟩ : Shape).Idx → EReal) (W : (⟨2, ![4096, 2048]⟩ : Shape).Idx → EReal) (R : Fin 4096) (n : Fin 2048) :
    ∑ k ∈ Finset.range (512 * 8), term X W R n k = prod X W R n := by
  rw [Finset.sum_range]
  refine Finset.sum_congr rfl fun k _ => ?_
  unfold term
  rw [dif_pos k.isLt]

/-! ## The reference -/

namespace Whole
open Cert.ReferenceIdeal Cert.ReferenceIdeal.Gen

variable (X : FVec Ideal S4096x4096 .f32) (W : FVec Ideal S4096x2048 .f32)

abbrev yR : FVec Ideal S4096x2048 .f32 := Host.dotGeneral dot_S4096x4096_S4096x2048_S4096x2048_1_0_0_1_n_n none X W
abbrev aR : FVec Ideal S_ .f32 := Host.reduce FloatOps.maximumf (Host.absf (yR X W)) (constant S_ .f32 0xFF800000#32) reducesTo_S4096x2048_S_d0_1 h_S_
abbrev sR : FVec Ideal S4096x2048 .f32 := broadcastInDim S4096x2048 ![] bcast_S_S4096x2048 (Host.divf (aR X W) (constant S_ .f32 0x42FE0000#32))

/-- The reference's result. -/
def refOut : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32))) (Host.roundeven (Host.divf (yR X W) (sR X W))))) (sR X W)

/-- The largest absolute value of the product. -/
def amax : EReal := aR X W ix0

theorem amax_le (z : EReal) : amax X W ≤ z ↔ lowest ≤ z ∧ ∀ R n, FloatOps.absf (F := Ideal) (φ := .f32) (prod X W R n) ≤ z := by
  unfold amax aR
  pointwise
  rw [Finset.fold_max_le]
  refine and_congr Iff.rfl ⟨fun h R n => h (R, n) (by simp), fun h x _ => h x.1 x.2⟩

theorem refOut_apply (R : Fin 4096) (n : Fin 2048) : refOut X W (ix2 R n) = quant (amax X W) (prod X W R n) := by
  have h : aR X W ix0 = amax X W := rfl
  unfold refOut quant sR prod
  generalize aR X W = a at h ⊢
  pointwise
  rw [h]
  rfl

end Whole

/-! ## The devices -/

section
open Cert.KernelIdeal Cert.KernelIdeal.Gen

variable {m : (ℓ : Loc nD τ sig) → Buf (Elt Ideal) ℓ} {X : (⟨2, ![4096, 4096]⟩ : Shape).Idx → EReal} {W : (⟨2, ![4096, 2048]⟩ : Shape).Idx → EReal}

theorem rows_apply (hg : Given m X W) (c : Dev nD) (r : Fin 128) (n : Fin 2048) (R : Fin 4096) (hR : R.val = 128 * c.val + r.val) :
    yAcc m c 8 (ix2 r n) = prod X W R n :=
  (yAcc_apply hg c r n R hR 8 le_rfl).trans (sum_term X W R n)

theorem lmx_le (q : Dev nD) (i : S1x8x128.Idx) (z : EReal) :
    lmx m q i ≤ z ↔ lowest ≤ z ∧ ∀ r n, FloatOps.absf (F := Ideal) (φ := .f32) (yAcc m q 8 (ix2 r n)) ≤ z := by
  have h : k0_pay20 (yAcc m q 7) (k0_pay17 (stLd m q (dv 28))) (k0_pay18 (stLd m q (dv 29))) (k0_pay19 (stLd m q (dv 30))) (stLd m q (dv 31)) (wLd m q 7)
      = yAcc m q 8 := rfl
  unfold lmx
  pointwise [k0_pay21]
  rw [h, Finset.fold_max_le]
  exact and_congr Iff.rfl ⟨fun h r n => h (r, n) (Finset.mem_univ _), fun h x _ => h x.1 x.2⟩

theorem exists_row (R : Fin 4096) : ∃ (c : Dev nD) (r : Fin 128), R.val = 128 * c.val + r.val :=
  ⟨⟨R.val / 128, by have := R.isLt; show _ < 32; omega⟩, ⟨R.val % 128, Nat.mod_lt _ (by decide)⟩, (Nat.div_add_mod _ _).symm⟩

theorem one_idx (i : S1.Idx) : i = ix1 (0 : Fin 1) := by
  funext a
  apply Fin.ext
  match a with
  | ⟨0, _⟩ =>
    have h : (i 0).val < 1 := (i 0).isLt
    show (i 0).val = 0
    omega

/-- The largest entry of the table of maxima is the largest absolute value of the whole product. -/
theorem table_le (hg : Given m X W) (z : EReal) :
    (lowest ≤ z ∧ ∀ (q : Fin 32) (s : Fin 8) (l : Fin 128), @LE.le EReal _ (amG m (ix3 q s l)) z) ↔ Whole.amax X W ≤ z := by
  rw [Whole.amax_le]
  refine and_congr_right fun hz => ⟨fun h R n => ?_, fun h q s l => ?_⟩
  · obtain ⟨c, r, hR⟩ := exists_row R
    rw [← rows_apply hg c r n R hR]
    exact ((lmx_le c _ z).mp (h c 0 0)).2 r n
  · refine (lmx_le q _ z).mpr ⟨hz, fun r n => ?_⟩
    have hr := r.isLt
    have hq := q.isLt
    rw [rows_apply hg q r n ⟨128 * q.val + r.val, by omega⟩ rfl]
    exact h _ n

theorem outAt_apply (hg : Given m X W) (c : Dev nD) (r : Fin 128) (n : Fin 2048) (R : Fin 4096) (hR : R.val = 128 * c.val + r.val) :
    outAt m c (ix2 r n) = Whole.refOut X W (ix2 R n) := by
  rw [Whole.refOut_apply]
  unfold outAt
  pointwise [k0_pay22]
  rw [rows_apply hg c r n R hR]
  refine Eq.trans (b := quant _ _) rfl (congrArg (fun a => quant a (prod X W R n)) (eq_of_forall_ge_iff fun z => ?_))
  rw [Finset.fold_max_le, ← table_le hg]
  exact and_congr Iff.rfl ⟨fun h q s l => h (ix4 (0 : Fin 1) q s l) (Finset.mem_filter.mpr ⟨Finset.mem_univ _, one_idx _⟩), fun h x _ => h (x 1) (x 2) (x 3)⟩

/-- Each device's result is its block of rows of the reference's. -/
theorem outAt_block (hg : Given m X W) (c : Dev nD) :
    outAt m c = Layout.block ⟨2, ![128, 2048]⟩ ⟨2, ![4096, 2048]⟩ 0 32 c (Whole.refOut X W) := by
  funext j
  obtain ⟨r, n, rfl⟩ : ∃ (r : Fin 128) (n : Fin 2048), j = ix2 r n := ⟨j 0, j 1, eq_ix2 j⟩
  have hc := c.isLt
  have hr := r.isLt
  refine (outAt_apply hg c r n ⟨128 * c.val + r.val, by change c.val < 32 at hc; omega⟩ rfl).trans ?_
  refine congrArg (Whole.refOut X W) (funext fun a => Fin.ext ?_)
  match a with
  | ⟨0, _⟩ => show 128 * c.val + r.val = c.val * 128 + r.val; omega
  | ⟨1, _⟩ => rfl

end

end Cert.Exchange
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem Idealize.ShloMosaic.TcCoe

/-- The run with its values dropped: the arguments as they were, every semaphore at zero. -/
theorem frame_run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c (0 : Fin 2)).trans (Cert.Exchange.finalA_x m c), h.2.1 c⟩, h.2.2⟩) (Cert.Exchange.run_main m g)

set_option maxRecDepth 200000 in
/-- The two programs' launches have the same body. -/
theorem bodies_eq : Cert.Kernel.defs₀ (F := Bits) = Cert.KernelIdeal.defs₀ (F := Bits) := by
  refine congrArg Defs.onTc (funext fun l => funext fun a => ?_)
  obtain rfl : l = 0 := Subsingleton.elim _ _
  rfl

set_option maxRecDepth 200000 in
/-- So the two programs' tables are the same. -/
theorem tables_eq : Cert.Kernel.defs (F := Bits) = Cert.KernelIdeal.defs (F := Bits) :=
  congrArg (Pipeline.defs Cert.KernelIdeal.pcfgs) bodies_eq

theorem frame_kernel : Cert.quiescent_Kernel (hKernel := Cert.Kernel.Gen.facts) := by
  intro m g _
  have h := frame_run (F := Bits) m g
  rw [← tables_eq] at h
  exact h

theorem frame_kernelIdeal : Cert.quiescent_KernelIdeal (hKernelIdeal := Cert.KernelIdeal.Gen.facts) := fun m g _ => frame_run (F := Ideal) m g

/-- The reference's semaphores: it has none. -/
theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩) (Cert.ReferenceIdeal.Value.run m g)

theorem same_values : Cert.algebraic_KernelIdeal_ReferenceIdeal (hKernelIdeal := Cert.KernelIdeal.Gen.facts) (hReferenceIdeal := Cert.ReferenceIdeal.Gen.facts) := by
  intro m g m' g' _ hargs
  have hg : Cert.Exchange.Given m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hargs c).1, fun c => (hargs c).2⟩
  refine ⟨Cert.Exchange.Whole.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c =>
      ⟨((h.1 c (1 : Fin 2)).trans (Cert.Exchange.finalA_out m c)).trans (Cert.Exchange.outAt_block hg c),
        (h.1 c (0 : Fin 2)).trans (Cert.Exchange.finalA_x m c), h.2.1 c⟩) (Cert.Exchange.run_main m g)
  · exact (θ_run Cert.ReferenceIdeal.defs _ _).mono (fun _ h => h 0) (Cert.ReferenceIdeal.Value.run m' g')

theorem claim : Cert.Claim := ⟨Cert.Kernel.Gen.facts, Cert.KernelIdeal.Gen.facts, Cert.ReferenceIdeal.Gen.facts,
  frame_kernel, frame_kernelIdeal, frame_reference, trivial, same_values⟩

end Cert.Proof

end
